-- ==== Defs.lean ====
def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffRefIdeal (m : (ℓ : Loc Cert.DiffRefIdeal.nD Cert.DiffRefIdeal.τ Cert.DiffRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Kmean (m : (ℓ : Loc Cert.Kmean.nD Cert.Kmean.τ Cert.Kmean.sig) → Buf (Elt Bits) ℓ) : Prop :=
  True

def Pre_KmeanIdeal (m : (ℓ : Loc Cert.KmeanIdeal.nD Cert.KmeanIdeal.τ Cert.KmeanIdeal.sig) → Buf (Elt Ideal) ℓ) : Prop :=
  True

def Pre_KmeanRefIdeal (m : (ℓ : Loc Cert.KmeanRefIdeal.nD Cert.KmeanRefIdeal.τ Cert.KmeanRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_inputs [hPre_finite_inputs : Cert.Pre_finite_inputs.Facts] (m : (ℓ : Loc Cert.GateIdeal.nD Cert.GateIdeal.τ Cert.GateIdeal.sig) → Buf (Elt Ideal) ℓ) : Prop :=
  ∀ c : Dev Cert.GateIdeal.nD,
    (Cert.Pre_finite_inputs.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1))).1 = (fun _ => 1#1)
    ∧ (Cert.Pre_finite_inputs.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1))).2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_inputs [hPre_finite_inputs : Cert.Pre_finite_inputs.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_inputs.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1))).1 = (fun _ => 1#1)
    ∧ (Cert.Pre_finite_inputs.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1))).2 = (fun _ => 1#1)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_Kmean [hKmean : Cert.Kmean.Facts] : Prop :=
  ∀ (m : (ℓ : Loc Cert.Kmean.nD Cert.Kmean.τ Cert.Kmean.sig) → Buf (Elt Bits) ℓ) (g : Dev Cert.Kmean.nD → PrngReg), Pre_Kmean m →
    θ_run (Cert.Kmean.defs (F := Bits)) (onTc (τ := Cert.Kmean.τ) (Cert.Kmean.main (F := Bits))) ⟨m, fun _ => 0, g⟩ (fun r => (∀ c : Dev Cert.Kmean.nD,
      r.2.mem ((c.tc : Thread Cert.Kmean.nD Cert.Kmean.τ).loc Cert.Kmean.main_arg0) = m ((c.tc : Thread Cert.Kmean.nD Cert.Kmean.τ).loc Cert.Kmean.main_arg0))
      ∧ r.2.sem = fun _ => 0)

def quiescent_KmeanIdeal [hKmeanIdeal : Cert.KmeanIdeal.Facts] : Prop :=
  ∀ (m : (ℓ : Loc Cert.KmeanIdeal.nD Cert.KmeanIdeal.τ Cert.KmeanIdeal.sig) → Buf (Elt Ideal) ℓ) (g : Dev Cert.KmeanIdeal.nD → PrngReg), Pre_KmeanIdeal m →
    θ_run (Cert.KmeanIdeal.defs (F := Ideal)) (onTc (τ := Cert.KmeanIdeal.τ) (Cert.KmeanIdeal.main (F := Ideal))) ⟨m, fun _ => 0, g⟩ (fun r => (∀ c : Dev Cert.KmeanIdeal.nD,
      r.2.mem ((c.tc : Thread Cert.KmeanIdeal.nD Cert.KmeanIdeal.τ).loc Cert.KmeanIdeal.main_arg0) = m ((c.tc : Thread Cert.KmeanIdeal.nD Cert.KmeanIdeal.τ).loc Cert.KmeanIdeal.main_arg0))
      ∧ r.2.sem = fun _ => 0)

def quiescent_KmeanRefIdeal [hKmeanRefIdeal : Cert.KmeanRefIdeal.Facts] : Prop :=
  ∀ (m : (ℓ : Loc Cert.KmeanRefIdeal.nD Cert.KmeanRefIdeal.τ Cert.KmeanRefIdeal.sig) → Buf (Elt Ideal) ℓ) (g : Dev Cert.KmeanRefIdeal.nD → PrngReg), Pre_KmeanRefIdeal m →
    θ_run (Cert.KmeanRefIdeal.defs (F := Ideal)) (onTc (τ := Cert.KmeanRefIdeal.τ) (Cert.KmeanRefIdeal.main (F := Ideal))) ⟨m, fun _ => 0, g⟩ (fun r => (∀ c : Dev Cert.KmeanRefIdeal.nD,
      r.2.mem ((c.tc : Thread Cert.KmeanRefIdeal.nD Cert.KmeanRefIdeal.τ).loc Cert.KmeanRefIdeal.main_arg0) = m ((c.tc : Thread Cert.KmeanRefIdeal.nD Cert.KmeanRefIdeal.τ).loc Cert.KmeanRefIdeal.main_arg0))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateIdeal_pre_finite_inputs [hGateIdeal : Cert.GateIdeal.Facts] [hPre_finite_inputs : Cert.Pre_finite_inputs.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_inputs m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_GateRefIdeal_pre_finite_inputs [hGateRefIdeal : Cert.GateRefIdeal.Facts] [hPre_finite_inputs : Cert.Pre_finite_inputs.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_inputs m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def preserves_Diff_DiffIdeal : Prop :=
  True

def algebraic_DiffIdeal_DiffRefIdeal [hDiffIdeal : Cert.DiffIdeal.Facts] [hDiffRefIdeal : Cert.DiffRefIdeal.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)) →
    ∃ (v0 : (c : Dev Cert.DiffIdeal.nD) → Buf (Elt Ideal) ((c.tc : Thread Cert.DiffIdeal.nD Cert.DiffIdeal.τ).loc Cert.DiffIdeal.main_v10)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v10) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v89) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v7) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)) →
    ∃ (v0 : (c : Dev Cert.OprojIdeal.nD) → Buf (Elt Ideal) ((c.tc : Thread Cert.OprojIdeal.nD Cert.OprojIdeal.τ).loc Cert.OprojIdeal.main_v4_0)) (v1 : (c : Dev Cert.OprojIdeal.nD) → Buf (Elt Ideal) ((c.tc : Thread Cert.OprojIdeal.nD Cert.OprojIdeal.τ).loc Cert.OprojIdeal.main_v4_1)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v4_0) = v0 c
          ∧ r.2.mem ((c.tc : Thread Cert.OprojIdeal.nD Cert.OprojIdeal.τ).loc Cert.OprojIdeal.main_v4_1) = v1 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v5) = v0 c
          ∧ r.2.mem ((c.tc : Thread Cert.OprojRefIdeal.nD Cert.OprojRefIdeal.τ).loc Cert.OprojRefIdeal.main_v20) = v1 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v43_0)) (v1 : (c : Dev Cert.ProjIdeal.nD) → Buf (Elt Ideal) ((c.tc : Thread Cert.ProjIdeal.nD Cert.ProjIdeal.τ).loc Cert.ProjIdeal.main_v43_1)) (v2 : (c : Dev Cert.ProjIdeal.nD) → Buf (Elt Ideal) ((c.tc : Thread Cert.ProjIdeal.nD Cert.ProjIdeal.τ).loc Cert.ProjIdeal.main_v43_2)) (v3 : (c : Dev Cert.ProjIdeal.nD) → Buf (Elt Ideal) ((c.tc : Thread Cert.ProjIdeal.nD Cert.ProjIdeal.τ).loc Cert.ProjIdeal.main_v43_3)) (v4 : (c : Dev Cert.ProjIdeal.nD) → Buf (Elt Ideal) ((c.tc : Thread Cert.ProjIdeal.nD Cert.ProjIdeal.τ).loc Cert.ProjIdeal.main_v43_4)) (v5 : (c : Dev Cert.ProjIdeal.nD) → Buf (Elt Ideal) ((c.tc : Thread Cert.ProjIdeal.nD Cert.ProjIdeal.τ).loc Cert.ProjIdeal.main_v43_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v43_0) = v0 c
          ∧ r.2.mem ((c.tc : Thread Cert.ProjIdeal.nD Cert.ProjIdeal.τ).loc Cert.ProjIdeal.main_v43_1) = v1 c
          ∧ r.2.mem ((c.tc : Thread Cert.ProjIdeal.nD Cert.ProjIdeal.τ).loc Cert.ProjIdeal.main_v43_2) = v2 c
          ∧ r.2.mem ((c.tc : Thread Cert.ProjIdeal.nD Cert.ProjIdeal.τ).loc Cert.ProjIdeal.main_v43_3) = v3 c
          ∧ r.2.mem ((c.tc : Thread Cert.ProjIdeal.nD Cert.ProjIdeal.τ).loc Cert.ProjIdeal.main_v43_4) = v4 c
          ∧ r.2.mem ((c.tc : Thread Cert.ProjIdeal.nD Cert.ProjIdeal.τ).loc Cert.ProjIdeal.main_v43_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v82) = v0 c
          ∧ r.2.mem ((c.tc : Thread Cert.ProjRefIdeal.nD Cert.ProjRefIdeal.τ).loc Cert.ProjRefIdeal.main_v83) = v1 c
          ∧ r.2.mem ((c.tc : Thread Cert.ProjRefIdeal.nD Cert.ProjRefIdeal.τ).loc Cert.ProjRefIdeal.main_v84) = v2 c
          ∧ r.2.mem ((c.tc : Thread Cert.ProjRefIdeal.nD Cert.ProjRefIdeal.τ).loc Cert.ProjRefIdeal.main_v85) = v3 c
          ∧ r.2.mem ((c.tc : Thread Cert.ProjRefIdeal.nD Cert.ProjRefIdeal.τ).loc Cert.ProjRefIdeal.main_v86) = v4 c
          ∧ r.2.mem ((c.tc : Thread Cert.ProjRefIdeal.nD Cert.ProjRefIdeal.τ).loc Cert.ProjRefIdeal.main_v93) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_Kmean_KmeanIdeal : Prop :=
  True

def algebraic_KmeanIdeal_KmeanRefIdeal [hKmeanIdeal : Cert.KmeanIdeal.Facts] [hKmeanRefIdeal : Cert.KmeanRefIdeal.Facts] : Prop :=
  ∀ (m : (ℓ : Loc Cert.KmeanIdeal.nD Cert.KmeanIdeal.τ Cert.KmeanIdeal.sig) → Buf (Elt Ideal) ℓ) (g : Dev Cert.KmeanIdeal.nD → PrngReg)
    (m' : (ℓ : Loc Cert.KmeanRefIdeal.nD Cert.KmeanRefIdeal.τ Cert.KmeanRefIdeal.sig) → Buf (Elt Ideal) ℓ) (g' : Dev Cert.KmeanRefIdeal.nD → PrngReg), Pre_KmeanIdeal m →
    (∀ c : Dev Cert.KmeanIdeal.nD,
      m' ((c.tc : Thread Cert.KmeanRefIdeal.nD Cert.KmeanRefIdeal.τ).loc Cert.KmeanRefIdeal.main_arg0) = m ((c.tc : Thread Cert.KmeanIdeal.nD Cert.KmeanIdeal.τ).loc Cert.KmeanIdeal.main_arg0)) →
    ∃ (v0 : (c : Dev Cert.KmeanIdeal.nD) → Buf (Elt Ideal) ((c.tc : Thread Cert.KmeanIdeal.nD Cert.KmeanIdeal.τ).loc Cert.KmeanIdeal.main_v0)),
      θ_run (Cert.KmeanIdeal.defs (F := Ideal)) (onTc (τ := Cert.KmeanIdeal.τ) (Cert.KmeanIdeal.main (F := Ideal))) ⟨m, fun _ => 0, g⟩ (fun r => ∀ c : Dev Cert.KmeanIdeal.nD,
          r.2.mem ((c.tc : Thread Cert.KmeanIdeal.nD Cert.KmeanIdeal.τ).loc Cert.KmeanIdeal.main_v0) = v0 c
          ∧ r.2.mem ((c.tc : Thread Cert.KmeanIdeal.nD Cert.KmeanIdeal.τ).loc Cert.KmeanIdeal.main_arg0) = m ((c.tc : Thread Cert.KmeanIdeal.nD Cert.KmeanIdeal.τ).loc Cert.KmeanIdeal.main_arg0))
      ∧ θ_run (Cert.KmeanRefIdeal.defs (F := Ideal)) (onTc (τ := Cert.KmeanRefIdeal.τ) (Cert.KmeanRefIdeal.main (F := Ideal))) ⟨m', fun _ => 0, g'⟩ (fun r => ∀ c : Dev Cert.KmeanRefIdeal.nD,
          r.2.mem ((c.tc : Thread Cert.KmeanRefIdeal.nD Cert.KmeanRefIdeal.τ).loc Cert.KmeanRefIdeal.main_v4) = v0 c
          ∧ r.2.mem ((c.tc : Thread Cert.KmeanRefIdeal.nD Cert.KmeanRefIdeal.τ).loc Cert.KmeanRefIdeal.main_arg0) = m' ((c.tc : Thread Cert.KmeanRefIdeal.nD Cert.KmeanRefIdeal.τ).loc Cert.KmeanRefIdeal.main_arg0))

def preserves_Gate_GateIdeal : Prop :=
  True

def algebraic_GateIdeal_GateRefIdeal_pre_finite_inputs [hGateIdeal : Cert.GateIdeal.Facts] [hGateRefIdeal : Cert.GateRefIdeal.Facts] [hPre_finite_inputs : Cert.Pre_finite_inputs.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_inputs m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v5) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def Claim : Prop :=
  ∃ (hDiff : Cert.Diff.Facts) (hDiffIdeal : Cert.DiffIdeal.Facts) (hDiffRefIdeal : Cert.DiffRefIdeal.Facts) (hMlp : Cert.Mlp.Facts) (hMlpIdeal : Cert.MlpIdeal.Facts) (hMlpRefIdeal : Cert.MlpRefIdeal.Facts) (hOproj : Cert.Oproj.Facts) (hOprojIdeal : Cert.OprojIdeal.Facts) (hOprojRefIdeal : Cert.OprojRefIdeal.Facts) (hProj : Cert.Proj.Facts) (hProjIdeal : Cert.ProjIdeal.Facts) (hProjRefIdeal : Cert.ProjRefIdeal.Facts) (hKmean : Cert.Kmean.Facts) (hKmeanIdeal : Cert.KmeanIdeal.Facts) (hKmeanRefIdeal : Cert.KmeanRefIdeal.Facts) (hGate : Cert.Gate.Facts) (hGateIdeal : Cert.GateIdeal.Facts) (hGateRefIdeal : Cert.GateRefIdeal.Facts) (hPre_finite_inputs : Cert.Pre_finite_inputs.Facts),
    quiescent_Diff (hDiff := hDiff)
    ∧ quiescent_DiffIdeal (hDiffIdeal := hDiffIdeal)
    ∧ quiescent_DiffRefIdeal (hDiffRefIdeal := hDiffRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Proj (hProj := hProj)
    ∧ quiescent_ProjIdeal (hProjIdeal := hProjIdeal)
    ∧ quiescent_ProjRefIdeal (hProjRefIdeal := hProjRefIdeal)
    ∧ quiescent_Kmean (hKmean := hKmean)
    ∧ quiescent_KmeanIdeal (hKmeanIdeal := hKmeanIdeal)
    ∧ quiescent_KmeanRefIdeal (hKmeanRefIdeal := hKmeanRefIdeal)
    ∧ quiescent_Gate (hGate := hGate)
    ∧ quiescent_GateIdeal (hGateIdeal := hGateIdeal)
    ∧ quiescent_GateIdeal_pre_finite_inputs (hGateIdeal := hGateIdeal) (hPre_finite_inputs := hPre_finite_inputs)
    ∧ quiescent_GateRefIdeal (hGateRefIdeal := hGateRefIdeal)
    ∧ quiescent_GateRefIdeal_pre_finite_inputs (hGateRefIdeal := hGateRefIdeal) (hPre_finite_inputs := hPre_finite_inputs)
    ∧ preserves_Diff_DiffIdeal
    ∧ algebraic_DiffIdeal_DiffRefIdeal (hDiffIdeal := hDiffIdeal) (hDiffRefIdeal := hDiffRefIdeal)
    ∧ preserves_Mlp_MlpIdeal
    ∧ algebraic_MlpIdeal_MlpRefIdeal (hMlpIdeal := hMlpIdeal) (hMlpRefIdeal := hMlpRefIdeal)
    ∧ preserves_Oproj_OprojIdeal
    ∧ algebraic_OprojIdeal_OprojRefIdeal (hOprojIdeal := hOprojIdeal) (hOprojRefIdeal := hOprojRefIdeal)
    ∧ preserves_Proj_ProjIdeal
    ∧ algebraic_ProjIdeal_ProjRefIdeal (hProjIdeal := hProjIdeal) (hProjRefIdeal := hProjRefIdeal)
    ∧ preserves_Kmean_KmeanIdeal
    ∧ algebraic_KmeanIdeal_KmeanRefIdeal (hKmeanIdeal := hKmeanIdeal) (hKmeanRefIdeal := hKmeanRefIdeal)
    ∧ preserves_Gate_GateIdeal
    ∧ algebraic_GateIdeal_GateRefIdeal_pre_finite_inputs (hGateIdeal := hGateIdeal) (hGateRefIdeal := hGateRefIdeal) (hPre_finite_inputs := hPre_finite_inputs)
-- ==== Pre_finite_inputs.lean ====
abbrev S32x8x128 : Shape := ⟨3, ![32, 8, 128]⟩
abbrev S32x64x8x128 : Shape := ⟨4, ![32, 64, 8, 128]⟩
abbrev S_ : Shape := ⟨0, ![]⟩

class Facts : Prop where
  bcast_S_S32x8x128 : S_.BroadcastsInDim S32x8x128 (![] : Fin 0 → Fin S32x8x128.rank)
  bcast_S_S32x64x8x128 : S_.BroadcastsInDim S32x64x8x128 (![] : Fin 0 → Fin S32x64x8x128.rank)

variable [Facts]

def fn {F : FTy → Type} [FloatOps F] (main_arg0 : FVec F S32x8x128 .f32) (main_arg1 : FVec F S32x64x8x128 .f32) : IVec S32x8x128 1 × IVec S32x64x8x128 1 :=
  let main_v0 : FVec F S32x8x128 .f32 := Host.absf main_arg0
  let main_cst : FVec F S_ .f32 := constant S_ .f32 0x7F800000#32
  let main_v1 : FVec F S32x8x128 .f32 := broadcastInDim S32x8x128 ![] bcast_S_S32x8x128 main_cst
  let main_v2 : IVec S32x8x128 1 := cmpf .olt main_v0 main_v1
  let main_v3 : FVec F S32x64x8x128 .f32 := Host.absf main_arg1
  let main_cst_0 : FVec F S_ .f32 := constant S_ .f32 0x7F800000#32
  let main_v4 : FVec F S32x64x8x128 .f32 := broadcastInDim S32x64x8x128 ![] bcast_S_S32x64x8x128 main_cst_0
  let main_v5 : IVec S32x64x8x128 1 := cmpf .olt main_v3 main_v4
  (main_v2, main_v5)
-- ==== Diff.lean ====
abbrev S16384x6144 : Shape := ⟨2, ![16384, 6144]⟩
abbrev S4x64 : Shape := ⟨2, ![4, 64]⟩
abbrev S1x128 : Shape := ⟨2, ![1, 128]⟩
abbrev S8 : Shape := ⟨1, ![8]⟩
abbrev S_ : Shape := ⟨0, ![]⟩
abbrev S16384x1024 : Shape := ⟨2, ![16384, 1024]⟩
abbrev S512x128 : Shape := ⟨2, ![512, 128]⟩
abbrev S8192x128 : Shape := ⟨2, ![8192, 128]⟩
abbrev S1 : Shape := ⟨1, ![1]⟩
abbrev S1x512 : Shape := ⟨2, ![1, 512]⟩
abbrev S512x1 : Shape := ⟨2, ![512, 1]⟩
abbrev S512x512 : Shape := ⟨2, ![512, 512]⟩
abbrev S512 : Shape := ⟨1, ![512]⟩
abbrev S1x64 : Shape := ⟨2, ![1, 64]⟩
abbrev S1x1 : Shape := ⟨2, ![1, 1]⟩

abbrev nBuf : Space → Nat
  | .hbm => 18
  | .vmem => 10
  | .smem => 1
  | _ => 0

abbrev bufTy : (tb : Table) → Fin (tcTables nBuf tb) → BufTy
  | .hbm, ⟨0, _⟩ => ⟨S16384x6144, .bf16⟩
  | .hbm, ⟨1, _⟩ => ⟨S4x64, .f32⟩
  | .hbm, ⟨2, _⟩ => ⟨S1x128, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S16384x1024, .bf16⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S4x64, .f32⟩
  | .local _ .vmem, ⟨7, _⟩ => ⟨S1x128, .f32⟩
  | .local _ .vmem, ⟨8, _⟩ => ⟨S512x128, .bf16⟩
  | .local _ .vmem, ⟨9, _⟩ => ⟨S512x128, .bf16⟩
  | .local _ .smem, ⟨0, _⟩ => ⟨S8, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![2, 8, 16], ![false, false, false]⟩

def k0_off1 (i : grid0.Coords) : Fin 1 → Nat :=
  let arg1 : BitVec 32 := BitVec.ofNat 32 (i 1).val
  let v0 : Index := Scalar.indexCast arg1
  ![v0.toNat]
@[reducible] def k0_t1_loop (i : grid0.Coords) : Scf.Loop 32 :=
  let c0_i32_10 : BitVec 32 := 0#32
  let arg2 : BitVec 32 := BitVec.ofNat 32 (i 2).val
  let c512_i32 : BitVec 32 := 512#32
  let v15 : BitVec 32 := Scalar.muli arg2 c512_i32
  let c0_i32 : BitVec 32 := 0#32
  let v21 : BitVec 1 := Scalar.cmpi .sgt v15 c0_i32
  let v22 : BitVec 32 := Scalar.extui v21
  let c0_i32_6 : BitVec 32 := 0#32
  let v23 : BitVec 1 := Scalar.cmpi .slt v15 c0_i32_6
  let v24 : BitVec 32 := Scalar.extui v23
  let v25 : BitVec 32 := Scalar.subi v22 v24
  let c512_i32_5 : BitVec 32 := 512#32
  let c0_i32_7 : BitVec 32 := 0#32
  let v26 : BitVec 1 := Scalar.cmpi .sgt c512_i32_5 c0_i32_7
  let v27 : BitVec 32 := Scalar.extui v26
  let c0_i32_8 : BitVec 32 := 0#32
  let v28 : BitVec 1 := Scalar.cmpi .slt c512_i32_5 c0_i32_8
  let v29 : BitVec 32 := Scalar.extui v28
  let v30 : BitVec 32 := Scalar.subi v27 v29
  let v31 : BitVec 1 := Scalar.cmpi .ne v25 v30
  let v32 : BitVec 32 := Scalar.remsi v15 c512_i32_5
  let c0_i32_9 : BitVec 32 := 0#32
  let v33 : BitVec 1 := Scalar.cmpi .ne v32 c0_i32_9
  let v34 : BitVec 1 := Scalar.andi v31 v33
  let v20 : BitVec 32 := Scalar.divsi v15 c512_i32_5
  let c1_i32 : BitVec 32 := 1#32
  let v35 : BitVec 32 := Scalar.subi v20 c1_i32
  let v36 : BitVec 32 := Scalar.select v34 v35 v20
  let v37 : BitVec 32 := Scalar.subi v36 c0_i32_10
  let c1_i32_11 : BitVec 32 := 1#32
  let v39 : BitVec 32 := Scalar.divsi v37 c1_i32_11
  let v40 : BitVec 32 := Scalar.muli v39 c1_i32_11
  let v41 : BitVec 32 := Scalar.addi c0_i32_10 v40
  let c1_i32_12 : BitVec 32 := 1#32
  ⟨c0_i32_10, v41, c1_i32_12⟩
def k0_mult1 (i : grid0.Coords) (k0_t1 : Fin (k0_t1_loop i).trips) : BitVec 32 :=
  let c0_i32_10 : BitVec 32 := 0#32
  let c1_i32_12 : BitVec 32 := 1#32
  let arg10 : BitVec 32 := Scf.iv c0_i32_10 c1_i32_12 k0_t1
  let c512_i32_40 : BitVec 32 := 512#32
  let v147 : BitVec 32 := Scalar.muli arg10 c512_i32_40
  v147
def k0_off2 (i : grid0.Coords) (k0_t1 : Fin (k0_t1_loop i).trips) : Fin 2 → Nat :=
  let c0_i32_10 : BitVec 32 := 0#32
  let c1_i32_12 : BitVec 32 := 1#32
  let arg10 : BitVec 32 := Scf.iv c0_i32_10 c1_i32_12 k0_t1
  let c512_i32_40 : BitVec 32 := 512#32
  let v147 : BitVec 32 := Scalar.muli arg10 c512_i32_40
  let v148 : BitVec 32 := v147
  let v149 : Index := Scalar.indexCast v148
  let c0_41 : Index := 0#32
  ![v149.toNat, 0]
@[reducible] def k0_t2_loop (i : grid0.Coords) : Scf.Loop 32 :=
  let c0_i32_10 : BitVec 32 := 0#32
  let arg2 : BitVec 32 := BitVec.ofNat 32 (i 2).val
  let c512_i32 : BitVec 32 := 512#32
  let v15 : BitVec 32 := Scalar.muli arg2 c512_i32
  let c0_i32 : BitVec 32 := 0#32
  let v21 : BitVec 1 := Scalar.cmpi .sgt v15 c0_i32
  let v22 : BitVec 32 := Scalar.extui v21
  let c0_i32_6 : BitVec 32 := 0#32
  let v23 : BitVec 1 := Scalar.cmpi .slt v15 c0_i32_6
  let v24 : BitVec 32 := Scalar.extui v23
  let v25 : BitVec 32 := Scalar.subi v22 v24
  let c512_i32_5 : BitVec 32 := 512#32
  let c0_i32_7 : BitVec 32 := 0#32
  let v26 : BitVec 1 := Scalar.cmpi .sgt c512_i32_5 c0_i32_7
  let v27 : BitVec 32 := Scalar.extui v26
  let c0_i32_8 : BitVec 32 := 0#32
  let v28 : BitVec 1 := Scalar.cmpi .slt c512_i32_5 c0_i32_8
  let v29 : BitVec 32 := Scalar.extui v28
  let v30 : BitVec 32 := Scalar.subi v27 v29
  let v31 : BitVec 1 := Scalar.cmpi .ne v25 v30
  let v32 : BitVec 32 := Scalar.remsi v15 c512_i32_5
  let c0_i32_9 : BitVec 32 := 0#32
  let v33 : BitVec 1 := Scalar.cmpi .ne v32 c0_i32_9
  let v34 : BitVec 1 := Scalar.andi v31 v33
  let v20 : BitVec 32 := Scalar.divsi v15 c512_i32_5
  let c1_i32 : BitVec 32 := 1#32
  let v35 : BitVec 32 := Scalar.subi v20 c1_i32
  let v36 : BitVec 32 := Scalar.select v34 v35 v20
  let v37 : BitVec 32 := Scalar.subi v36 c0_i32_10
  let c1_i32_11 : BitVec 32 := 1#32
  let v39 : BitVec 32 := Scalar.divsi v37 c1_i32_11
  let v40 : BitVec 32 := Scalar.muli v39 c1_i32_11
  let v41 : BitVec 32 := Scalar.addi c0_i32_10 v40
  let v38 : BitVec 32 := Scalar.addi c0_i32_10 v37
  let c1_i32_13 : BitVec 32 := 1#32
  ⟨v41, v38, c1_i32_13⟩
def k0_mult2 (i : grid0.Coords) (k0_t2 : Fin (k0_t2_loop i).trips) : BitVec 32 :=
  let c0_i32_10 : BitVec 32 := 0#32
  let arg2 : BitVec 32 := BitVec.ofNat 32 (i 2).val
  let c512_i32 : BitVec 32 := 512#32
  let v15 : BitVec 32 := Scalar.muli arg2 c512_i32
  let c0_i32 : BitVec 32 := 0#32
  let v21 : BitVec 1 := Scalar.cmpi .sgt v15 c0_i32
  let v22 : BitVec 32 := Scalar.extui v21
  let c0_i32_6 : BitVec 32 := 0#32
  let v23 : BitVec 1 := Scalar.cmpi .slt v15 c0_i32_6
  let v24 : BitVec 32 := Scalar.extui v23
  let v25 : BitVec 32 := Scalar.subi v22 v24
  let c512_i32_5 : BitVec 32 := 512#32
  let c0_i32_7 : BitVec 32 := 0#32
  let v26 : BitVec 1 := Scalar.cmpi .sgt c512_i32_5 c0_i32_7
  let v27 : BitVec 32 := Scalar.extui v26
  let c0_i32_8 : BitVec 32 := 0#32
  let v28 : BitVec 1 := Scalar.cmpi .slt c512_i32_5 c0_i32_8
  let v29 : BitVec 32 := Scalar.extui v28
  let v30 : BitVec 32 := Scalar.subi v27 v29
  let v31 : BitVec 1 := Scalar.cmpi .ne v25 v30
  let v32 : BitVec 32 := Scalar.remsi v15 c512_i32_5
  let c0_i32_9 : BitVec 32 := 0#32
  let v33 : BitVec 1 := Scalar.cmpi .ne v32 c0_i32_9
  let v34 : BitVec 1 := Scalar.andi v31 v33
  let v20 : BitVec 32 := Scalar.divsi v15 c512_i32_5
  let c1_i32 : BitVec 32 := 1#32
  let v35 : BitVec 32 := Scalar.subi v20 c1_i32
  let v36 : BitVec 32 := Scalar.select v34 v35 v20
  let v37 : BitVec 32 := Scalar.subi v36 c0_i32_10
  let c1_i32_11 : BitVec 32 := 1#32
  let v39 : BitVec 32 := Scalar.divsi v37 c1_i32_11
  let v40 : BitVec 32 := Scalar.muli v39 c1_i32_11
  let v41 : BitVec 32 := Scalar.addi c0_i32_10 v40
  let c1_i32_13 : BitVec 32 := 1#32
  let arg10 : BitVec 32 := Scf.iv v41 c1_i32_13 k0_t2
  let c512_i32_40 : BitVec 32 := 512#32
  let v147 : BitVec 32 := Scalar.muli arg10 c512_i32_40
  v147
def k0_off3 (i : grid0.Coords) (k0_t2 : Fin (k0_t2_loop i).trips) : Fin 2 → Nat :=
  let c0_i32_10 : BitVec 32 := 0#32
  let arg2 : BitVec 32 := BitVec.ofNat 32 (i 2).val
  let c512_i32 : BitVec 32 := 512#32
  let v15 : BitVec 32 := Scalar.muli arg2 c512_i32
  let c0_i32 : BitVec 32 := 0#32
  let v21 : BitVec 1 := Scalar.cmpi .sgt v15 c0_i32
  let v22 : BitVec 32 := Scalar.extui v21
  let c0_i32_6 : BitVec 32 := 0#32
  let v23 : BitVec 1 := Scalar.cmpi .slt v15 c0_i32_6
  let v24 : BitVec 32 := Scalar.extui v23
  let v25 : BitVec 32 := Scalar.subi v22 v24
  let c512_i32_5 : BitVec 32 := 512#32
  let c0_i32_7 : BitVec 32 := 0#32
  let v26 : BitVec 1 := Scalar.cmpi .sgt c512_i32_5 c0_i32_7
  let v27 : BitVec 32 := Scalar.extui v26
  let c0_i32_8 : BitVec 32 := 0#32
  let v28 : BitVec 1 := Scalar.cmpi .slt c512_i32_5 c0_i32_8
  let v29 : BitVec 32 := Scalar.extui v28
  let v30 : BitVec 32 := Scalar.subi v27 v29
  let v31 : BitVec 1 := Scalar.cmpi .ne v25 v30
  let v32 : BitVec 32 := Scalar.remsi v15 c512_i32_5
  let c0_i32_9 : BitVec 32 := 0#32
  let v33 : BitVec 1 := Scalar.cmpi .ne v32 c0_i32_9
  let v34 : BitVec 1 := Scalar.andi v31 v33
  let v20 : BitVec 32 := Scalar.divsi v15 c512_i32_5
  let c1_i32 : BitVec 32 := 1#32
  let v35 : BitVec 32 := Scalar.subi v20 c1_i32
  let v36 : BitVec 32 := Scalar.select v34 v35 v20
  let v37 : BitVec 32 := Scalar.subi v36 c0_i32_10
  let c1_i32_11 : BitVec 32 := 1#32
  let v39 : BitVec 32 := Scalar.divsi v37 c1_i32_11
  let v40 : BitVec 32 := Scalar.muli v39 c1_i32_11
  let v41 : BitVec 32 := Scalar.addi c0_i32_10 v40
  let c1_i32_13 : BitVec 32 := 1#32
  let arg10 : BitVec 32 := Scf.iv v41 c1_i32_13 k0_t2
  let c512_i32_40 : BitVec 32 := 512#32
  let v147 : BitVec 32 := Scalar.muli arg10 c512_i32_40
  let v148 : BitVec 32 := v147
  let v149 : Index := Scalar.indexCast v148
  let c0_41 : Index := 0#32
  ![v149.toNat, 0]
def k0_mult3 (i : grid0.Coords) : BitVec 32 :=
  let arg2 : BitVec 32 := BitVec.ofNat 32 (i 2).val
  let c512_i32 : BitVec 32 := 512#32
  let v15 : BitVec 32 := Scalar.muli arg2 c512_i32
  let c0_i32 : BitVec 32 := 0#32
  let v21 : BitVec 1 := Scalar.cmpi .sgt v15 c0_i32
  let v22 : BitVec 32 := Scalar.extui v21
  let c0_i32_6 : BitVec 32 := 0#32
  let v23 : BitVec 1 := Scalar.cmpi .slt v15 c0_i32_6
  let v24 : BitVec 32 := Scalar.extui v23
  let v25 : BitVec 32 := Scalar.subi v22 v24
  let c512_i32_5 : BitVec 32 := 512#32
  let c0_i32_7 : BitVec 32 := 0#32
  let v26 : BitVec 1 := Scalar.cmpi .sgt c512_i32_5 c0_i32_7
  let v27 : BitVec 32 := Scalar.extui v26
  let c0_i32_8 : BitVec 32 := 0#32
  let v28 : BitVec 1 := Scalar.cmpi .slt c512_i32_5 c0_i32_8
  let v29 : BitVec 32 := Scalar.extui v28
  let v30 : BitVec 32 := Scalar.subi v27 v29
  let v31 : BitVec 1 := Scalar.cmpi .ne v25 v30
  let v32 : BitVec 32 := Scalar.remsi v15 c512_i32_5
  let c0_i32_9 : BitVec 32 := 0#32
  let v33 : BitVec 1 := Scalar.cmpi .ne v32 c0_i32_9
  let v34 : BitVec 1 := Scalar.andi v31 v33
  let v20 : BitVec 32 := Scalar.divsi v15 c512_i32_5
  let c1_i32 : BitVec 32 := 1#32
  let v35 : BitVec 32 := Scalar.subi v20 c1_i32
  let v36 : BitVec 32 := Scalar.select v34 v35 v20
  let c512_i32_14 : BitVec 32 := 512#32
  let v44 : BitVec 32 := Scalar.muli v36 c512_i32_14
  v44
def k0_off4 (i : grid0.Coords) : Fin 2 → Nat :=
  let arg2 : BitVec 32 := BitVec.ofNat 32 (i 2).val
  let c512_i32 : BitVec 32 := 512#32
  let v15 : BitVec 32 := Scalar.muli arg2 c512_i32
  let c0_i32 : BitVec 32 := 0#32
  let v21 : BitVec 1 := Scalar.cmpi .sgt v15 c0_i32
  let v22 : BitVec 32 := Scalar.extui v21
  let c0_i32_6 : BitVec 32 := 0#32
  let v23 : BitVec 1 := Scalar.cmpi .slt v15 c0_i32_6
  let v24 : BitVec 32 := Scalar.extui v23
  let v25 : BitVec 32 := Scalar.subi v22 v24
  let c512_i32_5 : BitVec 32 := 512#32
  let c0_i32_7 : BitVec 32 := 0#32
  let v26 : BitVec 1 := Scalar.cmpi .sgt c512_i32_5 c0_i32_7
  let v27 : BitVec 32 := Scalar.extui v26
  let c0_i32_8 : BitVec 32 := 0#32
  let v28 : BitVec 1 := Scalar.cmpi .slt c512_i32_5 c0_i32_8
  let v29 : BitVec 32 := Scalar.extui v28
  let v30 : BitVec 32 := Scalar.subi v27 v29
  let v31 : BitVec 1 := Scalar.cmpi .ne v25 v30
  let v32 : BitVec 32 := Scalar.remsi v15 c512_i32_5
  let c0_i32_9 : BitVec 32 := 0#32
  let v33 : BitVec 1 := Scalar.cmpi .ne v32 c0_i32_9
  let v34 : BitVec 1 := Scalar.andi v31 v33
  let v20 : BitVec 32 := Scalar.divsi v15 c512_i32_5
  let c1_i32 : BitVec 32 := 1#32
  let v35 : BitVec 32 := Scalar.subi v20 c1_i32
  let v36 : BitVec 32 := Scalar.select v34 v35 v20
  let c512_i32_14 : BitVec 32 := 512#32
  let v44 : BitVec 32 := Scalar.muli v36 c512_i32_14
  let v45 : BitVec 32 := v44
  let v46 : Index := Scalar.indexCast v45
  let c0_15 : Index := 0#32
  ![v46.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== DiffRefIdeal.lean ====
abbrev S16384x6144 : Shape := ⟨2, ![16384, 6144]⟩
abbrev S4x64 : Shape := ⟨2, ![4, 64]⟩
abbrev S1x128 : Shape := ⟨2, ![1, 128]⟩
abbrev S1x64 : Shape := ⟨2, ![1, 64]⟩
abbrev S64 : Shape := ⟨1, ![64]⟩
abbrev S_ : Shape := ⟨0, ![]⟩
abbrev S8 : Shape := ⟨1, ![8]⟩
abbrev S16384x1024 : Shape := ⟨2, ![16384, 1024]⟩
abbrev S2x8192x8x2x64 : Shape := ⟨5, ![2, 8192, 8, 2, 64]⟩
abbrev S2x8192x8x128 : Shape := ⟨4, ![2, 8192, 8, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x8x2x8192x8192 : Shape := ⟨5, ![2, 8, 2, 8192, 8192]⟩
abbrev S8x1x1x1 : Shape := ⟨4, ![8, 1, 1, 1]⟩
abbrev S1x1x8192x8192 : Shape := ⟨4, ![1, 1, 8192, 8192]⟩
abbrev S8x1x8192x8192 : Shape := ⟨4, ![8, 1, 8192, 8192]⟩
abbrev S1x8x1x8192x8192 : Shape := ⟨5, ![1, 8, 1, 8192, 8192]⟩
abbrev S2x8x2x8192 : Shape := ⟨4, ![2, 8, 2, 8192]⟩
abbrev S2x8x2x8192x1 : Shape := ⟨5, ![2, 8, 2, 8192, 1]⟩
abbrev S2x8x128x2x8192 : Shape := ⟨5, ![2, 8, 128, 2, 8192]⟩
abbrev S2x8192x8x2x128 : Shape := ⟨5, ![2, 8192, 8, 2, 128]⟩
abbrev S2x8192x8x1x128 : Shape := ⟨5, ![2, 8192, 8, 1, 128]⟩
abbrev S2x8192x8 : Shape := ⟨3, ![2, 8192, 8]⟩
abbrev S2x8192x8x1 : Shape := ⟨4, ![2, 8192, 8, 1]⟩
abbrev S128 : Shape := ⟨1, ![128]⟩
abbrev S1x1x1x128 : Shape := ⟨4, ![1, 1, 1, 128]⟩

abbrev nBuf : Space → Nat
  | .hbm => 112
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S4x64, .f32⟩
  | .hbm, ⟨2, _⟩ => ⟨S1x128, .f32⟩
  | .hbm, ⟨3, _⟩ => ⟨S1x64, .f32⟩
  | .hbm, ⟨4, _⟩ => ⟨S64, .f32⟩
  | .hbm, ⟨5, _⟩ => ⟨S1x64, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S16384x6144, .f32⟩
  | .hbm, ⟨37, _⟩ => ⟨S16384x1024, .f32⟩
  | .hbm, ⟨38, _⟩ => ⟨S2x8192x8x2x64, .f32⟩
  | .hbm, ⟨39, _⟩ => ⟨S16384x1024, .f32⟩
  | .hbm, ⟨40, _⟩ => ⟨S2x8192x8x2x64, .f32⟩
  | .hbm, ⟨41, _⟩ => ⟨S16384x1024, .f32⟩
  | .hbm, ⟨42, _⟩ => ⟨S2x8192x8x128, .f32⟩
  | .hbm, ⟨43, _⟩ => ⟨S8192, .i32⟩
  | .hbm, ⟨44, _⟩ => ⟨S8192x1, .i32⟩
  | .hbm, ⟨45, _⟩ => ⟨S1x8192, .i32⟩
  | .hbm, ⟨46, _⟩ => ⟨S8192x8192, .i32⟩
  | .hbm, ⟨47, _⟩ => ⟨S8192x8192, .i32⟩
  | .hbm, ⟨48, _⟩ => ⟨S8192x8192, .i32⟩
  | .hbm, ⟨49, _⟩ => ⟨S8192x8192, .f32⟩
  | .hbm, ⟨50, _⟩ => ⟨S2x8x2x8192x8192, .f32⟩
  | .hbm, ⟨51, _⟩ => ⟨S8x1x1x1, .f32⟩
  | .hbm, ⟨52, _⟩ => ⟨S1x1x8192x8192, .f32⟩
  | .hbm, ⟨53, _⟩ => ⟨S8x1x8192x8192, .f32⟩
  | .hbm, ⟨54, _⟩ => ⟨S8x1x8192x8192, .f32⟩
  | .hbm, ⟨55, _⟩ => ⟨S8x1x8192x8192, .f32⟩
  | .hbm, ⟨56, _⟩ => ⟨S1x8x1x8192x8192, .f32⟩
  | .hbm, ⟨57, _⟩ => ⟨S2x8x2x8192x8192, .f32⟩
  | .hbm, ⟨58, _⟩ => ⟨S2x8x2x8192x8192, .f32⟩
  | .hbm, ⟨59, _⟩ => ⟨S_, .f32⟩
  | .hbm, ⟨60, _⟩ => ⟨S8192x8192, .f32⟩
  | .hbm, ⟨61, _⟩ => ⟨S8192x8192, .i1⟩
  | .hbm, ⟨62, _⟩ => ⟨S_, .f32⟩
  | .hbm, ⟨63, _⟩ => ⟨S_, .f32⟩
  | .hbm, ⟨64, _⟩ => ⟨S2x8x2x8192x8192, .i1⟩
  | .hbm, ⟨65, _⟩ => ⟨S2x8x2x8192x8192, .f32⟩
  | .hbm, ⟨66, _⟩ => ⟨S2x8x2x8192x8192, .f32⟩
  | .hbm, ⟨67, _⟩ => ⟨S_, .f32⟩
  | .hbm, ⟨68, _⟩ => ⟨S2x8x2x8192, .f32⟩
  | .hbm, ⟨69, _⟩ => ⟨S_, .f32⟩
  | .hbm, ⟨70, _⟩ => ⟨S2x8x2x8192, .f32⟩
  | .hbm, ⟨71, _⟩ => ⟨S2x8x2x8192, .f32⟩
  | .hbm, ⟨72, _⟩ => ⟨S2x8x2x8192x1, .f32⟩
  | .hbm, ⟨73, _⟩ => ⟨S2x8x2x8192x8192, .f32⟩
  | .hbm, ⟨74, _⟩ => ⟨S2x8x2x8192x8192, .f32⟩
  | .hbm, ⟨75, _⟩ => ⟨S2x8x2x8192x8192, .f32⟩
  | .hbm, ⟨76, _⟩ => ⟨S_, .f32⟩
  | .hbm, ⟨77, _⟩ => ⟨S2x8x2x8192, .f32⟩
  | .hbm, ⟨78, _⟩ => ⟨S2x8x2x8192x1, .f32⟩
  | .hbm, ⟨79, _⟩ => ⟨S2x8x2x8192x8192, .f32⟩
  | .hbm, ⟨80, _⟩ => ⟨S2x8x2x8192x8192, .f32⟩
  | .hbm, ⟨81, _⟩ => ⟨S2x8x128x2x8192, .f32⟩
  | .hbm, ⟨82, _⟩ => ⟨S2x8192x8x2x128, .f32⟩
  | .hbm, ⟨83, _⟩ => ⟨S2x8192x8x1x128, .f32⟩
  | .hbm, ⟨84, _⟩ => ⟨S2x8192x8x128, .f32⟩
  | .hbm, ⟨85, _⟩ => ⟨S2x8192x8x1x128, .f32⟩
  | .hbm, ⟨86, _⟩ => ⟨S2x8192x8x128, .f32⟩
  | .hbm, ⟨87, _⟩ => ⟨S2x8192x8x128, .f32⟩
  | .hbm, ⟨88, _⟩ => ⟨S2x8192x8x128, .f32⟩
  | .hbm, ⟨89, _⟩ => ⟨S2x8192x8x128, .f32⟩
  | .hbm, ⟨90, _⟩ => ⟨S2x8192x8x128, .f32⟩
  | .hbm, ⟨91, _⟩ => ⟨S_, .f32⟩
  | .hbm, ⟨92, _⟩ => ⟨S2x8192x8, .f32⟩
  | .hbm, ⟨93, _⟩ => ⟨S2x8192x8x1, .f32⟩
  | .hbm, ⟨94, _⟩ => ⟨S_, .f32⟩
  | .hbm, ⟨95, _⟩ => ⟨S2x8192x8x1, .f32⟩
  | .hbm, ⟨96, _⟩ => ⟨S2x8192x8x1, .f32⟩
  | .hbm, ⟨97, _⟩ => ⟨S_, .f32⟩
  | .hbm, ⟨98, _⟩ => ⟨S2x8192x8x1, .f32⟩
  | .hbm, ⟨99, _⟩ => ⟨S2x8192x8x1, .f32⟩
  | .hbm, ⟨100, _⟩ => ⟨S2x8192x8x1, .f32⟩
  | .hbm, ⟨101, _⟩ => ⟨S2x8192x8x128, .f32⟩
  | .hbm, ⟨102, _⟩ => ⟨S2x8192x8x128, .f32⟩
  | .hbm, ⟨103, _⟩ => ⟨S128, .f32⟩
  | .hbm, ⟨104, _⟩ => ⟨S1x1x1x128, .f32⟩
  | .hbm, ⟨105, _⟩ => ⟨S2x8192x8x128, .f32⟩
  | .hbm, ⟨106, _⟩ => ⟨S2x8192x8x128, .f32⟩
  | .hbm, ⟨107, _⟩ => ⟨S_, .f32⟩
  | .hbm, ⟨108, _⟩ => ⟨S2x8192x8x128, .f32⟩
  | .hbm, ⟨109, _⟩ => ⟨S2x8192x8x128, .f32⟩
  | .hbm, ⟨110, _⟩ => ⟨S2x8192x8x128, .bf16⟩
  | .hbm, ⟨111, _⟩ => ⟨S16384x1024, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_cst_7 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_11 : Ref sig .tc := ⟨.hbm, 91, rfl⟩
abbrev main_v73 : Ref sig .tc := ⟨.hbm, 92, rfl⟩
abbrev main_v74 : Ref sig .tc := ⟨.hbm, 93, rfl⟩
abbrev main_cst_12 : Ref sig .tc := ⟨.hbm, 94, rfl⟩
abbrev main_v75 : Ref sig .tc := ⟨.hbm, 95, rfl⟩
abbrev main_v76 : Ref sig .tc := ⟨.hbm, 96, rfl⟩
abbrev main_cst_13 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_14 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩

abbrev nD : Nat := 1
abbrev τ : Topo := Topo.v7x

variable {F : FTy → Type} [FloatOps F]
-- ==== Mlp.lean ====
abbrev S16384x2048 : Shape := ⟨2, ![16384, 2048]⟩
abbrev S1x2048x8192 : Shape := ⟨3, ![1, 2048, 8192]⟩
abbrev S1x8192x2048 : Shape := ⟨3, ![1, 8192, 2048]⟩
abbrev S2048x8192 : Shape := ⟨2, ![2048, 8192]⟩
abbrev S8192x2048 : Shape := ⟨2, ![8192, 2048]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩

abbrev nBuf : Space → Nat
  | .hbm => 9
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S1x2048x8192, .f32⟩
  | .hbm, ⟨3, _⟩ => ⟨S1x8192x2048, .f32⟩
  | .hbm, ⟨4, _⟩ => ⟨S2048x8192, .f32⟩
  | .hbm, ⟨5, _⟩ => ⟨S2048x8192, .bf16⟩
  | .hbm, ⟨6, _⟩ => ⟨S8192x2048, .f32⟩
  | .hbm, ⟨7, _⟩ => ⟨S8192x2048, .bf16⟩
  | .hbm, ⟨8, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_7 : BitVec 32 := 0#32
  let v13 : BitVec 1 := Scalar.cmpi .ne v12 c0_i32_7
  v13

def k0_cond2 (i : grid0.Coords) : BitVec 1 :=
  let arg1 : BitVec 32 := BitVec.ofNat 32 (i 1).val
  let c0_i32_8 : BitVec 32 := 0#32
  let v14 : BitVec 1 := Scalar.cmpi .sgt arg1 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpRefIdeal.lean ====
abbrev S16384x2048 : Shape := ⟨2, ![16384, 2048]⟩
abbrev S1x2048x8192 : Shape := ⟨3, ![1, 2048, 8192]⟩
abbrev S1x8192x2048 : Shape := ⟨3, ![1, 8192, 2048]⟩
abbrev S2048x8192 : Shape := ⟨2, ![2048, 8192]⟩
abbrev S16384x8192 : Shape := ⟨2, ![16384, 8192]⟩
abbrev S_ : Shape := ⟨0, ![]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S1x2048x8192, .f32⟩
  | .hbm, ⟨3, _⟩ => ⟨S1x8192x2048, .f32⟩
  | .hbm, ⟨4, _⟩ => ⟨S16384x2048, .f32⟩
  | .hbm, ⟨5, _⟩ => ⟨S2048x8192, .f32⟩
  | .hbm, ⟨6, _⟩ => ⟨S16384x8192, .f32⟩
  | .hbm, ⟨7, _⟩ => ⟨S_, .f32⟩
  | .hbm, ⟨8, _⟩ => ⟨S16384x8192, .f32⟩
  | .hbm, ⟨9, _⟩ => ⟨S16384x8192, .f32⟩
  | .hbm, ⟨10, _⟩ => ⟨S16384x8192, .f32⟩
  | .hbm, ⟨11, _⟩ => ⟨S8192x2048, .f32⟩
  | .hbm, ⟨12, _⟩ => ⟨S16384x2048, .f32⟩
  | .hbm, ⟨13, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Oproj.lean ====
abbrev S16384x1024 : Shape := ⟨2, ![16384, 1024]⟩
abbrev S16384x2048 : Shape := ⟨2, ![16384, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S1x2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S2048, .f32⟩
  | .hbm, ⟨8, _⟩ => ⟨S1x2048, .f32⟩
  | .hbm, ⟨9, _⟩ => ⟨S16384x2048, .f32⟩
  | .hbm, ⟨10, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OprojRefIdeal.lean ====
abbrev S16384x1024 : Shape := ⟨2, ![16384, 1024]⟩
abbrev S16384x2048 : Shape := ⟨2, ![16384, 2048]⟩
abbrev S1x2048x2048 : Shape := ⟨3, ![1, 2048, 2048]⟩
abbrev S1x2048 : Shape := ⟨2, ![1, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S2048 : Shape := ⟨1, ![2048]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S1x2048x2048, .f32⟩
  | .hbm, ⟨4, _⟩ => ⟨S1x2048, .f32⟩
  | .hbm, ⟨5, _⟩ => ⟨S16384x1024, .f32⟩
  | .hbm, ⟨6, _⟩ => ⟨S16384x1024, .f32⟩
  | .hbm, ⟨7, _⟩ => ⟨S16384x2048, .f32⟩
  | .hbm, ⟨8, _⟩ => ⟨S2048x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x2048, .f32⟩
  | .hbm, ⟨23, _⟩ => ⟨S16384x2048, .f32⟩
  | .hbm, ⟨24, _⟩ => ⟨S2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proj.lean ====
abbrev S2x8192x2048 : Shape := ⟨3, ![2, 8192, 2048]⟩
abbrev S1x2048 : Shape := ⟨2, ![1, 2048]⟩
abbrev S1x2048x6144 : Shape := ⟨3, ![1, 2048, 6144]⟩
abbrev S1x64 : Shape := ⟨2, ![1, 64]⟩
abbrev S1x128 : Shape := ⟨2, ![1, 128]⟩
abbrev S6 : Shape := ⟨1, ![6]⟩
abbrev S2048x6144 : Shape := ⟨2, ![2048, 6144]⟩
abbrev S2048 : Shape := ⟨1, ![2048]⟩
abbrev S_ : Shape := ⟨0, ![]⟩
abbrev S128 : Shape := ⟨1, ![128]⟩
abbrev S64 : Shape := ⟨1, ![64]⟩
abbrev S2x64 : Shape := ⟨2, ![2, 64]⟩
abbrev S6x128 : Shape := ⟨2, ![6, 128]⟩
abbrev S6x1x128 : Shape := ⟨3, ![6, 1, 128]⟩
abbrev S6x1x1 : Shape := ⟨3, ![6, 1, 1]⟩
abbrev S128x1 : Shape := ⟨2, ![128, 1]⟩
abbrev S128x128 : Shape := ⟨2, ![128, 128]⟩
abbrev S1x128x128 : Shape := ⟨3, ![1, 128, 128]⟩
abbrev S2x128x128 : Shape := ⟨3, ![2, 128, 128]⟩
abbrev S16384x2048 : Shape := ⟨2, ![16384, 2048]⟩
abbrev S16384x1024 : Shape := ⟨2, ![16384, 1024]⟩
abbrev S16384x6144 : Shape := ⟨2, ![16384, 6144]⟩
abbrev S512x2048 : Shape := ⟨2, ![512, 2048]⟩
abbrev S2048x1024 : Shape := ⟨2, ![2048, 1024]⟩
abbrev S1x1x128 : Shape := ⟨3, ![1, 1, 128]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩

abbrev nBuf : Space → Nat
  | .hbm => 94
  | .vmem => 24
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S1x2048x6144, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S1x128, .f32⟩
  | .hbm, ⟨7, _⟩ => ⟨S6, .f32⟩
  | .hbm, ⟨8, _⟩ => ⟨S2048x6144, .f32⟩
  | .hbm, ⟨9, _⟩ => ⟨S2048x6144, .bf16⟩
  | .hbm, ⟨10, _⟩ => ⟨S2048, .f32⟩
  | .hbm, ⟨11, _⟩ => ⟨S1x2048, .f32⟩
  | .hbm, ⟨12, _⟩ => ⟨S_, .f32⟩
  | .hbm, ⟨13, _⟩ => ⟨S128, .f32⟩
  | .hbm, ⟨14, _⟩ => ⟨S64, .f32⟩
  | .hbm, ⟨15, _⟩ => ⟨S1x64, .f32⟩
  | .hbm, ⟨16, _⟩ => ⟨S2x64, .f32⟩
  | .hbm, ⟨17, _⟩ => ⟨S128, .f32⟩
  | .hbm, ⟨18, _⟩ => ⟨S64, .f32⟩
  | .hbm, ⟨19, _⟩ => ⟨S1x64, .f32⟩
  | .hbm, ⟨20, _⟩ => ⟨S2x64, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S6x128, .f32⟩
  | .hbm, ⟨31, _⟩ => ⟨S6x1x128, .f32⟩
  | .hbm, ⟨32, _⟩ => ⟨S6x1x1, .f32⟩
  | .hbm, ⟨33, _⟩ => ⟨S6x1x128, .f32⟩
  | .hbm, ⟨34, _⟩ => ⟨S6x1x128, .f32⟩
  | .hbm, ⟨35, _⟩ => ⟨S128, .i32⟩
  | .hbm, ⟨36, _⟩ => ⟨S128x1, .i32⟩
  | .hbm, ⟨37, _⟩ => ⟨S_, .i32⟩
  | .hbm, ⟨38, _⟩ => ⟨S_, .i32⟩
  | .hbm, ⟨39, _⟩ => ⟨S128x1, .i32⟩
  | .hbm, ⟨40, _⟩ => ⟨S128x1, .i32⟩
  | .hbm, ⟨41, _⟩ => ⟨S128x1, .i32⟩
  | .hbm, ⟨42, _⟩ => ⟨S_, .i32⟩
  | .hbm, ⟨43, _⟩ => ⟨S128x1, .i32⟩
  | .hbm, ⟨44, _⟩ => ⟨S128x1, .i1⟩
  | .hbm, ⟨45, _⟩ => ⟨S128x1, .i32⟩
  | .hbm, ⟨46, _⟩ => ⟨S128x1, .i32⟩
  | .hbm, ⟨47, _⟩ => ⟨S_, .i32⟩
  | .hbm, ⟨48, _⟩ => ⟨S128x1, .i32⟩
  | .hbm, ⟨49, _⟩ => ⟨S128x1, .i1⟩
  | .hbm, ⟨50, _⟩ => ⟨S128x1, .i1⟩
  | .hbm, ⟨51, _⟩ => ⟨S_, .i32⟩
  | .hbm, ⟨52, _⟩ => ⟨S128x1, .i32⟩
  | .hbm, ⟨53, _⟩ => ⟨S128x1, .i32⟩
  | .hbm, ⟨54, _⟩ => ⟨S128x1, .i32⟩
  | .hbm, ⟨55, _⟩ => ⟨S1x128, .i32⟩
  | .hbm, ⟨56, _⟩ => ⟨S_, .i32⟩
  | .hbm, ⟨57, _⟩ => ⟨S_, .i32⟩
  | .hbm, ⟨58, _⟩ => ⟨S1x128, .i32⟩
  | .hbm, ⟨59, _⟩ => ⟨S1x128, .i32⟩
  | .hbm, ⟨60, _⟩ => ⟨S1x128, .i32⟩
  | .hbm, ⟨61, _⟩ => ⟨S_, .i32⟩
  | .hbm, ⟨62, _⟩ => ⟨S1x128, .i32⟩
  | .hbm, ⟨63, _⟩ => ⟨S1x128, .i1⟩
  | .hbm, ⟨64, _⟩ => ⟨S1x128, .i32⟩
  | .hbm, ⟨65, _⟩ => ⟨S1x128, .i32⟩
  | .hbm, ⟨66, _⟩ => ⟨S_, .i32⟩
  | .hbm, ⟨67, _⟩ => ⟨S1x128, .i32⟩
  | .hbm, ⟨68, _⟩ => ⟨S1x128, .i1⟩
  | .hbm, ⟨69, _⟩ => ⟨S1x128, .i1⟩
  | .hbm, ⟨70, _⟩ => ⟨S_, .i32⟩
  | .hbm, ⟨71, _⟩ => ⟨S1x128, .i32⟩
  | .hbm, ⟨72, _⟩ => ⟨S1x128, .i32⟩
  | .hbm, ⟨73, _⟩ => ⟨S1x128, .i32⟩
  | .hbm, ⟨74, _⟩ => ⟨S128x128, .i32⟩
  | .hbm, ⟨75, _⟩ => ⟨S128x128, .i32⟩
  | .hbm, ⟨76, _⟩ => ⟨S128x128, .i1⟩
  | .hbm, ⟨77, _⟩ => ⟨S128x128, .f32⟩
  | .hbm, ⟨78, _⟩ => ⟨S_, .f32⟩
  | .hbm, ⟨79, _⟩ => ⟨S128x128, .f32⟩
  | .hbm, ⟨80, _⟩ => ⟨S128x128, .f32⟩
  | .hbm, ⟨81, _⟩ => ⟨S_, .f32⟩
  | .hbm, ⟨82, _⟩ => ⟨S128x128, .f32⟩
  | .hbm, ⟨83, _⟩ => ⟨S1x128x128, .f32⟩
  | .hbm, ⟨84, _⟩ => ⟨S1x128x128, .f32⟩
  | .hbm, ⟨85, _⟩ => ⟨S2x128x128, .f32⟩
  | .hbm, ⟨86, _⟩ => ⟨S2x128x128, .bf16⟩
  | .hbm, ⟨87, _⟩ => ⟨S16384x2048, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x6144, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x128x128, .bf16⟩
  | .local _ .vmem, ⟨10, _⟩ => ⟨S1x128x128, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v28 : Ref sig .tc := ⟨.hbm, 54, rfl⟩
abbrev main_v29 : Ref sig .tc := ⟨.hbm, 55, rfl⟩
abbrev main_c_1 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_c : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_0 : Ref sig .tc := ⟨.hbm, 70, rfl⟩
abbrev main_call1_v12 : Ref sig .tc := ⟨.hbm, 71, rfl⟩
abbrev main_call1_v13 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_cst_2 : Ref sig .tc := ⟨.hbm, 78, rfl⟩
abbrev main_v35 : Ref sig .tc := ⟨.hbm, 79, rfl⟩
abbrev main_v36 : Ref sig .tc := ⟨.hbm, 80, rfl⟩
abbrev main_cst_3 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43_0 : Ref sig .tc := ⟨.hbm, 88, rfl⟩
abbrev main_v43_1 : Ref sig .tc := ⟨.hbm, 89, rfl⟩
abbrev main_v43_2 : Ref sig .tc := ⟨.hbm, 90, rfl⟩
abbrev main_v43_3 : Ref sig .tc := ⟨.hbm, 91, rfl⟩
abbrev main_v43_4 : Ref sig .tc := ⟨.hbm, 92, rfl⟩
abbrev main_v43_5 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![32, 6], ![false, false]⟩

def k0_cond2 (i : grid0.Coords) : BitVec 1 :=
  let arg1 : BitVec 32 := BitVec.ofNat 32 (i 1).val
  let c1_i32_85 : BitVec 32 := 1#32
  let v175 : BitVec 1 := Scalar.cmpi .eq arg1 c1_i32_85
  let v176 : BitVec 32 := Scalar.extui v175
  let c0_i32_86 : BitVec 32 := 0#32
  let v177 : BitVec 1 := Scalar.cmpi .ne v176 c0_i32_86
  v177

def k0_cond3 (i : grid0.Coords) : BitVec 1 :=
  let arg1 : BitVec 32 := BitVec.ofNat 32 (i 1).val
  let c2_i32_87 : BitVec 32 := 2#32
  let v178 : BitVec 1 := Scalar.cmpi .eq arg1 c2_i32_87
  let v179 : BitVec 32 := Scalar.extui v178
  let c0_i32_88 : BitVec 32 := 0#32
  let v180 : BitVec 1 := Scalar.cmpi .ne v179 c0_i32_88
  v180

def k0_cond4 (i : grid0.Coords) : BitVec 1 :=
  let arg1 : BitVec 32 := BitVec.ofNat 32 (i 1).val
  let c3_i32_89 : BitVec 32 := 3#32
  let v181 : BitVec 1 := Scalar.cmpi .eq arg1 c3_i32_89
  let v182 : BitVec 32 := Scalar.extui v181
  let c0_i32_90 : BitVec 32 := 0#32
  let v183 : BitVec 1 := Scalar.cmpi .ne v182 c0_i32_90
  v183

def k0_cond5 (i : grid0.Coords) : BitVec 1 :=
  let arg1 : BitVec 32 := BitVec.ofNat 32 (i 1).val
  let c4_i32 : BitVec 32 := 4#32
  let v184 : BitVec 1 := Scalar.cmpi .eq arg1 c4_i32
  let v185 : BitVec 32 := Scalar.extui v184
  let c0_i32_91 : BitVec 32 := 0#32
  let v186 : BitVec 1 := Scalar.cmpi .ne v185 c0_i32_91
  v186

def k0_cond6 (i : grid0.Coords) : BitVec 1 :=
  let arg1 : BitVec 32 := BitVec.ofNat 32 (i 1).val
  let c5_i32 : BitVec 32 := 5#32
  let v187 : BitVec 1 := Scalar.cmpi .eq arg1 c5_i32
  let v188 : BitVec 32 := Scalar.extui v187
  let c0_i32_92 : BitVec 32 := 0#32
  let v189 : BitVec 1 := Scalar.cmpi .ne v188 c0_i32_92
  v189

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ProjRefIdeal.lean ====
abbrev S2x8192x2048 : Shape := ⟨3, ![2, 8192, 2048]⟩
abbrev S1x2048 : Shape := ⟨2, ![1, 2048]⟩
abbrev S1x2048x6144 : Shape := ⟨3, ![1, 2048, 6144]⟩
abbrev S1x64 : Shape := ⟨2, ![1, 64]⟩
abbrev S1x128 : Shape := ⟨2, ![1, 128]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x6144 : Shape := ⟨2, ![2048, 6144]⟩
abbrev S2x8192x6144 : Shape := ⟨3, ![2, 8192, 6144]⟩
abbrev S2x8192x1024 : Shape := ⟨3, ![2, 8192, 1024]⟩
abbrev S2x8192x8x2x64 : Shape := ⟨5, ![2, 8192, 8, 2, 64]⟩
abbrev S64 : Shape := ⟨1, ![64]⟩
abbrev S2x8192x8x2 : Shape := ⟨4, ![2, 8192, 8, 2]⟩
abbrev S2x8192x8x2x1 : Shape := ⟨5, ![2, 8192, 8, 2, 1]⟩
abbrev S1x1x1x1x64 : Shape := ⟨5, ![1, 1, 1, 1, 64]⟩
abbrev S2x8192x8x128 : Shape := ⟨4, ![2, 8192, 8, 128]⟩
abbrev S128 : Shape := ⟨1, ![128]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S16384x1024 : Shape := ⟨2, ![16384, 1024]⟩
abbrev S16384x6144 : Shape := ⟨2, ![16384, 6144]⟩

abbrev nBuf : Space → Nat
  | .hbm => 118
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S1x2048x6144, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S1x128, .f32⟩
  | .hbm, ⟨7, _⟩ => ⟨S2048, .f32⟩
  | .hbm, ⟨8, _⟩ => ⟨S2x8192x2048, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x2048, .f32⟩
  | .hbm, ⟨20, _⟩ => ⟨S2x8192x2048, .f32⟩
  | .hbm, ⟨21, _⟩ => ⟨S1x1x2048, .f32⟩
  | .hbm, ⟨22, _⟩ => ⟨S2x8192x2048, .f32⟩
  | .hbm, ⟨23, _⟩ => ⟨S2x8192x2048, .f32⟩
  | .hbm, ⟨24, _⟩ => ⟨S2048x6144, .f32⟩
  | .hbm, ⟨25, _⟩ => ⟨S2x8192x6144, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S2x8192x8x2x64, .f32⟩
  | .hbm, ⟨33, _⟩ => ⟨S64, .f32⟩
  | .hbm, ⟨34, _⟩ => ⟨S2x8192x8x2x64, .f32⟩
  | .hbm, ⟨35, _⟩ => ⟨S_, .f32⟩
  | .hbm, ⟨36, _⟩ => ⟨S2x8192x8x2, .f32⟩
  | .hbm, ⟨37, _⟩ => ⟨S2x8192x8x2x1, .f32⟩
  | .hbm, ⟨38, _⟩ => ⟨S_, .f32⟩
  | .hbm, ⟨39, _⟩ => ⟨S2x8192x8x2x1, .f32⟩
  | .hbm, ⟨40, _⟩ => ⟨S2x8192x8x2x1, .f32⟩
  | .hbm, ⟨41, _⟩ => ⟨S_, .f32⟩
  | .hbm, ⟨42, _⟩ => ⟨S2x8192x8x2x1, .f32⟩
  | .hbm, ⟨43, _⟩ => ⟨S2x8192x8x2x1, .f32⟩
  | .hbm, ⟨44, _⟩ => ⟨S2x8192x8x2x1, .f32⟩
  | .hbm, ⟨45, _⟩ => ⟨S2x8192x8x2x64, .f32⟩
  | .hbm, ⟨46, _⟩ => ⟨S2x8192x8x2x64, .f32⟩
  | .hbm, ⟨47, _⟩ => ⟨S1x1x1x1x64, .f32⟩
  | .hbm, ⟨48, _⟩ => ⟨S2x8192x8x2x64, .f32⟩
  | .hbm, ⟨49, _⟩ => ⟨S2x8192x8x2x64, .f32⟩
  | .hbm, ⟨50, _⟩ => ⟨S2x8192x8x2x64, .f32⟩
  | .hbm, ⟨51, _⟩ => ⟨S64, .f32⟩
  | .hbm, ⟨52, _⟩ => ⟨S2x8192x8x2x64, .f32⟩
  | .hbm, ⟨53, _⟩ => ⟨S_, .f32⟩
  | .hbm, ⟨54, _⟩ => ⟨S2x8192x8x2, .f32⟩
  | .hbm, ⟨55, _⟩ => ⟨S2x8192x8x2x1, .f32⟩
  | .hbm, ⟨56, _⟩ => ⟨S_, .f32⟩
  | .hbm, ⟨57, _⟩ => ⟨S2x8192x8x2x1, .f32⟩
  | .hbm, ⟨58, _⟩ => ⟨S2x8192x8x2x1, .f32⟩
  | .hbm, ⟨59, _⟩ => ⟨S_, .f32⟩
  | .hbm, ⟨60, _⟩ => ⟨S2x8192x8x2x1, .f32⟩
  | .hbm, ⟨61, _⟩ => ⟨S2x8192x8x2x1, .f32⟩
  | .hbm, ⟨62, _⟩ => ⟨S2x8192x8x2x1, .f32⟩
  | .hbm, ⟨63, _⟩ => ⟨S2x8192x8x2x64, .f32⟩
  | .hbm, ⟨64, _⟩ => ⟨S2x8192x8x2x64, .f32⟩
  | .hbm, ⟨65, _⟩ => ⟨S1x1x1x1x64, .f32⟩
  | .hbm, ⟨66, _⟩ => ⟨S2x8192x8x2x64, .f32⟩
  | .hbm, ⟨67, _⟩ => ⟨S2x8192x8x2x64, .f32⟩
  | .hbm, ⟨68, _⟩ => ⟨S2x8192x8x128, .f32⟩
  | .hbm, ⟨69, _⟩ => ⟨S128, .f32⟩
  | .hbm, ⟨70, _⟩ => ⟨S2x8192x8x128, .f32⟩
  | .hbm, ⟨71, _⟩ => ⟨S_, .f32⟩
  | .hbm, ⟨72, _⟩ => ⟨S2x8192x8, .f32⟩
  | .hbm, ⟨73, _⟩ => ⟨S2x8192x8x1, .f32⟩
  | .hbm, ⟨74, _⟩ => ⟨S_, .f32⟩
  | .hbm, ⟨75, _⟩ => ⟨S2x8192x8x1, .f32⟩
  | .hbm, ⟨76, _⟩ => ⟨S2x8192x8x1, .f32⟩
  | .hbm, ⟨77, _⟩ => ⟨S_, .f32⟩
  | .hbm, ⟨78, _⟩ => ⟨S2x8192x8x1, .f32⟩
  | .hbm, ⟨79, _⟩ => ⟨S2x8192x8x1, .f32⟩
  | .hbm, ⟨80, _⟩ => ⟨S2x8192x8x1, .f32⟩
  | .hbm, ⟨81, _⟩ => ⟨S2x8192x8x128, .f32⟩
  | .hbm, ⟨82, _⟩ => ⟨S2x8192x8x128, .f32⟩
  | .hbm, ⟨83, _⟩ => ⟨S1x1x1x128, .f32⟩
  | .hbm, ⟨84, _⟩ => ⟨S2x8192x8x128, .f32⟩
  | .hbm, ⟨85, _⟩ => ⟨S2x8192x8x128, .f32⟩
  | .hbm, ⟨86, _⟩ => ⟨S2x8192x8x128, .f32⟩
  | .hbm, ⟨87, _⟩ => ⟨S128, .f32⟩
  | .hbm, ⟨88, _⟩ => ⟨S2x8192x8x128, .f32⟩
  | .hbm, ⟨89, _⟩ => ⟨S_, .f32⟩
  | .hbm, ⟨90, _⟩ => ⟨S2x8192x8, .f32⟩
  | .hbm, ⟨91, _⟩ => ⟨S2x8192x8x1, .f32⟩
  | .hbm, ⟨92, _⟩ => ⟨S_, .f32⟩
  | .hbm, ⟨93, _⟩ => ⟨S2x8192x8x1, .f32⟩
  | .hbm, ⟨94, _⟩ => ⟨S2x8192x8x1, .f32⟩
  | .hbm, ⟨95, _⟩ => ⟨S_, .f32⟩
  | .hbm, ⟨96, _⟩ => ⟨S2x8192x8x1, .f32⟩
  | .hbm, ⟨97, _⟩ => ⟨S2x8192x8x1, .f32⟩
  | .hbm, ⟨98, _⟩ => ⟨S2x8192x8x1, .f32⟩
  | .hbm, ⟨99, _⟩ => ⟨S2x8192x8x128, .f32⟩
  | .hbm, ⟨100, _⟩ => ⟨S2x8192x8x128, .f32⟩
  | .hbm, ⟨101, _⟩ => ⟨S1x1x1x128, .f32⟩
  | .hbm, ⟨102, _⟩ => ⟨S2x8192x8x128, .f32⟩
  | .hbm, ⟨103, _⟩ => ⟨S2x8192x8x128, .f32⟩
  | .hbm, ⟨104, _⟩ => ⟨S16384x1024, .f32⟩
  | .hbm, ⟨105, _⟩ => ⟨S16384x1024, .f32⟩
  | .hbm, ⟨106, _⟩ => ⟨S16384x1024, .f32⟩
  | .hbm, ⟨107, _⟩ => ⟨S16384x1024, .f32⟩
  | .hbm, ⟨108, _⟩ => ⟨S16384x1024, .f32⟩
  | .hbm, ⟨109, _⟩ => ⟨S16384x1024, .f32⟩
  | .hbm, ⟨110, _⟩ => ⟨S_, .f32⟩
  | .hbm, ⟨111, _⟩ => ⟨S16384x1024, .f32⟩
  | .hbm, ⟨112, _⟩ => ⟨S16384x1024, .f32⟩
  | .hbm, ⟨113, _⟩ => ⟨S_, .f32⟩
  | .hbm, ⟨114, _⟩ => ⟨S16384x1024, .f32⟩
  | .hbm, ⟨115, _⟩ => ⟨S16384x1024, .f32⟩
  | .hbm, ⟨116, _⟩ => ⟨S16384x6144, .f32⟩
  | .hbm, ⟨117, _⟩ => ⟨S16384x6144, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_11 : Ref sig .tc := ⟨.hbm, 89, rfl⟩
abbrev main_v70 : Ref sig .tc := ⟨.hbm, 90, rfl⟩
abbrev main_v71 : Ref sig .tc := ⟨.hbm, 91, rfl⟩
abbrev main_cst_12 : Ref sig .tc := ⟨.hbm, 92, rfl⟩
abbrev main_v72 : Ref sig .tc := ⟨.hbm, 93, rfl⟩
abbrev main_v73 : Ref sig .tc := ⟨.hbm, 94, rfl⟩
abbrev main_cst_13 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_14 : Ref sig .tc := ⟨.hbm, 110, rfl⟩
abbrev main_v88 : Ref sig .tc := ⟨.hbm, 111, rfl⟩
abbrev main_v89 : Ref sig .tc := ⟨.hbm, 112, rfl⟩
abbrev main_cst_15 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩

abbrev nD : Nat := 1
abbrev τ : Topo := Topo.v7x

variable {F : FTy → Type} [FloatOps F]
-- ==== Kmean.lean ====
abbrev S16384x1024 : Shape := ⟨2, ![16384, 1024]⟩
abbrev S64x1024 : Shape := ⟨2, ![64, 1024]⟩
abbrev S2048x1024 : Shape := ⟨2, ![2048, 1024]⟩
abbrev S8x1024 : Shape := ⟨2, ![8, 1024]⟩
abbrev S8x256x1024 : Shape := ⟨3, ![8, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S16384x1024, .f32⟩
  | .hbm, ⟨1, _⟩ => ⟨S64x1024, .f32⟩
  | .local _ .vmem, ⟨0, _⟩ => ⟨S2048x1024, .f32⟩
  | .local _ .vmem, ⟨1, _⟩ => ⟨S2048x1024, .f32⟩
  | .local _ .vmem, ⟨2, _⟩ => ⟨S8x1024, .f32⟩
  | .local _ .vmem, ⟨3, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KmeanRefIdeal.lean ====
abbrev S16384x1024 : Shape := ⟨2, ![16384, 1024]⟩
abbrev S2x32x256x1024 : Shape := ⟨4, ![2, 32, 256, 1024]⟩
abbrev S_ : Shape := ⟨0, ![]⟩
abbrev S2x32x1024 : Shape := ⟨3, ![2, 32, 1024]⟩
abbrev S64x1024 : Shape := ⟨2, ![64, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x32x256x1024, .f32⟩
  | .hbm, ⟨2, _⟩ => ⟨S_, .f32⟩
  | .hbm, ⟨3, _⟩ => ⟨S2x32x1024, .f32⟩
  | .hbm, ⟨4, _⟩ => ⟨S_, .f32⟩
  | .hbm, ⟨5, _⟩ => ⟨S2x32x1024, .f32⟩
  | .hbm, ⟨6, _⟩ => ⟨S2x32x1024, .f32⟩
  | .hbm, ⟨7, _⟩ => ⟨S64x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Gate.lean ====
abbrev S32x8x128 : Shape := ⟨3, ![32, 8, 128]⟩
abbrev S32x64x8x128 : Shape := ⟨4, ![32, 64, 8, 128]⟩
abbrev S32x3x8x1 : Shape := ⟨4, ![32, 3, 8, 1]⟩
abbrev S1x8x128 : Shape := ⟨3, ![1, 8, 128]⟩
abbrev S1x64x8x128 : Shape := ⟨4, ![1, 64, 8, 128]⟩
abbrev S1x3x8x1 : Shape := ⟨4, ![1, 3, 8, 1]⟩
abbrev S64x8x128 : Shape := ⟨3, ![64, 8, 128]⟩
abbrev S8x128 : Shape := ⟨2, ![8, 128]⟩
abbrev S64x8 : Shape := ⟨2, ![64, 8]⟩
abbrev S64x8x1 : Shape := ⟨3, ![64, 8, 1]⟩
abbrev S8x1 : Shape := ⟨2, ![8, 1]⟩
abbrev S1x8x1 : Shape := ⟨3, ![1, 8, 1]⟩
abbrev S1x1x8x1 : Shape := ⟨4, ![1, 1, 8, 1]⟩

abbrev nBuf : Space → Nat
  | .hbm => 3
  | .vmem => 6
  | .smem => 0
  | _ => 0

abbrev bufTy : (tb : Table) → Fin (tcTables nBuf tb) → BufTy
  | .hbm, ⟨0, _⟩ => ⟨S32x8x128, .f32⟩
  | .hbm, ⟨1, _⟩ => ⟨S32x64x8x128, .f32⟩
  | .hbm, ⟨2, _⟩ => ⟨S32x3x8x1, .i32⟩
  | .local _ .vmem, ⟨0, _⟩ => ⟨S1x8x128, .f32⟩
  | .local _ .vmem, ⟨1, _⟩ => ⟨S1x8x128, .f32⟩
  | .local _ .vmem, ⟨2, _⟩ => ⟨S1x64x8x128, .f32⟩
  | .local _ .vmem, ⟨3, _⟩ => ⟨S1x64x8x128, .f32⟩
  | .local _ .vmem, ⟨4, _⟩ => ⟨S1x3x8x1, .i32⟩
  | .local _ .vmem, ⟨5, _⟩ => ⟨S1x3x8x1, .i32⟩
  | _, _ => ⟨S32x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x8x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateRefIdeal.lean ====
abbrev S32x8x128 : Shape := ⟨3, ![32, 8, 128]⟩
abbrev S32x64x8x128 : Shape := ⟨4, ![32, 64, 8, 128]⟩
abbrev S32x8x64x128 : Shape := ⟨4, ![32, 8, 64, 128]⟩
abbrev S_ : Shape := ⟨0, ![]⟩
abbrev S32x8x64 : Shape := ⟨3, ![32, 8, 64]⟩
abbrev S32x8x3 : Shape := ⟨3, ![32, 8, 3]⟩
abbrev S32x3x8 : Shape := ⟨3, ![32, 3, 8]⟩
abbrev S32x3x8x1 : Shape := ⟨4, ![32, 3, 8, 1]⟩

abbrev nBuf : Space → Nat
  | .hbm => 11
  | .vmem => 0
  | .smem => 0
  | _ => 0

abbrev bufTy : (tb : Table) → Fin (tcTables nBuf tb) → BufTy
  | .hbm, ⟨0, _⟩ => ⟨S32x8x128, .f32⟩
  | .hbm, ⟨1, _⟩ => ⟨S32x64x8x128, .f32⟩
  | .hbm, ⟨2, _⟩ => ⟨S32x8x64x128, .f32⟩
  | .hbm, ⟨3, _⟩ => ⟨S_, .f32⟩
  | .hbm, ⟨4, _⟩ => ⟨S32x8x64x128, .f32⟩
  | .hbm, ⟨5, _⟩ => ⟨S32x8x64x128, .f32⟩
  | .hbm, ⟨6, _⟩ => ⟨S32x8x64, .f32⟩
  | .hbm, ⟨7, _⟩ => ⟨S32x8x3, .f32⟩
  | .hbm, ⟨8, _⟩ => ⟨S32x8x3, .i32⟩
  | .hbm, ⟨9, _⟩ => ⟨S32x3x8, .i32⟩
  | .hbm, ⟨10, _⟩ => ⟨S32x3x8x1, .i32⟩
  | _, _ => ⟨S32x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_values : Ref sig .tc := ⟨.hbm, 7, rfl⟩
abbrev main_indices : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Proof.Flash.lean ====
/-
  The mathematics of the streaming softmax on the extended reals, for one row of one head.

  A row has a score `s k` and a value `v k` for every key `k`. The kernel goes through the keys in tiles
  and keeps three numbers: the largest score so far, the sum of the weights `exp (s k - m)`, and the sum of
  the weighted values. `M`, `L` and `A` are those three for the first `N` keys, and `M_add`, `L_add`, `A_add`
  say how a further tile changes them. No score is assumed finite: a weight with an infinite
  maximum is `0`, and a weight with a finite maximum is a real number.
-/
module

public import Idealize.ShloMosaic.PureOps.Ideal

@[expose] public section

noncomputable section

namespace Cert.Flash

open Idealize.ShloMosaic

/-! ## One weight -/

/-- The weight of a score `s` against the maximum `m`. -/
def wt (s m : EReal) : EReal := Ideal.exp (s - m)

theorem wt_bot_right (s : EReal) (h : s ≤ ⊥) : wt s ⊥ = 0 := by
  obtain rfl : s = ⊥ := le_bot_iff.mp h
  simp [wt]

theorem wt_top_right (s : EReal) : wt s ⊤ = 0 := by
  rw [wt, EReal.sub_top]
  exact Ideal.exp_bot

theorem wt_bot_left (m : EReal) : wt ⊥ m = 0 := by
  rw [wt, EReal.bot_sub]
  exact Ideal.exp_bot

theorem wt_coe (a b : ℝ) : wt a b = ((Real.exp (a - b) : ℝ) : EReal) := by
  rw [wt, ← EReal.coe_sub]
  exact Ideal.exp_coe _

/-- A weight against a maximum is a real number, and not negative. -/
theorem wt_real {s m : EReal} (h : s ≤ m) : ∃ r : ℝ, 0 ≤ r ∧ wt s m = (r : EReal) := by
  induction m with
  | bot => exact ⟨0, le_rfl, wt_bot_right s h⟩
  | top => exact ⟨0, le_rfl, wt_top_right s⟩
  | coe m =>
    induction s with
    | bot => exact ⟨0, le_rfl, wt_bot_left _⟩
    | top => exact absurd h (by simp)
    | coe s => exact ⟨_, (Real.exp_pos _).le, wt_coe s m⟩

/-- A weight measured against an earlier maximum, corrected to a later one. -/
theorem wt_mul {s m m' : EReal} (h : s ≤ m) (h' : m ≤ m') : wt m m' * wt s m = wt s m' := by
  induction m' with
  | bot => rw [wt_bot_right m h', wt_bot_right s (h.trans h'), zero_mul]
  | top => rw [wt_top_right, wt_top_right, zero_mul]
  | coe m' =>
    induction m with
    | top => exact absurd h' (by simp)
    | bot =>
      obtain rfl : s = ⊥ := le_bot_iff.mp h
      rw [wt_bot_left, wt_bot_left, zero_mul]
    | coe m =>
      induction s with
      | top => exact absurd h (by simp)
      | bot => rw [wt_bot_left, wt_bot_left, mul_zero]
      | coe s =>
        rw [wt_coe, wt_coe, wt_coe, ← EReal.coe_mul]
        congr 1
        rw [← Real.exp_add]
        congr 1
        ring

/-- A real factor that is not negative goes through a sum of extended reals. -/
theorem mul_sum {ι : Type*} (S : Finset ι) (a : ℝ) (ha : 0 ≤ a) (f : ι → EReal) :
    (a : EReal) * ∑ i ∈ S, f i = ∑ i ∈ S, (a : EReal) * f i := by
  classical
  induction S using Finset.induction_on with
  | empty => simp
  | insert i S hi ih =>
    rw [Finset.sum_insert hi, Finset.sum_insert hi, ← ih]
    exact EReal.left_distrib_of_nonneg_of_ne_top (EReal.coe_nonneg.mpr ha) (EReal.coe_ne_top a) _ _

/-! ## Lists of keys -/

/-- The constant the maximum starts from is minus infinity. -/
theorem negInf : Ideal.ofBits .f32 0xFF800000#32 = ⊥ := by simp [Ideal.ofBits, Ideal.ieee]

theorem fold_bot {ι : Type*} (S : Finset ι) (f : ι → EReal) : S.fold max ⊥ f = S.sup f := rfl

/-- The largest over the first `n` numbers, as the largest over `Fin n`. -/
theorem sup_range (n : ℕ) (f : ℕ → EReal) : (Finset.range n).sup f = Finset.univ.sup fun i : Fin n => f i.val := by
  apply le_antisymm
  · exact Finset.sup_le fun k hk =>
      Finset.le_sup (f := fun i : Fin n => f i.val) (Finset.mem_univ ⟨k, Finset.mem_range.mp hk⟩)
  · exact Finset.sup_le fun i _ => Finset.le_sup (f := f) (Finset.mem_range.mpr i.isLt)

/-! ## The three numbers of a row -/

/-- The largest of the first `N` scores. -/
def M (s : ℕ → EReal) (N : ℕ) : EReal := (Finset.range N).sup s

/-- The sum of the first `N` weights. -/
def L (s : ℕ → EReal) (N : ℕ) : EReal := ∑ k ∈ Finset.range N, wt (s k) (M s N)

/-- The weighted sum of the first `N` values. -/
def A (s v : ℕ → EReal) (N : ℕ) : EReal := ∑ k ∈ Finset.range N, wt (s k) (M s N) * v k

theorem le_M (s : ℕ → EReal) {N k : ℕ} (h : k < N) : s k ≤ M s N :=
  Finset.le_sup (f := s) (Finset.mem_range.mpr h)

theorem M_zero (s : ℕ → EReal) : M s 0 = ⊥ := rfl
theorem L_zero (s : ℕ → EReal) : L s 0 = 0 := rfl
theorem A_zero (s v : ℕ → EReal) : A s v 0 = 0 := rfl

/-- The maximum after a further tile of `T` scores. -/
theorem M_add (s : ℕ → EReal) (N T : ℕ) :
    M s (N + T) = max (M s N) ((Finset.range T).sup fun j => s (N + j)) := by
  unfold M
  apply le_antisymm
  · refine Finset.sup_le fun k hk => ?_
    rw [Finset.mem_range] at hk
    by_cases h : k < N
    · exact (Finset.le_sup (f := s) (Finset.mem_range.mpr h)).trans (le_max_left _ _)
    · obtain ⟨j, rfl⟩ := Nat.exists_eq_add_of_le (Nat.le_of_not_lt h)
      exact (Finset.le_sup (f := fun j => s (N + j)) (Finset.mem_range.mpr (by omega : j < T))).trans (le_max_right _ _)
  · refine max_le (Finset.sup_mono (Finset.range_mono (Nat.le_add_right _ _))) (Finset.sup_le fun j hj => ?_)
    rw [Finset.mem_range] at hj
    exact Finset.le_sup (f := s) (Finset.mem_range.mpr (by omega : N + j < N + T))

theorem M_le_add (s : ℕ → EReal) (N T : ℕ) : M s N ≤ M s (N + T) := by
  rw [M_add]; exact le_max_left _ _

/-- The sum of the weights after a further tile. -/
theorem L_add (s : ℕ → EReal) (N T : ℕ) :
    L s (N + T) = wt (M s N) (M s (N + T)) * L s N + ∑ j ∈ Finset.range T, wt (s (N + j)) (M s (N + T)) := by
  unfold L
  rw [Finset.sum_range_add]
  congr 1
  obtain ⟨a, ha, e⟩ := wt_real (M_le_add s N T)
  rw [e, mul_sum _ _ ha, ← e]
  exact Finset.sum_congr rfl fun k hk => (wt_mul (le_M s (Finset.mem_range.mp hk)) (M_le_add s N T)).symm

/-- The weighted sum of the values after a further tile. -/
theorem A_add (s v : ℕ → EReal) (N T : ℕ) :
    A s v (N + T) = wt (M s N) (M s (N + T)) * A s v N
      + ∑ j ∈ Finset.range T, wt (s (N + j)) (M s (N + T)) * v (N + j) := by
  unfold A
  rw [Finset.sum_range_add]
  congr 1
  obtain ⟨a, ha, e⟩ := wt_real (M_le_add s N T)
  rw [e, mul_sum _ _ ha, ← e]
  refine Finset.sum_congr rfl fun k hk => ?_
  rw [← mul_assoc, wt_mul (le_M s (Finset.mem_range.mp hk)) (M_le_add s N T)]

/-! ## Scores that are minus infinity change nothing -/

theorem M_extend (s : ℕ → EReal) {N S : ℕ} (h : N ≤ S) (hs : ∀ k, N ≤ k → k < S → s k = ⊥) : M s S = M s N := by
  obtain ⟨T, rfl⟩ := Nat.exists_eq_add_of_le h
  rw [M_add]
  refine max_eq_left (Finset.sup_le fun j hj => ?_)
  rw [Finset.mem_range] at hj
  rw [hs (N + j) (Nat.le_add_right _ _) (by omega)]
  exact bot_le

theorem L_extend (s : ℕ → EReal) {N S : ℕ} (h : N ≤ S) (hs : ∀ k, N ≤ k → k < S → s k = ⊥) : L s S = L s N := by
  have hM := M_extend s h hs
  unfold L
  rw [hM]
  obtain ⟨T, rfl⟩ := Nat.exists_eq_add_of_le h
  rw [Finset.sum_range_add, Finset.sum_eq_zero (s := Finset.range T), add_zero]
  intro j hj
  rw [Finset.mem_range] at hj
  rw [hs (N + j) (Nat.le_add_right _ _) (by omega), wt_bot_left]

theorem A_extend (s v : ℕ → EReal) {N S : ℕ} (h : N ≤ S) (hs : ∀ k, N ≤ k → k < S → s k = ⊥) : A s v S = A s v N := by
  have hM := M_extend s h hs
  unfold A
  rw [hM]
  obtain ⟨T, rfl⟩ := Nat.exists_eq_add_of_le h
  rw [Finset.sum_range_add, Finset.sum_eq_zero (s := Finset.range T), add_zero]
  intro j hj
  rw [Finset.mem_range] at hj
  rw [hs (N + j) (Nat.le_add_right _ _) (by omega), wt_bot_left, zero_mul]

/-! ## What the sum of the weights can be -/

/-- The sum of the weights is a real number, and not negative. -/
theorem L_real (s : ℕ → EReal) (N : ℕ) : ∃ r : ℝ, 0 ≤ r ∧ L s N = (r : EReal) := by
  unfold L
  have h : ∀ S ⊆ Finset.range N, ∃ r : ℝ, 0 ≤ r ∧ ∑ k ∈ S, wt (s k) (M s N) = (r : EReal) := by
    classical
    intro S
    induction S using Finset.induction_on with
    | empty => intro _; exact ⟨0, le_rfl, by simp⟩
    | insert i S hi ih =>
      intro hS
      obtain ⟨r, hr, e⟩ := ih ((Finset.subset_insert i S).trans hS)
      obtain ⟨a, ha, e'⟩ := wt_real (le_M s (Finset.mem_range.mp (hS (Finset.mem_insert_self i S))))
      exact ⟨a + r, add_nonneg ha hr, by rw [Finset.sum_insert hi, e, e', EReal.coe_add]⟩
  exact h _ (Finset.Subset.refl _)

/-- With a real maximum the sum of the weights is positive. -/
theorem L_pos (s : ℕ → EReal) {N : ℕ} {m : ℝ} (hM : M s N = (m : EReal)) : 0 < L s N := by
  have hne : (Finset.range N).Nonempty := by
    rw [Finset.nonempty_iff_ne_empty]
    intro h
    rw [M, h, Finset.sup_empty] at hM
    exact EReal.bot_ne_coe m hM
  obtain ⟨k, hk, e⟩ := Finset.exists_mem_eq_sup (Finset.range N) hne s
  have hw : wt (s k) (M s N) = 1 := by
    rw [← e, show (Finset.range N).sup s = M s N from rfl, hM, wt_coe, sub_self]
    simp
  calc (0 : EReal) < 1 := zero_lt_one
    _ = wt (s k) (M s N) := hw.symm
    _ ≤ L s N := Finset.single_le_sum (f := fun k => wt (s k) (M s N)) (fun i hi => by
        obtain ⟨r, hr, e⟩ := wt_real (le_M s (Finset.mem_range.mp hi))
        show 0 ≤ wt (s i) (M s N)
        rw [e]; exact EReal.coe_nonneg.mpr hr) hk

/-- With an infinite maximum every weight is zero. -/
theorem wt_zero_of_infinite (s : ℕ → EReal) {N : ℕ} (h : M s N = ⊥ ∨ M s N = ⊤) {k : ℕ} (hk : k < N) :
    wt (s k) (M s N) = 0 := by
  rcases h with h | h
  · rw [h]; exact wt_bot_right _ (h ▸ le_M s hk)
  · rw [h]; exact wt_top_right _

end Cert.Flash

end
-- ==== Proof.Row.lean ====
/-
  One row of one head of the differential attention: the streaming form and the plain form give the same row.

  A row has two lists of scores `s₁` and `s₂`, one for each component of the queries, and values `v j k` in lane
  `j` of key `k`. The streaming form divides a weighted sum of the values by the sum of the weights; the plain
  form divides each weight first and then sums. The two results of a component are combined as
  `o₁ - lam * o₂` and the row is then divided by its root mean square.

  Where the scores have a real maximum the two forms agree lane by lane. Where they do not, the two forms differ
  before the normalisation, but the normalised row is zero in both: a row with an infinite entry has an
  infinite mean square, and the reciprocal of its root is zero.
-/
module

public import proofs.«01_k».proof.Proof.Flash

@[expose] public section

noncomputable section

namespace Cert.Flash

open Idealize.ShloMosaic

/-! ## Infinite values -/

/-- An extended real that is not a real number. -/
def Infinite (x : EReal) : Prop := x = ⊤ ∨ x = ⊥

theorem Infinite.add {x y : EReal} (h : Infinite x) (h' : Infinite y) : Infinite (x + y) := by
  rcases h with rfl | rfl <;> rcases h' with rfl | rfl
  · left; rfl
  · right; simp
  · right; simp
  · right; rfl

theorem Infinite.sub_right {x : EReal} (h : Infinite x) (y : EReal) : Infinite (x - y) := by
  rcases h with rfl | rfl
  · induction y with
    | bot => left; rfl
    | top => right; exact EReal.sub_top _
    | coe y => left; exact EReal.top_sub_coe y
  · right; exact EReal.bot_sub _

theorem Infinite.sub_left {y : EReal} (x : EReal) (h : Infinite y) : Infinite (x - y) := by
  rcases h with rfl | rfl
  · right; exact EReal.sub_top _
  · induction x with
    | bot => right; exact EReal.bot_sub _
    | top => left; rfl
    | coe x => left; exact EReal.coe_sub_bot x

theorem mul_bot_infinite {x : EReal} (h : x ≠ 0) : Infinite (x * ⊥) := by
  rcases lt_or_gt_of_ne h with h | h
  · left; exact EReal.mul_bot_of_neg h
  · right; exact EReal.mul_bot_of_pos h

theorem Infinite.mul_left {x y : EReal} (h : x ≠ 0) (hy : Infinite y) : Infinite (x * y) := by
  rcases hy with rfl | rfl
  · rcases lt_or_gt_of_ne h with h | h
    · right; exact EReal.mul_top_of_neg h
    · left; exact EReal.mul_top_of_pos h
  · exact mul_bot_infinite h

theorem Infinite.mul_self {x : EReal} (h : Infinite x) : x * x = ⊤ := by
  rcases h with rfl | rfl
  · rfl
  · rfl

theorem mul_self_nonneg' (x : EReal) : 0 ≤ x * x := by
  induction x with
  | bot => exact le_top
  | top => exact le_top
  | coe x => rw [← EReal.coe_mul]; exact EReal.coe_nonneg.mpr (mul_self_nonneg x)

/-- A sum of values that are each multiplied by minus infinity is infinite, unless every value is zero. -/
theorem sum_mul_bot {ι : Type*} (S : Finset ι) (v : ι → EReal) :
    (∀ k ∈ S, v k = 0) ∨ Infinite (∑ k ∈ S, v k * ⊥) := by
  classical
  induction S using Finset.induction_on with
  | empty => left; simp
  | insert i S hi ih =>
    rw [Finset.sum_insert hi]
    by_cases h : v i = 0
    · rcases ih with ih | ih
      · left
        intro k hk
        rcases Finset.mem_insert.mp hk with rfl | hk
        · exact h
        · exact ih k hk
      · right; rw [h, zero_mul, zero_add]; exact ih
    · right
      rcases ih with ih | ih
      · rw [Finset.sum_eq_zero (fun k hk => by rw [ih k hk, zero_mul]), add_zero]
        exact mul_bot_infinite h
      · exact (mul_bot_infinite h).add ih

/-! ## The normalised row -/

/-- A row divided by its root mean square and multiplied by a gain and a constant. -/
def norm (o g : Fin 128 → EReal) (d eps c : EReal) (j : Fin 128) : EReal :=
  o j * Ideal.rsqrt (Ideal.div (∑ i, o i * o i) d + eps) * g j * c

theorem norm_zero {o : Fin 128 → EReal} (g : Fin 128 → EReal) (d eps c : EReal) (h : ∀ j, o j = 0) (j : Fin 128) :
    norm o g d eps c j = 0 := by
  rw [norm, h j, zero_mul, zero_mul, zero_mul]

theorem norm_infinite {o : Fin 128 → EReal} (g : Fin 128 → EReal) {d eps : ℝ} (c : EReal) (hd : 0 < d)
    (h : ∃ j, Infinite (o j)) (j : Fin 128) : norm o g d eps c j = 0 := by
  obtain ⟨i, hi⟩ := h
  have hs : ∑ i, o i * o i = ⊤ := by
    refine top_le_iff.mp ?_
    rw [← hi.mul_self]
    exact Finset.single_le_sum (f := fun i => o i * o i) (fun i _ => mul_self_nonneg' (o i)) (Finset.mem_univ i)
  have hd' : ((d : ℝ) : EReal) ≠ 0 := by exact_mod_cast hd.ne'
  have hdiv : Ideal.div (⊤ : EReal) d = ⊤ := by
    rw [Ideal.div, if_neg hd', ← EReal.coe_inv]
    exact EReal.top_mul_of_pos (EReal.coe_pos.mpr (inv_pos.mpr hd))
  rw [norm, hs, hdiv, EReal.top_add_coe, Ideal.rsqrt_top, mul_zero, zero_mul, zero_mul]

/-! ## The two forms of a component's row -/

/-- The streaming form over the first `N` keys: the weighted sum over the sum of the weights. -/
def streamed (s v : ℕ → EReal) (N : ℕ) : EReal := Ideal.div (A s v N) (L s N)

/-- The plain form over `S` keys: every weight divided by the sum, then the values weighted and summed. -/
def plain (s v : ℕ → EReal) (S : ℕ) : EReal :=
  ∑ k ∈ Finset.range S, v k * Ideal.div (wt (s k) (M s S)) (L s S)

theorem infinite_or_real (x : EReal) : (x = ⊥ ∨ x = ⊤) ∨ ∃ r : ℝ, x = (r : EReal) := by
  induction x with
  | bot => exact Or.inl (Or.inl rfl)
  | top => exact Or.inl (Or.inr rfl)
  | coe r => exact Or.inr ⟨r, rfl⟩

/-- With a real maximum the two forms agree. -/
theorem plain_eq_streamed (s v : ℕ → EReal) (N : ℕ) {m : ℝ} (h : M s N = (m : EReal)) : plain s v N = streamed s v N := by
  obtain ⟨l, hl, e⟩ := L_real s N
  have hpos := L_pos s h
  have hne : L s N ≠ 0 := hpos.ne'
  unfold plain streamed
  simp only [Ideal.div, if_neg hne]
  unfold A
  rw [e, ← EReal.coe_inv, mul_comm, mul_sum _ _ (inv_nonneg.mpr hl)]
  refine Finset.sum_congr rfl fun k _ => ?_
  rw [← mul_assoc, mul_comm (v k), mul_comm]

theorem L_infinite {s : ℕ → EReal} {N : ℕ} (h : M s N = ⊥ ∨ M s N = ⊤) : L s N = 0 :=
  Finset.sum_eq_zero fun _ hk => wt_zero_of_infinite s h (Finset.mem_range.mp hk)

theorem div_zero_zero : Ideal.div 0 0 = ⊥ := by
  rw [Ideal.div, if_pos rfl, if_neg (lt_irrefl _)]

/-- With an infinite maximum the streaming form is minus infinity. -/
theorem streamed_infinite {s : ℕ → EReal} (v : ℕ → EReal) {N : ℕ} (h : M s N = ⊥ ∨ M s N = ⊤) : streamed s v N = ⊥ := by
  have hA : A s v N = 0 := Finset.sum_eq_zero fun k hk => by
    rw [wt_zero_of_infinite s h (Finset.mem_range.mp hk), zero_mul]
  rw [streamed, L_infinite h, hA, div_zero_zero]

/-- With an infinite maximum the plain form is infinite, unless every value is zero. -/
theorem plain_infinite {s : ℕ → EReal} (v : ℕ → EReal) {N : ℕ} (h : M s N = ⊥ ∨ M s N = ⊤) :
    (∀ k < N, v k = 0) ∨ Infinite (plain s v N) := by
  have e : plain s v N = ∑ k ∈ Finset.range N, v k * ⊥ := Finset.sum_congr rfl fun k hk => by
    rw [wt_zero_of_infinite s h (Finset.mem_range.mp hk), L_infinite h, div_zero_zero]
  rw [e]
  rcases sum_mul_bot (Finset.range N) v with h | h
  · exact Or.inl fun k hk => h k (Finset.mem_range.mpr hk)
  · exact Or.inr h

theorem plain_of_zero (s : ℕ → EReal) {v : ℕ → EReal} {N : ℕ} (h : ∀ k < N, v k = 0) : plain s v N = 0 :=
  Finset.sum_eq_zero fun k hk => by rw [h k (Finset.mem_range.mp hk), zero_mul]

/-! ## The whole row -/

/-- The row of the streaming form, normalised, is the row of the plain form, normalised. -/
theorem row_eq (s₁ s₂ : ℕ → EReal) (v : Fin 128 → ℕ → EReal) (N : ℕ) (lam : EReal) (g : Fin 128 → EReal)
    {d eps : ℝ} (c : EReal) (hd : 0 < d) (j : Fin 128) :
    norm (fun j => streamed s₁ (v j) N - lam * streamed s₂ (v j) N) g d eps c j
      = norm (fun j => plain s₁ (v j) N - lam * plain s₂ (v j) N) g d eps c j := by
  have zeros (h : ∀ j, ∀ k < N, v j k = 0) :
      norm (fun j => plain s₁ (v j) N - lam * plain s₂ (v j) N) g d eps c j = 0 := by
    refine norm_zero g d eps c (fun j => ?_) j
    show plain s₁ (v j) N - lam * plain s₂ (v j) N = 0
    rw [plain_of_zero s₁ (h j), plain_of_zero s₂ (h j), mul_zero, sub_zero]
  rcases infinite_or_real (M s₁ N) with h₁ | ⟨m₁, h₁⟩
  · rw [norm_infinite g c hd ⟨j, Infinite.sub_right (Or.inr (streamed_infinite (v j) h₁)) _⟩]
    symm
    by_cases h : ∀ j, ∀ k < N, v j k = 0
    · exact zeros h
    · push Not at h
      obtain ⟨i, k, hk, hv⟩ := h
      refine norm_infinite g c hd ⟨i, ?_⟩ j
      rcases plain_infinite (v i) h₁ with h | h
      · exact absurd (h k hk) hv
      · exact h.sub_right _
  · rcases infinite_or_real (M s₂ N) with h₂ | ⟨m₂, h₂⟩
    · by_cases hl : lam = 0
      · subst hl
        simp only [zero_mul, plain_eq_streamed s₁ _ N h₁]
      · rw [norm_infinite g c hd ⟨j, Infinite.sub_left _
          (Infinite.mul_left hl (Or.inr (streamed_infinite (v j) h₂)))⟩]
        symm
        by_cases h : ∀ j, ∀ k < N, v j k = 0
        · exact zeros h
        · push Not at h
          obtain ⟨i, k, hk, hv⟩ := h
          refine norm_infinite g c hd ⟨i, ?_⟩ j
          rcases plain_infinite (v i) h₂ with h | h
          · exact absurd (h k hk) hv
          · exact Infinite.sub_left _ (h.mul_left hl)
    · simp only [plain_eq_streamed s₁ _ N h₁, plain_eq_streamed s₂ _ N h₂]

theorem streamed_extend (s v : ℕ → EReal) {N S : ℕ} (h : N ≤ S) (hs : ∀ k, N ≤ k → k < S → s k = ⊥) :
    streamed s v S = streamed s v N := by
  rw [streamed, streamed, A_extend s v h hs, L_extend s h hs]

/-! ## Scores that differ by a shift -/

theorem shift_mono (c : ℝ) : Monotone fun x : EReal => x + (c : EReal) := fun _ _ h => add_le_add_left h _

theorem sup_shift (s : ℕ → EReal) (c : ℝ) (N : ℕ) : ((Finset.range N).sup fun k => s k + (c : EReal)) = M s N + (c : EReal) :=
  (Finset.comp_sup_eq_sup_comp_of_is_total (fun x : EReal => x + (c : EReal)) (shift_mono c) (EReal.bot_add _)).symm

/-- The weight does not see a shift of score and maximum alike. -/
theorem wt_shift {s m : EReal} (c : ℝ) (h : s ≤ m) : wt (s + (c : EReal)) (m + (c : EReal)) = wt s m := by
  induction m with
  | bot =>
    obtain rfl : s = ⊥ := le_bot_iff.mp h
    rw [wt_bot_left, EReal.bot_add, wt_bot_left]
  | top => rw [wt_top_right, EReal.top_add_coe, wt_top_right]
  | coe m =>
    induction s with
    | bot => rw [wt_bot_left, EReal.bot_add, wt_bot_left]
    | top => exact absurd h (by simp)
    | coe s =>
      rw [← EReal.coe_add, ← EReal.coe_add, wt_coe, wt_coe]
      congr 2
      ring

/-- The plain form over shifted scores. -/
theorem plain_shift (s t v : ℕ → EReal) (c : ℝ) (N : ℕ) (h : ∀ k < N, t k = s k + (c : EReal)) : plain t v N = plain s v N := by
  have hM : M t N = M s N + (c : EReal) := by
    rw [← sup_shift]
    exact Finset.sup_congr rfl fun k hk => h k (Finset.mem_range.mp hk)
  have hw : ∀ k ∈ Finset.range N, wt (t k) (M t N) = wt (s k) (M s N) := fun k hk => by
    rw [hM, h k (Finset.mem_range.mp hk), wt_shift c (le_M s (Finset.mem_range.mp hk))]
  unfold plain L
  rw [Finset.sum_congr rfl hw]
  exact Finset.sum_congr rfl fun k hk => by rw [hw k hk]

end Cert.Flash

end
-- ==== Proof.Num.lean ====
/-
Whole numbers in the 32-bit words the programs count with, and the values of the constants a row's norm uses.
-/
module
public import Idealize.ShloMosaic.Lib.Pipeline.ValueKit
public import proofs.«01_k».proof.Proof.Row
@[expose] public section

noncomputable section

open Idealize.ShloMosaic

namespace Cert.Num

theorem ofNat_ofInt (a : ℕ) : BitVec.ofNat 32 a = BitVec.ofInt 32 (a : ℤ) := (BitVec.ofInt_natCast ..).symm

theorem sub_ofInt (a b : ℤ) : BitVec.ofInt 32 a - BitVec.ofInt 32 b = BitVec.ofInt 32 (a - b) := by
  rw [BitVec.sub_eq_add_neg, sub_eq_add_neg, BitVec.ofInt_add, BitVec.ofInt_neg]

theorem toInt_ofInt (z : ℤ) (h : -2147483648 ≤ z) (h' : z < 2147483648) : (BitVec.ofInt 32 z).toInt = z :=
  BitVec.toInt_ofInt_eq_self (by decide) (by norm_num; omega) (by norm_num; omega)

/-- A whole number within the words' range, converted, is that number. -/
theorem sitofp_ofInt (z : ℤ) (h : -2147483648 ≤ z) (h' : z < 2147483648) :
    FloatOps.sitofp (F := Ideal) .f32 (BitVec.ofInt 32 z) = ((z : ℝ) : EReal) := by
  change (((BitVec.ofInt 32 z).toInt : ℝ) : EReal) = _
  rw [toInt_ofInt z h h']

/-- Position `a` less position `b`, converted. -/
theorem sitofp_sub (a b : ℕ) (h : a < 2147483648) (h' : b < 2147483648) :
    FloatOps.sitofp (F := Ideal) .f32 (IntOp.subi (BitVec.ofNat 32 a) (BitVec.ofNat 32 b)) = (((a : ℝ) - (b : ℝ) : ℝ) : EReal) := by
  rw [IntOp.subi, ofNat_ofInt, ofNat_ofInt, sub_ofInt, sitofp_ofInt _ (by omega) (by omega)]
  push_cast
  rfl

/-- Lane `y` of tile `n`, counted from the start of tile `q`, converted. -/
theorem sitofp_lane (y n q : ℕ) (h : y < 512) (h' : n < 16) (h'' : q < 16) :
    FloatOps.sitofp (F := Ideal) .f32 (IntOp.addi (BitVec.ofNat 32 y)
      (Scalar.subi (Scalar.muli (BitVec.ofNat 32 n) 512#32) (Scalar.muli (BitVec.ofNat 32 q) 512#32)))
      = (((512 * n + y : ℕ) : ℝ) - ((512 * q : ℕ) : ℝ) : ℝ) := by
  have e : IntOp.addi (BitVec.ofNat 32 y)
      (Scalar.subi (Scalar.muli (BitVec.ofNat 32 n) 512#32) (Scalar.muli (BitVec.ofNat 32 q) 512#32))
      = BitVec.ofInt 32 ((y : ℤ) + ((n : ℤ) * 512 - (q : ℤ) * 512)) := by
    simp only [IntOp.addi, Scalar.subi, IntOp.subi, Scalar.muli, IntOp.muli]
    rw [ofNat_ofInt y, ofNat_ofInt n, ofNat_ofInt q, show (512#32 : BitVec 32) = BitVec.ofInt 32 512 from rfl, ← BitVec.ofInt_mul,
      ← BitVec.ofInt_mul, sub_ofInt, ← BitVec.ofInt_add]
  rw [e, sitofp_ofInt _ (by omega) (by omega)]
  congr 1
  push_cast
  ring

/-- Row `r` of tile `q` comes at or after lane `y` of the same tile exactly when `y ≤ r`. -/
theorem sge_lane (r y q : ℕ) (h : r < 512) (h' : y < 512) (h'' : q < 16) :
    IntOp.cmpi .sge (IntOp.addi (BitVec.ofNat 32 r) (Scalar.muli (BitVec.ofNat 32 q) 512#32))
      (IntOp.addi (BitVec.ofNat 32 y) (Scalar.muli (BitVec.ofNat 32 q) 512#32)) = 1 ↔ y ≤ r := by
  have e (a : ℕ) (ha : a < 512) : (IntOp.addi (BitVec.ofNat 32 a) (Scalar.muli (BitVec.ofNat 32 q) 512#32)).toInt
      = (a : ℤ) + (q : ℤ) * 512 := by
    simp only [IntOp.addi, Scalar.muli, IntOp.muli]
    rw [ofNat_ofInt a, ofNat_ofInt q, show (512#32 : BitVec 32) = BitVec.ofInt 32 512 from rfl, ← BitVec.ofInt_mul, ← BitVec.ofInt_add,
      toInt_ofInt _ (by omega) (by omega)]
  simp only [IntOp.cmpi, BitVec.sle, e r h, e y h']
  by_cases hy : y ≤ r <;> simp [hy]

/-- Lane `y` comes before lane 64. -/
theorem slt_lane (y : ℕ) (h : y < 128) : IntOp.cmpi .slt (BitVec.ofNat 32 y) 64#32 = 1 ↔ y < 64 := by
  have e : (BitVec.ofNat 32 y).toInt = y := by rw [ofNat_ofInt, toInt_ofInt _ (by omega) (by omega)]
  simp only [IntOp.cmpi, BitVec.slt, e]
  by_cases hy : y < 64 <;> simp [hy]

/-- Lane `y` is lane 64 or a later one. -/
theorem sge64_lane (y : ℕ) (h : y < 128) : IntOp.cmpi .sge (BitVec.ofNat 32 y) 64#32 = 1 ↔ 64 ≤ y := by
  have e : (BitVec.ofNat 32 y).toInt = y := by rw [ofNat_ofInt, toInt_ofInt _ (by omega) (by omega)]
  simp only [IntOp.cmpi, BitVec.sle, e]
  by_cases hy : 64 ≤ y <;> simp [hy]

theorem c128 : Ideal.ofBits .f32 0x43000000#32 = ((128 : ℝ) : EReal) := by
  simp [Ideal.ofBits, Ideal.ieee, -EReal.coe_mul]; norm_num

theorem eps_real : ∃ e : ℝ, Ideal.ofBits .f32 0x358637BD#32 = ((e : ℝ) : EReal) := by
  simp [Ideal.ofBits, Ideal.ieee, -EReal.coe_mul]

end Cert.Num

end
-- ==== Proof.Tile.lean ====
/-
One step of a streaming softmax over a tile of 512 scores, in the form a kernel's body computes it, and the sums over a
half of a row's 128 lanes.
-/
module
public import proofs.«01_k».proof.Proof.Num
@[expose] public section

noncomputable section

open Idealize.ShloMosaic

namespace Cert.Flash

theorem tile_M (s : ℕ → EReal) (N : ℕ) (m : EReal) (w : Fin 512 → EReal) (hm : m = M s N) (hw : ∀ y, w y = s (N + y.val)) :
    max m (Finset.univ.fold max (Ideal.ofBits .f32 0xFF800000#32) w) = M s (N + 512) := by
  rw [negInf, fold_bot, M_add, sup_range, hm]
  exact congrArg _ (Finset.sup_congr rfl fun y _ => hw y)

theorem tile_L (s : ℕ → EReal) (N : ℕ) (a l : EReal) (p : Fin 512 → EReal) (ha : a = wt (M s N) (M s (N + 512))) (hl : l = L s N)
    (hp : ∀ y, p y = wt (s (N + y.val)) (M s (N + 512))) : a * l + ∑ y, p y = L s (N + 512) := by
  rw [L_add, Finset.sum_range, ha, hl]
  exact congrArg _ (Finset.sum_congr rfl fun y _ => hp y)

theorem tile_A (s v : ℕ → EReal) (N : ℕ) (a o : EReal) (p u : Fin 512 → EReal) (ha : a = wt (M s N) (M s (N + 512)))
    (ho : o = A s v N) (hp : ∀ y, p y = wt (s (N + y.val)) (M s (N + 512))) (hu : ∀ y, u y = v (N + y.val)) :
    a * o + ∑ y, p y * u y = A s v (N + 512) := by
  rw [A_add, Finset.sum_range, ha, ho]
  exact congrArg _ (Finset.sum_congr rfl fun y _ => by rw [hp y, hu y])

theorem sum_split (f : Fin 128 → EReal) :
    ∑ i, f i = ∑ i : Fin 64, f ⟨i.val, by omega⟩ + ∑ i : Fin 64, f ⟨64 + i.val, by omega⟩ :=
  Fin.sum_univ_add (a := 64) (b := 64) f

/-- A sum over the lanes before lane 64. -/
theorem sum_low (f : Fin 128 → EReal) :
    ∑ i, Scalar.select (IntOp.cmpi .slt (BitVec.ofNat 32 i.val) 64#32) (f i) 0 = ∑ i : Fin 64, f ⟨i.val, by omega⟩ := by
  rw [sum_split]
  have h : ∀ i : Fin 64, Scalar.select (IntOp.cmpi .slt (BitVec.ofNat 32 (64 + i.val)) 64#32) (f ⟨64 + i.val, by omega⟩) 0 = 0 :=
    fun i => by rw [Scalar.select, if_neg (by rw [Num.slt_lane _ (by omega)]; omega)]
  rw [Finset.sum_congr rfl fun i _ => h i, Finset.sum_const_zero, add_zero]
  refine Finset.sum_congr rfl fun i _ => ?_
  rw [Scalar.select, if_pos ((Num.slt_lane _ (by omega)).mpr i.isLt)]

/-- A sum over the lanes from lane 64 on. -/
theorem sum_high (f : Fin 128 → EReal) :
    ∑ i, Scalar.select (IntOp.cmpi .sge (BitVec.ofNat 32 i.val) 64#32) (f i) 0 = ∑ i : Fin 64, f ⟨64 + i.val, by omega⟩ := by
  rw [sum_split]
  have h : ∀ i : Fin 64, Scalar.select (IntOp.cmpi .sge (BitVec.ofNat 32 i.val) 64#32) (f ⟨i.val, by omega⟩) 0 = 0 :=
    fun i => by rw [Scalar.select, if_neg (by rw [Num.sge64_lane _ (by omega)]; omega)]
  rw [Finset.sum_congr rfl fun i _ => h i, Finset.sum_const_zero, zero_add]
  refine Finset.sum_congr rfl fun i _ => ?_
  rw [Scalar.select, if_pos ((Num.sge64_lane _ (by simp only; omega)).mpr (by simp only; omega))]

end Cert.Flash

end
-- ==== Proof.DiffStep.lean ====
/-
The arithmetic of the differential attention's kernel body at an index: the scores of a tile of keys, and each running
quantity (largest score, sum of weights, weighted sum of values) after a tile, for the tiles of the loop and for the masked
tile on the diagonal.
-/
module
public import Idealize.ShloMosaic.Lib.Pipeline.ValueKit
public import Idealize.ShloMosaic.Lib.Pointwise
public import proofs.«01_k».proof.Proof.Gen.DiffIdeal.Frame
public import proofs.«01_k».proof.Proof.Tile
@[expose] public section
set_option maxRecDepth 16384

noncomputable section

open Idealize.ShloMosaic Idealize.ShloMosaic.TcCoe Idealize.SL.Sem

namespace Cert.DiffIdeal.Value

open Cert.DiffIdeal Cert.DiffIdeal.Gen

/-- The score of key `k` for row `r` of query tile `n`, from the lanes of half `c`: the products of the lanes, and the
    head's slope times the distance from the query tile's start; bottom for a key after the row. -/
def ksc (q : FVec Ideal S512x128 .bf16) (kk : FVec Ideal S8192x128 .bf16) (σ : EReal) (n : ℕ) (c : Fin 2) (r : Fin 512) (k : ℕ) :
    EReal :=
  if k ≤ 512 * n + r.val then
    (if hk : k < 8192 then ∑ l : Fin 64, q (ix2 r (⟨c.val * 64 + l.val, by omega⟩ : Fin 128))
        * kk (ix2 (⟨k, hk⟩ : Fin 8192) (⟨c.val * 64 + l.val, by omega⟩ : Fin 128)) else 0)
      + σ * (((k : ℝ) - ((512 * n : ℕ) : ℝ) : ℝ) : EReal)
  else ⊥

/-- Lane `l` of the value of key `k`. -/
def kval (vv : FVec Ideal S8192x128 .bf16) (l : Fin 128) (k : ℕ) : EReal :=
  if hk : k < 8192 then vv (ix2 (⟨k, hk⟩ : Fin 8192) l) else 0

/-- The start of query tile `n`, as the body counts it. -/
abbrev qStart (n : ℕ) : BitVec 32 := Scalar.muli (BitVec.ofNat 32 n) 512#32

/-- The lanes' numbers. -/
abbrev lanes : IVec S1x512 32 := iota .tc S1x512 32 [1] iota_S1x512_d1_w32

theorem trips1 : ∀ i : grid0.Coords, (k0_t1_loop i).trips = (i 2).val := by decide +kernel
theorem trips2 : ∀ i : grid0.Coords, (k0_t2_loop i).trips = 0 := by decide +kernel

theorem bias_at (n k y : ℕ) (hn : n < 16) (hk : k < 16) (hy : y < 512) :
    FloatOps.sitofp (F := Ideal) .f32 (IntOp.addi (BitVec.ofNat 32 y)
      (Scalar.subi (Scalar.muli (Scf.iv 0#32 1#32 k) 512#32) (qStart n)))
      = (((512 * k + y : ℕ) : ℝ) - ((512 * n : ℕ) : ℝ) : ℝ) := by
  have e' : Scf.iv 0#32 1#32 k = BitVec.ofNat 32 k := by simp [Scf.iv]
  rw [e']
  exact Num.sitofp_lane _ _ _ hy hk hn

section tile

variable (i : grid0.Coords) (σ : Elt Ideal .f32) (q : Vec Ideal S512x128 .bf16) (kk vv : Vec Ideal S8192x128 .bf16)
  (k : Fin (k0_t1_loop i).trips) (kb vb : Vec Ideal S512x128 .bf16)

theorem k_lt (k : Fin (k0_t1_loop i).trips) : k.val < (i 2).val := lt_of_lt_of_eq k.isLt (trips1 i)

theorem n_lt : (i 2).val < 16 := (i 2).isLt

/-- The first half's score. -/
theorem pay3_at (hkb : ∀ (y : Fin 512) (l : Fin 128), kb (ix2 y l) = kk (ix2 (⟨512 * k.val + y.val, by have := k_lt i k; have := n_lt i; omega⟩ : Fin 8192) l))
    (r y : Fin 512) : k0_pay3 i σ (k0_pay29 q) (qStart (i 2).val) lanes 0#32 1#32 k kb (ix2 r y)
      = ksc q kk σ (i 2).val 0 r (512 * k.val + y.val) := by
  have hk := k_lt i k
  have hn := n_lt i
  rw [ksc, if_pos (by omega), dif_pos (by omega)]
  pointwise [k0_pay3, k0_pay2, k0_pay29, k0_pay28]
  exact congrArg₂ (· + ·) ((Flash.sum_low fun x => q (ix2 r x) * kb (ix2 y x)).trans
    (Finset.sum_congr rfl fun l _ => congrArg _ (hkb _ _))) (congrArg (σ * ·) (bias_at _ _ _ hn (by omega) y.isLt))

/-- The second half's score. -/
theorem pay9_at (hkb : ∀ (y : Fin 512) (l : Fin 128), kb (ix2 y l) = kk (ix2 (⟨512 * k.val + y.val, by have := k_lt i k; have := n_lt i; omega⟩ : Fin 8192) l))
    (r y : Fin 512) : k0_pay9 i σ (k0_pay30 q) (qStart (i 2).val) lanes 0#32 1#32 k kb (ix2 r y)
      = ksc q kk σ (i 2).val 1 r (512 * k.val + y.val) := by
  have hk := k_lt i k
  have hn := n_lt i
  rw [ksc, if_pos (by omega), dif_pos (by omega)]
  pointwise [k0_pay9, k0_pay2, k0_pay30, k0_pay28]
  exact congrArg₂ (· + ·) ((Flash.sum_high fun x => q (ix2 r x) * kb (ix2 y x)).trans
    (Finset.sum_congr rfl fun l _ => congrArg _ (hkb _ _))) (congrArg (σ * ·) (bias_at _ _ _ hn (by omega) y.isLt))

variable (s : ℕ → EReal) (N : ℕ) (r : Fin 512) (v9 v14 : Vec Ideal S512x128 .bf16) (v15 : BitVec 32) (v16 : IVec S1x512 32) (c0 c1 : BitVec 32)
  (m l : FVec Ideal S512x1 .f32) (a : FVec Ideal S512x128 .f32)

theorem pay4_at (hs : ∀ y : Fin 512, k0_pay3 i σ v9 v15 v16 c0 c1 k kb (ix2 r y) = s (N + y.val))
    (hm : m (ix2 r (0 : Fin 1)) = Flash.M s N) : k0_pay4 i σ v9 v15 v16 c0 c1 k m kb (ix2 r (0 : Fin 1)) = Flash.M s (N + 512) := by
  pointwise [k0_pay4]
  exact Flash.tile_M s N _ _ hm hs

theorem pay7_at (hs : ∀ y : Fin 512, k0_pay3 i σ v9 v15 v16 c0 c1 k kb (ix2 r y) = s (N + y.val))
    (hm : m (ix2 r (0 : Fin 1)) = Flash.M s N) (hl : l (ix2 r (0 : Fin 1)) = Flash.L s N) :
    k0_pay7 i σ v9 v15 v16 c0 c1 k m l kb (ix2 r (0 : Fin 1)) = Flash.L s (N + 512) := by
  have h4 := pay4_at i σ k kb s N r v9 v15 v16 c0 c1 m hs hm
  pointwise [k0_pay7, k0_pay5, k0_pay6]
  rw [h4]
  refine Flash.tile_L s N _ _ _ ?_ hl fun y => ?_
  · rw [hm]; rfl
  · rw [hs]; rfl

theorem pay8_at (v : ℕ → EReal) (j : Fin 128) (hs : ∀ y : Fin 512, k0_pay3 i σ v9 v15 v16 c0 c1 k kb (ix2 r y) = s (N + y.val))
    (hm : m (ix2 r (0 : Fin 1)) = Flash.M s N) (ha : a (ix2 r j) = Flash.A s v N) (hv : ∀ y : Fin 512, vb (ix2 y j) = v (N + y.val)) :
    k0_pay8 i σ v9 v15 v16 c0 c1 k m a kb vb (ix2 r j) = Flash.A s v (N + 512) := by
  have h4 := pay4_at i σ k kb s N r v9 v15 v16 c0 c1 m hs hm
  pointwise [k0_pay8, k0_pay5, k0_pay6]
  rw [h4]
  refine Flash.tile_A s v N _ _ _ _ ?_ ha (fun y => ?_) hv
  · rw [hm]; rfl
  · rw [hs]; rfl

theorem pay10_at (hs : ∀ y : Fin 512, k0_pay9 i σ v14 v15 v16 c0 c1 k kb (ix2 r y) = s (N + y.val))
    (hm : m (ix2 r (0 : Fin 1)) = Flash.M s N) : k0_pay10 i σ v14 v15 v16 c0 c1 k m kb (ix2 r (0 : Fin 1)) = Flash.M s (N + 512) := by
  pointwise [k0_pay10]
  exact Flash.tile_M s N _ _ hm hs

theorem pay13_at (hs : ∀ y : Fin 512, k0_pay9 i σ v14 v15 v16 c0 c1 k kb (ix2 r y) = s (N + y.val))
    (hm : m (ix2 r (0 : Fin 1)) = Flash.M s N) (hl : l (ix2 r (0 : Fin 1)) = Flash.L s N) :
    k0_pay13 i σ v14 v15 v16 c0 c1 k m l kb (ix2 r (0 : Fin 1)) = Flash.L s (N + 512) := by
  have h4 := pay10_at i σ k kb s N r v14 v15 v16 c0 c1 m hs hm
  pointwise [k0_pay13, k0_pay11, k0_pay12]
  rw [h4]
  refine Flash.tile_L s N _ _ _ ?_ hl fun y => ?_
  · rw [hm]; rfl
  · rw [hs]; rfl

theorem pay34_at (v : ℕ → EReal) (j : Fin 128) (hs : ∀ y : Fin 512, k0_pay9 i σ v14 v15 v16 c0 c1 k kb (ix2 r y) = s (N + y.val))
    (hm : m (ix2 r (0 : Fin 1)) = Flash.M s N) (ha : a (ix2 r j) = Flash.A s v N) (hv : ∀ y : Fin 512, vb (ix2 y j) = v (N + y.val)) :
    k0_pay34 vb (k0_pay12 i σ v14 v15 v16 c0 c1 k m kb) (k0_pay14 i σ v14 v15 v16 c0 c1 k m a kb) (ix2 r j) = Flash.A s v (N + 512) := by
  have h4 := pay10_at i σ k kb s N r v14 v15 v16 c0 c1 m hs hm
  pointwise [k0_pay34, k0_pay14, k0_pay11, k0_pay12]
  rw [h4]
  refine Flash.tile_A s v N _ _ _ _ ?_ ha (fun y => ?_) hv
  · rw [hm]; rfl
  · rw [hs]; rfl

end tile

end Cert.DiffIdeal.Value

end
-- ==== Proof.DiffDiag.lean ====
/-
The differential attention's kernel body after its loops, at an index: the masked tile of keys on the diagonal, the
difference of the two halves' rows, and the row's norm.
-/
module
public import proofs.«01_k».proof.Proof.DiffStep
@[expose] public section
set_option maxRecDepth 16384

noncomputable section

open Idealize.ShloMosaic Idealize.ShloMosaic.TcCoe Idealize.SL.Sem

namespace Cert.DiffIdeal.Value

open Cert.DiffIdeal Cert.DiffIdeal.Gen

section scores

variable (σ : Elt Ideal .f32) (q : Vec Ideal S512x128 .bf16) (kk : Vec Ideal S8192x128 .bf16) (kb : Vec Ideal S512x128 .bf16)
  (v36 : BitVec 32) (n : ℕ) (hn : n < 16) (h36 : v36 = BitVec.ofNat 32 n)

/-- A masked score, from the lanes' sum. -/
theorem masked (r y : Fin 512) (t u : EReal) (h : t = u) (hn : n < 16) (h36 : v36 = BitVec.ofNat 32 n) :
    Scalar.select (IntOp.cmpi .sge (IntOp.addi (BitVec.ofNat 32 r.val) (qStart n))
        (IntOp.addi (BitVec.ofNat 32 y.val) (Scalar.muli v36 512#32)))
      (t + σ * FloatOps.sitofp (F := Ideal) .f32 (IntOp.addi (BitVec.ofNat 32 y.val) (Scalar.subi (Scalar.muli v36 512#32) (qStart n))))
      (Ideal.ofBits .f32 0xFF800000#32)
      = if 512 * n + y.val ≤ 512 * n + r.val then
          u + σ * (((512 * n + y.val : ℕ) : ℝ) - ((512 * n : ℕ) : ℝ) : ℝ) else ⊥ := by
  rw [h36, Scalar.select, Flash.negInf, h]
  refine if_congr ((Num.sge_lane _ _ _ r.isLt y.isLt hn).trans (by omega)) ?_ rfl
  exact congrArg (fun z => u + σ * z) (Num.sitofp_lane _ _ _ y.isLt hn hn)

include hn h36

/-- The first half's score on the diagonal tile. -/
theorem pay38_at (hkb : ∀ (y : Fin 512) (l : Fin 128), kb (ix2 y l) = kk (ix2 (⟨512 * n + y.val, by omega⟩ : Fin 8192) l))
    (r y : Fin 512) : k0_pay38 σ (k0_pay29 q) (qStart n) lanes v36 kb (ix2 r y) = ksc q kk σ n 0 r (512 * n + y.val) := by
  rw [ksc, dif_pos (by omega)]
  pointwise [k0_pay38, k0_pay37, k0_pay36, k0_pay29, k0_pay28]
  exact masked σ v36 n r y _ _ ((Flash.sum_low fun x => q (ix2 r x) * kb (ix2 y x)).trans
    (Finset.sum_congr rfl fun l _ => congrArg _ (hkb _ _))) hn h36

/-- The second half's score on the diagonal tile. -/
theorem pay44_at (hkb : ∀ (y : Fin 512) (l : Fin 128), kb (ix2 y l) = kk (ix2 (⟨512 * n + y.val, by omega⟩ : Fin 8192) l))
    (r y : Fin 512) : Scalar.select (k0_pay37 (qStart n) lanes v36 (ix2 r y))
      (k0_pay44 σ (k0_pay30 q) (qStart n) lanes v36 kb (ix2 r y)) (Ideal.ofBits .f32 0xFF800000#32)
      = ksc q kk σ n 1 r (512 * n + y.val) := by
  rw [ksc, dif_pos (by omega)]
  pointwise [k0_pay44, k0_pay37, k0_pay36, k0_pay30, k0_pay28]
  exact masked σ v36 n r y _ _ ((Flash.sum_high fun x => q (ix2 r x) * kb (ix2 y x)).trans
    (Finset.sum_congr rfl fun l _ => congrArg _ (hkb _ _))) hn h36

end scores

section steps

variable (σ : Elt Ideal .f32) (v9 : Vec Ideal S512x128 .bf16) (v15 : BitVec 32) (v16 : IVec S1x512 32) (v36 : BitVec 32)
  (kb vb : Vec Ideal S512x128 .bf16) (s : ℕ → EReal) (N : ℕ) (r : Fin 512) (m l : FVec Ideal S512x1 .f32) (a : FVec Ideal S512x128 .f32)

theorem pay39_at (hs : ∀ y : Fin 512, k0_pay38 σ v9 v15 v16 v36 kb (ix2 r y) = s (N + y.val))
    (hm : m (ix2 r (0 : Fin 1)) = Flash.M s N) : k0_pay39 σ v9 v15 v16 v36 m kb (ix2 r (0 : Fin 1)) = Flash.M s (N + 512) := by
  pointwise [k0_pay39]
  exact Flash.tile_M s N _ _ hm hs

theorem pay42_at (hs : ∀ y : Fin 512, k0_pay38 σ v9 v15 v16 v36 kb (ix2 r y) = s (N + y.val))
    (hm : m (ix2 r (0 : Fin 1)) = Flash.M s N) (hl : l (ix2 r (0 : Fin 1)) = Flash.L s N) :
    k0_pay42 σ v9 v15 v16 v36 m l kb (ix2 r (0 : Fin 1)) = Flash.L s (N + 512) := by
  have h4 := pay39_at σ v9 v15 v16 v36 kb s N r m hs hm
  pointwise [k0_pay42, k0_pay40, k0_pay41]
  rw [h4]
  refine Flash.tile_L s N _ _ _ ?_ hl fun y => ?_
  · rw [hm]; rfl
  · rw [hs]; rfl

theorem pay43_at (v : ℕ → EReal) (j : Fin 128) (hs : ∀ y : Fin 512, k0_pay38 σ v9 v15 v16 v36 kb (ix2 r y) = s (N + y.val))
    (hm : m (ix2 r (0 : Fin 1)) = Flash.M s N) (ha : a (ix2 r j) = Flash.A s v N) (hv : ∀ y : Fin 512, vb (ix2 y j) = v (N + y.val)) :
    k0_pay43 σ v9 v15 v16 v36 m a kb vb (ix2 r j) = Flash.A s v (N + 512) := by
  have h4 := pay39_at σ v9 v15 v16 v36 kb s N r m hs hm
  pointwise [k0_pay43, k0_pay40, k0_pay41]
  rw [h4]
  refine Flash.tile_A s v N _ _ _ _ ?_ ha (fun y => ?_) hv
  · rw [hm]; rfl
  · rw [hs]; rfl

/-- The weight of the second half's row in the difference. -/
def lamK (w : Vec Ideal S4x64 .f32) : EReal :=
  Ideal.exp (∑ x : Fin 64, w (ix2 (0 : Fin 4) x) * w (ix2 (1 : Fin 4) x))
    - Ideal.exp (∑ x : Fin 64, w (ix2 (2 : Fin 4) x) * w (ix2 (3 : Fin 4) x)) + Ideal.ofBits .f32 0x3E4CCCCD#32

/-- The second half's diagonal tile and the difference of the halves' rows. -/
theorem pay45_at (v62 : IVec S512x512 1) (v79 : FVec Ideal S512x1 .f32) (v84 : FVec Ideal S512x128 .f32)
    (v87 : FVec Ideal S512x512 .f32) (w : Vec Ideal S4x64 .f32) (s₁ v : ℕ → EReal) (j : Fin 128)
    (hs : ∀ y : Fin 512, Scalar.select (v62 (ix2 r y)) (v87 (ix2 r y)) (Ideal.ofBits .f32 0xFF800000#32) = s (N + y.val))
    (hm : m (ix2 r (0 : Fin 1)) = Flash.M s N) (hl : l (ix2 r (0 : Fin 1)) = Flash.L s N) (ha : a (ix2 r j) = Flash.A s v N)
    (hv : ∀ y : Fin 512, vb (ix2 y j) = v (N + y.val)) (hl₁ : v79 (ix2 r (0 : Fin 1)) = Flash.L s₁ (N + 512))
    (ha₁ : v84 (ix2 r j) = Flash.A s₁ v (N + 512)) :
    k0_pay45 m l a vb v62 v79 v84 v87 w (ix2 r j)
      = Flash.streamed s₁ v (N + 512) - lamK w * Flash.streamed s v (N + 512) := by
  have h4 := Flash.tile_M s N _ _ hm hs
  pointwise [k0_pay45]
  rw [h4, ha₁, hl₁]
  refine congrArg (Ideal.div _ _ - lamK w * ·) (congrArg₂ Ideal.div ?_ ?_)
  · refine Flash.tile_A s v N _ _ _ _ ?_ ha (fun y => ?_) hv
    · rw [hm]; rfl
    · rw [hs]; rfl
  · refine Flash.tile_L s N _ _ _ ?_ hl fun y => ?_
    · rw [hm]; rfl
    · rw [hs]; rfl

end steps

/-- The row's norm, from the difference's row. -/
theorem pay1_at (m l : FVec Ideal S512x1 .f32) (a : FVec Ideal S512x128 .f32) (vb : Vec Ideal S512x128 .bf16) (v62 : IVec S512x512 1)
    (v79 : FVec Ideal S512x1 .f32) (v84 : FVec Ideal S512x128 .f32) (v87 : FVec Ideal S512x512 .f32) (w : Vec Ideal S4x64 .f32)
    (g : Vec Ideal S1x128 .f32) (o : Fin 128 → EReal) (r : Fin 512) (j : Fin 128)
    (ho : ∀ j : Fin 128, k0_pay45 m l a vb v62 v79 v84 v87 w (ix2 r j) = o j) :
    k0_pay1 (k0_pay45 m l a vb v62 v79 v84 v87 w) g (k0_pay46 m l a vb v62 v79 v84 v87 w) k0_pay47 (ix2 r j)
      = Flash.norm o (fun j => g (ix2 (0 : Fin 1) j)) (Ideal.ofBits .f32 0x43000000#32) (Ideal.ofBits .f32 0x358637BD#32)
          (Ideal.ofBits .f32 0x3F4CCCCD#32) j := by
  unfold Flash.norm
  pointwise [k0_pay1, k0_pay46, k0_pay47]
  simp only [ho]

end Cert.DiffIdeal.Value

end
-- ==== Proof.DiffLoop.lean ====
/-
The differential attention's loop over the tiles of keys before the diagonal: the six arrays it carries are, after `k`
trips, the largest score, the sum of the weights and the weighted sum of the values of each row's first `512 k` keys, for
either half of the lanes.
-/
module
public import proofs.«01_k».proof.Proof.DiffDiag
@[expose] public section
set_option maxRecDepth 16384

noncomputable section

open Idealize.ShloMosaic Idealize.ShloMosaic.TcCoe Idealize.SL.Sem

namespace Cert.DiffIdeal.Value

open Cert.DiffIdeal Cert.DiffIdeal.Gen

/-- What the loop carries. -/
abbrev Carried := FVec Ideal S512x1 .f32 × FVec Ideal S512x1 .f32 × FVec Ideal S512x128 .f32
  × FVec Ideal S512x1 .f32 × FVec Ideal S512x1 .f32 × FVec Ideal S512x128 .f32

/-- The carried arrays hold the running quantities of the first `N` keys. -/
def Good (q : Vec Ideal S512x128 .bf16) (kk vv : Vec Ideal S8192x128 .bf16) (σ : EReal) (n N : ℕ) (st : Carried) : Prop :=
  ∀ r : Fin 512, (st.1 (ix2 r (0 : Fin 1)) = Flash.M (ksc q kk σ n 0 r) N ∧ st.2.1 (ix2 r (0 : Fin 1)) = Flash.L (ksc q kk σ n 0 r) N
      ∧ ∀ j : Fin 128, st.2.2.1 (ix2 r j) = Flash.A (ksc q kk σ n 0 r) (kval vv j) N)
    ∧ (st.2.2.2.1 (ix2 r (0 : Fin 1)) = Flash.M (ksc q kk σ n 1 r) N ∧ st.2.2.2.2.1 (ix2 r (0 : Fin 1)) = Flash.L (ksc q kk σ n 1 r) N
      ∧ ∀ j : Fin 128, st.2.2.2.2.2 (ix2 r j) = Flash.A (ksc q kk σ n 1 r) (kval vv j) N)

theorem good_zero (q : Vec Ideal S512x128 .bf16) (kk vv : Vec Ideal S8192x128 .bf16) (σ : EReal) (n : ℕ) :
    Good q kk vv σ n 0 (k0_pay31, k0_pay32, k0_pay33, k0_pay31, k0_pay32, k0_pay33) := by
  have h1 : ∀ r : Fin 512, k0_pay31 (F := Ideal) (ix2 r (0 : Fin 1)) = ⊥ := fun r => by
    pointwise [k0_pay31]; exact Flash.negInf
  have h2 : ∀ r : Fin 512, k0_pay32 (F := Ideal) (ix2 r (0 : Fin 1)) = 0 := fun r => by pointwise [k0_pay32]
  have h3 : ∀ (r : Fin 512) (j : Fin 128), k0_pay33 (F := Ideal) (ix2 r j) = 0 := fun r j => by pointwise [k0_pay33]
  exact fun r => ⟨⟨h1 r, h2 r, h3 r⟩, h1 r, h2 r, h3 r⟩

theorem off2 : ∀ (i : grid0.Coords) (k : Fin (k0_t1_loop i).trips), k0_off2 i k = ![512 * k.val, 0] := by decide +kernel
theorem off4 : ∀ i : grid0.Coords, k0_off4 i = ![512 * (i 2).val, 0] := by decide +kernel

/-- A tile read from a buffer that holds `x`. -/
theorem tile_read (arg : Memref sig .tc .vmem S8192x128 .bf16) (harg : arg.IsWhole) (x : Vec Ideal S8192x128 .bf16)
    (off : Fin 2 → ℕ) (inb : ∀ a, off a + S512x128.size a ≤ S8192x128.size a) (n : ℕ) (hn : n < 16) (hoff : off = ![512 * n, 0])
    (y : Fin 512) (l : Fin 128) :
    View.readAt (Elt Ideal) arg.view (Rect.unit (s := S8192x128) off S512x128.size inb).toLoadRect (harg.unread x) (ix2 y l)
      = x (ix2 (⟨512 * n + y.val, by omega⟩ : Fin 8192) l) := by
  subst hoff
  have e : View.readAt (Elt Ideal) arg.view (Rect.unit (s := S8192x128) ![512 * n, 0] S512x128.size inb).toLoadRect (harg.unread x)
      = View.ld x (Rect.unit (s := S8192x128) ![512 * n, 0] S512x128.size inb) := by
    rw [View.readAt_eq_ld, harg.read_unread]
  rw [e]
  refine View.ld_unit_apply_of x _ _ inb (ix2 y l) _ fun a => ?_
  match a with
  | ⟨0, _⟩ => rfl
  | ⟨1, _⟩ => exact (Nat.zero_add _).symm

section trip

variable (𝒱 : Variants) (c : Dev nD) (bd : Option 𝒱.V) (i : grid0.Coords) (arg3 : Memref sig .tc .smem S8 .f32) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (v1 : Elt Ideal .f32) (v9 : Vec Ideal S512x128 .bf16) (v14 : Vec Ideal S512x128 .bf16) (v15 : BitVec 32) (v16 : IVec S1x512 32) (v17 : FVec Ideal S512x1 .f32) (v18 : FVec Ideal S512x1 .f32) (v19 : FVec Ideal S512x128 .f32) (v36 : BitVec 32) (v37 : BitVec 32) (c1 : BitVec 32)

/-- One trip, as the payloads of its two tiles. -/
theorem trip_eq (X5 : BufTy.Contents (Elt Ideal) arg5.view.ty) (X6 : BufTy.Contents (Elt Ideal) arg6.view.ty)
    (k : Fin (k0_t1_loop i).trips) (acc : Carried) (kb vb : Vec Ideal S512x128 .bf16)
    (hk : kb = View.readAt (Elt Ideal) arg5.view (Rect.unit (s := S8192x128) (k0_off2 i k) S512x128.size (k0_off2_inb i k)).toLoadRect X5)
    (hv : vb = View.readAt (Elt Ideal) arg6.view (Rect.unit (s := S8192x128) (k0_off2 i k) S512x128.size (k0_off2_inb i k)).toLoadRect X6) :
    tripR_k0_t1 𝒱 c bd i arg3 harg3 arg4 harg4 arg5 harg5 arg6 harg6 arg7 harg7 arg8 harg8 arg9 harg9 v1 v9 v14 v15 v16 v17 v18 v19 v36 0#32 v37 c1 X5 X6 k acc
      = (k0_pay4 i v1 v9 v15 v16 0#32 1#32 k acc.1 kb, k0_pay7 i v1 v9 v15 v16 0#32 1#32 k acc.1 acc.2.1 kb,
          k0_pay8 i v1 v9 v15 v16 0#32 1#32 k acc.1 acc.2.2.1 kb vb, k0_pay10 i v1 v14 v15 v16 0#32 1#32 k acc.2.2.2.1 kb,
          k0_pay13 i v1 v14 v15 v16 0#32 1#32 k acc.2.2.2.1 acc.2.2.2.2.1 kb,
          k0_pay34 vb (k0_pay12 i v1 v14 v15 v16 0#32 1#32 k acc.2.2.2.1 kb)
            (k0_pay14 i v1 v14 v15 v16 0#32 1#32 k acc.2.2.2.1 acc.2.2.2.2.2 kb)) := by
  unfold tripR_k0_t1 trip_k0_t1
  dsimp only
  sl_unfold_words
  subst hk hv
  rfl

/-- One trip keeps the running quantities, and takes in 512 further keys. -/
theorem trip_good (q : Vec Ideal S512x128 .bf16) (kk vv : Vec Ideal S8192x128 .bf16) (k : Fin (k0_t1_loop i).trips) (acc : Carried)
    (h : Good q kk vv v1 (i 2).val (512 * k.val) acc) :
    Good q kk vv v1 (i 2).val (512 * k.val + 512)
      (tripR_k0_t1 𝒱 c bd i arg3 harg3 arg4 harg4 arg5 harg5 arg6 harg6 arg7 harg7 arg8 harg8 arg9 harg9 v1 (k0_pay29 q) (k0_pay30 q) (qStart (i 2).val) lanes v17 v18 v19 v36 0#32 v37 c1 (harg5.unread kk) (harg6.unread vv) k acc) := by
  have hk := k_lt i k
  have hn := n_lt i
  rw [trip_eq 𝒱 c bd i arg3 harg3 arg4 harg4 arg5 harg5 arg6 harg6 arg7 harg7 arg8 harg8 arg9 harg9 v1 (k0_pay29 q) (k0_pay30 q) (qStart (i 2).val) lanes v17 v18 v19 v36 v37 c1 (harg5.unread kk) (harg6.unread vv) k acc _ _ rfl rfl]
  have hkb := fun y l => tile_read arg5 harg5 kk (k0_off2 i k) (k0_off2_inb i k) k.val (by omega) (off2 i k) y l
  have hvb := fun y l => tile_read arg6 harg6 vv (k0_off2 i k) (k0_off2_inb i k) k.val (by omega) (off2 i k) y l
  generalize View.readAt (Elt Ideal) arg5.view (Rect.unit (s := S8192x128) (k0_off2 i k) S512x128.size (k0_off2_inb i k)).toLoadRect (harg5.unread kk) = kb at hkb ⊢
  generalize View.readAt (Elt Ideal) arg6.view (Rect.unit (s := S8192x128) (k0_off2 i k) S512x128.size (k0_off2_inb i k)).toLoadRect (harg6.unread vv) = vb at hvb ⊢
  have hv : ∀ (j : Fin 128) (y : Fin 512), vb (ix2 y j) = kval vv j (512 * k.val + y.val) := fun j y => by
    rw [hvb, kval, dif_pos (by omega)]
  intro r
  obtain ⟨⟨m₁, l₁, a₁⟩, m₂, l₂, a₂⟩ := h r
  have s₁ := pay3_at i v1 q kk k kb hkb r
  have s₂ := pay9_at i v1 q kk k kb hkb r
  exact ⟨⟨pay4_at i v1 k kb _ _ r _ _ _ _ _ _ s₁ m₁, pay7_at i v1 k kb _ _ r _ _ _ _ _ _ _ s₁ m₁ l₁,
      fun j => pay8_at i v1 k kb vb _ _ r _ _ _ _ _ _ _ _ j s₁ m₁ (a₁ j) (hv j)⟩,
    pay10_at i v1 k kb _ _ r _ _ _ _ _ _ s₂ m₂, pay13_at i v1 k kb _ _ r _ _ _ _ _ _ _ s₂ m₂ l₂,
      fun j => pay34_at i v1 k kb vb _ _ r _ _ _ _ _ _ _ _ j s₂ m₂ (a₂ j) (hv j)⟩

/-- After `k` trips the carried arrays hold the running quantities of the first `512 k` keys. -/
theorem loop_good (q : Vec Ideal S512x128 .bf16) (kk vv : Vec Ideal S8192x128 .bf16) : ∀ k : ℕ, k ≤ (i 2).val →
    Good q kk vv v1 (i 2).val (512 * k)
      (st_k0_t1 𝒱 c bd i arg3 harg3 arg4 harg4 arg5 harg5 arg6 harg6 arg7 harg7 arg8 harg8 arg9 harg9 v1 (k0_pay29 q) (k0_pay30 q) (qStart (i 2).val) lanes v17 v18 v19 v36 0#32 v37 c1 (harg5.unread kk) (harg6.unread vv) (k0_pay31, k0_pay32, k0_pay33, k0_pay31, k0_pay32, k0_pay33) k)
  | 0, _ => by
    rw [st_k0_t1_zero]
    exact good_zero q kk vv v1 _
  | k + 1, h => by
    have hk : k < (k0_t1_loop i).trips := by rw [trips1]; omega
    have e := st_k0_t1_succ (F := Ideal) 𝒱 c bd i arg3 harg3 arg4 harg4 arg5 harg5 arg6 harg6 arg7 harg7 arg8 harg8 arg9 harg9 v1 (k0_pay29 q) (k0_pay30 q) (qStart (i 2).val) lanes v17 v18 v19 v36 0#32 v37 c1 (harg5.unread kk) (harg6.unread vv) (k0_pay31, k0_pay32, k0_pay33, k0_pay31, k0_pay32, k0_pay33) ⟨k, hk⟩
    rw [show k + 1 = (⟨k, hk⟩ : Fin (k0_t1_loop i).trips).val + 1 from rfl, e]
    exact trip_good 𝒱 c bd i arg3 harg3 arg4 harg4 arg5 harg5 arg6 harg6 arg7 harg7 arg8 harg8 arg9 harg9 v1 v17 v18 v19 v36 v37 c1 q kk vv ⟨k, hk⟩ _
      (loop_good q kk vv k (by omega))

end trip

end Cert.DiffIdeal.Value

end
-- ==== Proof.DiffBlock.lean ====
/-
One block of the differential attention's result: what the kernel body leaves in its output buffer, from the blocks it is
given.
-/
module
public import proofs.«01_k».proof.Proof.DiffLoop
@[expose] public section
set_option maxRecDepth 16384

noncomputable section

open Idealize.ShloMosaic Idealize.ShloMosaic.TcCoe Idealize.SL.Sem

namespace Cert.DiffIdeal.Value

open Cert.DiffIdeal Cert.DiffIdeal.Gen

/-- The query tile's number, as the body finds it from the tile's start. -/
def tileNo (i : grid0.Coords) : BitVec 32 :=
  Scalar.select (Scalar.andi
      (Scalar.cmpi .ne (Scalar.subi (Scalar.extui (Scalar.cmpi .sgt (Scalar.muli (BitVec.ofNat 32 (i 2).val) 512#32) 0#32))
        (Scalar.extui (Scalar.cmpi .slt (Scalar.muli (BitVec.ofNat 32 (i 2).val) 512#32) 0#32))) 1#32)
      (Scalar.cmpi .ne (Scalar.remsi (Scalar.muli (BitVec.ofNat 32 (i 2).val) 512#32) 512#32) 0#32))
    (Scalar.subi (Scalar.divsi (Scalar.muli (BitVec.ofNat 32 (i 2).val) 512#32) 512#32) 1#32)
    (Scalar.divsi (Scalar.muli (BitVec.ofNat 32 (i 2).val) 512#32) 512#32)

theorem tileNo_eq : ∀ i : grid0.Coords, tileNo i = BitVec.ofNat 32 (i 2).val := by decide +kernel
theorem off1 : ∀ i : grid0.Coords, k0_off1 i = ![(i 1).val] := by decide +kernel

section block

variable (c : Dev nD) (i : grid0.Coords) (arg3 : Memref sig .tc .smem S8 .f32) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole)
    (x0 : Vec Ideal S8 .f32) (x1 : Vec Ideal S512x128 .bf16) (x2 : Vec Ideal S8192x128 .bf16) (x3 : Vec Ideal S8192x128 .bf16) (x4 : Vec Ideal S4x64 .f32) (x5 : Vec Ideal S1x128 .f32)

/-- The slope the body reads. -/
def slopeRead : Elt Ideal .f32 :=
  View.readAt (Elt Ideal) arg3.view (Rect.unit (s := S8) (k0_off1 i) S1.size (k0_off1_inb i)).toLoadRect (harg3.unread x0)
    (Shape.Idx.first (show 0 < S1.numel by decide))

/-- The query rows the body reads. -/
def qRead : Vec Ideal S512x128 .bf16 :=
  View.readAt (Elt Ideal) arg4.view (Rect.unit (s := S512x128) ![0, 0] S512x128.size inb_S512x128_S512x128_0_0).toLoadRect (harg4.unread x1)

/-- What the first loop leaves. -/
def after1 : Carried :=
  st_k0_t1 (F := Ideal) Variants.none c none i arg3 harg3 arg4 harg4 arg5 harg5 arg6 harg6 arg7 harg7 arg8 harg8 arg9 harg9
    (slopeRead i arg3 harg3 x0) (k0_pay29 (qRead arg4 harg4 x1)) (k0_pay30 (qRead arg4 harg4 x1)) (qStart (i 2).val) lanes
    k0_pay31 k0_pay32 k0_pay33 (tileNo i) 0#32 (Scalar.subi (tileNo i) 0#32) 1#32 (harg5.unread x2) (harg6.unread x3)
    (k0_pay31, k0_pay32, k0_pay33, k0_pay31, k0_pay32, k0_pay33) (k0_t1_loop i).trips

/-- What the second loop leaves. -/
def after2 : Carried :=
  st_k0_t2 (F := Ideal) Variants.none c none i arg3 harg3 arg4 harg4 arg5 harg5 arg6 harg6 arg7 harg7 arg8 harg8 arg9 harg9
    (slopeRead i arg3 harg3 x0) (k0_pay29 (qRead arg4 harg4 x1)) (k0_pay30 (qRead arg4 harg4 x1)) (qStart (i 2).val) lanes
    k0_pay31 k0_pay32 k0_pay33 (tileNo i) 0#32 (Scalar.subi (tileNo i) 0#32) 1#32
    (Scalar.addi 0#32 (Scalar.muli (Scalar.divsi (Scalar.subi (tileNo i) 0#32) 1#32) 1#32)) (harg5.unread x2) (harg6.unread x3)
    (after1 c i arg3 harg3 arg4 harg4 arg5 harg5 arg6 harg6 arg7 harg7 arg8 harg8 arg9 harg9 x0 x1 x2 x3)
    (k0_t2_loop i).trips

/-- The second loop takes no trip. -/
theorem after2_eq : after2 c i arg3 harg3 arg4 harg4 arg5 harg5 arg6 harg6 arg7 harg7 arg8 harg8 arg9 harg9 x0 x1 x2 x3
    = after1 c i arg3 harg3 arg4 harg4 arg5 harg5 arg6 harg6 arg7 harg7 arg8 harg8 arg9 harg9 x0 x1 x2 x3 := by
  unfold after2
  rw [trips2, st_k0_t2_zero]

/-- A diagonal tile the body reads. -/
def diagRead (arg : Memref sig .tc .vmem S8192x128 .bf16) (harg : arg.IsWhole) (x : Vec Ideal S8192x128 .bf16) :
    Vec Ideal S512x128 .bf16 :=
  View.readAt (Elt Ideal) arg.view (Rect.unit (s := S8192x128) (k0_off4 i) S512x128.size (k0_off4_inb i)).toLoadRect (harg.unread x)

/-- The lambda vectors and the gain the body reads. -/
def lamRead : Vec Ideal S4x64 .f32 :=
  View.readAt (Elt Ideal) arg7.view (Rect.unit (s := S4x64) ![0, 0] S4x64.size inb_S4x64_S4x64_0_0).toLoadRect (harg7.unread x4)
def gainRead : Vec Ideal S1x128 .f32 :=
  View.readAt (Elt Ideal) arg8.view (Rect.unit (s := S1x128) ![0, 0] S1x128.size inb_S1x128_S1x128_0_0).toLoadRect (harg8.unread x5)

/-- The payload the body stores, of the scalars and arrays it has read and the carried arrays `st`. -/
def stored (st : Carried) (σ : Elt Ideal .f32) (q kb vb : Vec Ideal S512x128 .bf16) (w : Vec Ideal S4x64 .f32) (g : Vec Ideal S1x128 .f32)
    (n : ℕ) (v36 : BitVec 32) : Vec Ideal S512x128 .bf16 :=
  k0_pay1
    (k0_pay45 st.2.2.2.1 st.2.2.2.2.1 st.2.2.2.2.2 vb (k0_pay37 (qStart n) lanes v36)
      (k0_pay42 σ (k0_pay29 q) (qStart n) lanes v36 st.1 st.2.1 kb) (k0_pay43 σ (k0_pay29 q) (qStart n) lanes v36 st.1 st.2.2.1 kb vb)
      (k0_pay44 σ (k0_pay30 q) (qStart n) lanes v36 kb) w) g
    (k0_pay46 st.2.2.2.1 st.2.2.2.2.1 st.2.2.2.2.2 vb (k0_pay37 (qStart n) lanes v36)
      (k0_pay42 σ (k0_pay29 q) (qStart n) lanes v36 st.1 st.2.1 kb) (k0_pay43 σ (k0_pay29 q) (qStart n) lanes v36 st.1 st.2.2.1 kb vb)
      (k0_pay44 σ (k0_pay30 q) (qStart n) lanes v36 kb) w) k0_pay47

theorem stored_at (st : Carried) (σ : Elt Ideal .f32) (q kb vb : Vec Ideal S512x128 .bf16) (kk vv : Vec Ideal S8192x128 .bf16)
    (w : Vec Ideal S4x64 .f32) (g : Vec Ideal S1x128 .f32) (n : ℕ) (hn : n < 16) (v36 : BitVec 32) (h36 : v36 = BitVec.ofNat 32 n)
    (hst : Good q kk vv σ n (512 * n) st)
    (hkb : ∀ (y : Fin 512) (l : Fin 128), kb (ix2 y l) = kk (ix2 (⟨512 * n + y.val, by omega⟩ : Fin 8192) l))
    (hvb : ∀ (y : Fin 512) (l : Fin 128), vb (ix2 y l) = vv (ix2 (⟨512 * n + y.val, by omega⟩ : Fin 8192) l))
    (r : Fin 512) (j : Fin 128) : stored st σ q kb vb w g n v36 (ix2 r j)
      = Flash.norm (fun j => Flash.streamed (ksc q kk σ n 0 r) (kval vv j) (512 * n + 512)
          - lamK w * Flash.streamed (ksc q kk σ n 1 r) (kval vv j) (512 * n + 512)) (fun j => g (ix2 (0 : Fin 1) j))
          (Ideal.ofBits .f32 0x43000000#32) (Ideal.ofBits .f32 0x358637BD#32) (Ideal.ofBits .f32 0x3F4CCCCD#32) j := by
  have hv : ∀ (j : Fin 128) (y : Fin 512), vb (ix2 y j) = kval vv j (512 * n + y.val) := fun j y => by
    rw [hvb, kval, dif_pos (by omega)]
  obtain ⟨⟨m₁, l₁, a₁⟩, m₂, l₂, a₂⟩ := hst r
  have s₁ := pay38_at σ q kk kb v36 n hn h36 hkb r
  have s₂ := pay44_at σ q kk kb v36 n hn h36 hkb r
  unfold stored
  exact pay1_at _ _ _ _ _ _ _ _ _ _ _ r j fun j => pay45_at vb _ (512 * n) r _ _ _ _ _ _ _ _ _ _ j s₂ m₂ l₂ (a₂ j) (hv j)
    (pay42_at σ _ _ _ _ _ _ _ r _ _ s₁ m₁ l₁) (pay43_at σ _ _ _ _ _ _ _ _ r _ _ _ j s₁ m₁ (a₁ j) (hv j))

theorem block_term :
    out0_A_6 c i arg3 harg3 arg4 harg4 arg5 harg5 arg6 harg6 arg7 harg7 arg8 harg8 arg9 harg9 x0 x1 x2 x3 x4 x5
      = stored (after2 c i arg3 harg3 arg4 harg4 arg5 harg5 arg6 harg6 arg7 harg7 arg8 harg8 arg9 harg9 x0 x1 x2 x3)
          (slopeRead i arg3 harg3 x0) (qRead arg4 harg4 x1) (diagRead i arg5 harg5 x2) (diagRead i arg6 harg6 x3)
          (lamRead arg7 harg7 x4) (gainRead arg8 harg8 x5) (i 2).val (tileNo i) := by
  have hz : (![0, 0] : Fin 2 → ℕ) = fun _ => 0 := by decide
  unfold out0_A_6
  rw [View.read_writes_eq_canon _ _ _ (cover0_A_6 c i arg3 harg3 arg4 harg4 arg5 harg5 arg6 harg6 arg7 harg7 arg8 harg8 arg9 harg9 x0 x1 x2 x3 x4 x5)]
  unfold kernelRun0_A
  dsimp only
  sl_unfold_words
  rw [View.canon_unit_zero hz]
  unfold stored after2 after1 slopeRead qRead diagRead lamRead gainRead tileNo
  rfl

/-- ONE BLOCK: the rows' norms of the differences of the halves' rows, over the keys up to the end of the query tile. -/
theorem block_at (r : Fin 512) (j : Fin 128) :
    out0_A_6 c i arg3 harg3 arg4 harg4 arg5 harg5 arg6 harg6 arg7 harg7 arg8 harg8 arg9 harg9 x0 x1 x2 x3 x4 x5 (ix2 r j)
      = Flash.norm (fun j => Flash.streamed (ksc x1 x2 (x0 (ix1 (i 1))) (i 2).val 0 r) (kval x3 j) (512 * (i 2).val + 512)
          - lamK x4 * Flash.streamed (ksc x1 x2 (x0 (ix1 (i 1))) (i 2).val 1 r) (kval x3 j) (512 * (i 2).val + 512))
          (fun j => x5 (ix2 (0 : Fin 1) j))
          (Ideal.ofBits .f32 0x43000000#32) (Ideal.ofBits .f32 0x358637BD#32) (Ideal.ofBits .f32 0x3F4CCCCD#32) j := by
  have hz : (![0, 0] : Fin 2 → ℕ) = fun _ => 0 := by decide
  have hσ : slopeRead i arg3 harg3 x0 = x0 (ix1 (i 1)) := by
    unfold slopeRead
    have e : View.readAt (Elt Ideal) arg3.view (Rect.unit (s := S8) (k0_off1 i) S1.size (k0_off1_inb i)).toLoadRect (harg3.unread x0)
        = View.ld x0 (Rect.unit (s := S8) (k0_off1 i) S1.size (k0_off1_inb i)) := by
      rw [View.readAt_eq_ld, harg3.read_unread]
    rw [e]
    refine View.ld_unit_apply_of x0 _ _ (k0_off1_inb i) _ _ fun a => ?_
    match a with
    | ⟨0, _⟩ => exact (congrFun (off1 i) 0).symm
  have hq : qRead arg4 harg4 x1 = x1 := by
    unfold qRead
    rw [View.readAt_eq_ld, harg4.read_unread]
    exact View.ld_unit_zero hz _ _
  have hw : lamRead arg7 harg7 x4 = x4 := by
    unfold lamRead
    rw [View.readAt_eq_ld, harg7.read_unread]
    exact View.ld_unit_zero hz _ _
  have hg : gainRead arg8 harg8 x5 = x5 := by
    unfold gainRead
    rw [View.readAt_eq_ld, harg8.read_unread]
    exact View.ld_unit_zero hz _ _
  rw [block_term, after2_eq, hw, hg, ← hσ]
  conv_rhs => rw [← hq]
  refine stored_at _ _ _ _ _ x2 x3 _ _ _ (n_lt i) _ (tileNo_eq i) ?_
    (tile_read arg5 harg5 x2 _ _ _ (n_lt i) (off4 i)) (tile_read arg6 harg6 x3 _ _ _ (n_lt i) (off4 i)) r j
  unfold after1
  rw [trips1]
  exact loop_good Variants.none c none i arg3 harg3 arg4 harg4 arg5 harg5 arg6 harg6 arg7 harg7 arg8 harg8 arg9 harg9 _ _ _ _ _ _ _ _ x2 x3 _ le_rfl

end block

end Cert.DiffIdeal.Value

end
-- ==== Proof.DiffRef.lean ====
/-
  The plain differential attention, the reference: its array of results, cut into named steps, and each step at an index.

  Scores, weights, shares, rows and the normalised rows are the steps of the printed program in its order. At an index the
  reference is one normalised row: `norm` of the difference of two plain softmax rows.
-/
module

public import proofs.«01_k».proof.Proof.Gen.DiffRefIdeal.Run
public import proofs.«01_k».proof.Proof.Num
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DiffRefIdeal.Value

open Cert.DiffRefIdeal Cert.DiffRefIdeal.Gen

/-- The factor of the second component, of the four rows of `lam4`. -/
def lamV (l : FVec Ideal S4x64 .f32) : FVec Ideal S_ .f32 :=
  addf (subf
    (Host.exp (Host.reduceAdd (mulf (shapeCast S64 (extractStridedSlice S1x64 ![0, 0] l slices_S4x64_S1x64_0_0) shapeCasts_S1x64_S64)
      (shapeCast S64 (extractStridedSlice S1x64 ![1, 0] l slices_S4x64_S1x64_1_0) shapeCasts_S1x64_S64))
      (constant S_ .f32 0x00000000#32) reducesTo_S64_S_d0 h_S_))
    (Host.exp (Host.reduceAdd (mulf (shapeCast S64 (extractStridedSlice S1x64 ![2, 0] l slices_S4x64_S1x64_2_0) shapeCasts_S1x64_S64)
      (shapeCast S64 (extractStridedSlice S1x64 ![3, 0] l slices_S4x64_S1x64_3_0) shapeCasts_S1x64_S64))
      (constant S_ .f32 0x00000000#32) reducesTo_S64_S_d0 h_S_)))
    (constant S_ .f32 0x3E4CCCCD#32)

/-- The slope of each of the eight heads. -/
def slopesV : FVec Ideal S8 .f32 :=
  Host.exp (mulf (broadcastInDim S8 ![] bcast_S_S8 (constant S_ .f32 0x3F317218#32))
    (Host.divf (mulf (broadcastInDim S8 ![] bcast_S_S8 (constant S_ .f32 0xC1000000#32))
      (addf (broadcastInDim S8 ![] bcast_S_S8 (constant S_ .f32 0x3F800000#32)) (sitofp .f32 (iotaInDim S8 32 0))))
      (broadcastInDim S8 ![] bcast_S_S8 (constant S_ .f32 0x41000000#32))))

/-- How far key `k` lies behind query `q`. -/
def distV : FVec Ideal S8192x8192 .f32 :=
  sitofp .f32 (subi
    (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0))))

/-- The scores, minus infinity for a key after the query. -/
def scoresV (x : FVec Ideal S16384x6144 .bf16) : FVec Ideal S2x8x2x8192x8192 .f32 :=
  select (broadcastInDim S2x8x2x8192x8192 ![3, 4] bcast_S8192x8192_S2x8x2x8192x8192_3_4
      (cmpf .oge distV (broadcastInDim S8192x8192 ![] bcast_S_S8192x8192 (constant (F := Ideal) S_ .f32 0x00000000#32))))
    (subf (Host.dotGeneral dot_S2x8192x8x2x64_S2x8192x8x2x64_S2x8x2x8192x8192_4_4_1_1_023_023 none
        (shapeCast S2x8192x8x2x64 (extractStridedSlice S16384x1024 ![0, 0] (extf .f32 x bitsLt_bf16_f32) slices_S16384x6144_S16384x1024_0_0) shapeCasts_S16384x1024_S2x8192x8x2x64)
        (shapeCast S2x8192x8x2x64 (extractStridedSlice S16384x1024 ![0, 1024] (extf .f32 x bitsLt_bf16_f32) slices_S16384x6144_S16384x1024_0_1024) shapeCasts_S16384x1024_S2x8192x8x2x64))
      (broadcastInDim S2x8x2x8192x8192 ![0, 1, 2, 3, 4] bcast_S1x8x1x8192x8192_S2x8x2x8192x8192_0_1_2_3_4
        (broadcastInDim S1x8x1x8192x8192 ![1, 2, 3, 4] bcast_S8x1x8192x8192_S1x8x1x8192x8192_1_2_3_4
          (mulf (broadcastInDim S8x1x8192x8192 ![0, 1, 2, 3] bcast_S8x1x1x1_S8x1x8192x8192_0_1_2_3 (broadcastInDim S8x1x1x1 ![0] bcast_S8_S8x1x1x1_0 slopesV))
            (broadcastInDim S8x1x8192x8192 ![0, 1, 2, 3] bcast_S1x1x8192x8192_S8x1x8192x8192_0_1_2_3 (broadcastInDim S1x1x8192x8192 ![2, 3] bcast_S8192x8192_S1x1x8192x8192_2_3 distV))))))
    (broadcastInDim S2x8x2x8192x8192 ![] bcast_S_S2x8x2x8192x8192 (constant S_ .f32 0xFF800000#32))

/-- The largest score of each row. -/
def maxV (s : FVec Ideal S2x8x2x8192x8192 .f32) : FVec Ideal S2x8x2x8192 .f32 :=
  Host.reduce FloatOps.maximumf s (constant S_ .f32 0xFF800000#32) reducesTo_S2x8x2x8192x8192_S2x8x2x8192_d4 h_S_

/-- The weights: the exponential of each score less the row's largest. -/
def shiftV (s : FVec Ideal S2x8x2x8192x8192 .f32) (m : FVec Ideal S2x8x2x8192 .f32) : FVec Ideal S2x8x2x8192x8192 .f32 :=
  Host.exp (subf s (broadcastInDim S2x8x2x8192x8192 ![0, 1, 2, 3, 4] bcast_S2x8x2x8192x1_S2x8x2x8192x8192_0_1_2_3_4
    (broadcastInDim S2x8x2x8192x1 ![0, 1, 2, 3] bcast_S2x8x2x8192_S2x8x2x8192x1_0_1_2_3
      (maximumf (broadcastInDim S2x8x2x8192 ![] bcast_S_S2x8x2x8192 (constant S_ .f32 0xFF800000#32))
        m))))

/-- The weights, from the scores alone. -/
def weightsV (s : FVec Ideal S2x8x2x8192x8192 .f32) : FVec Ideal S2x8x2x8192x8192 .f32 := shiftV s (maxV s)

/-- The weights over their row's sum. -/
def sharesV (w : FVec Ideal S2x8x2x8192x8192 .f32) : FVec Ideal S2x8x2x8192x8192 .f32 :=
  Host.divf w (broadcastInDim S2x8x2x8192x8192 ![0, 1, 2, 3, 4] bcast_S2x8x2x8192x1_S2x8x2x8192x8192_0_1_2_3_4
    (broadcastInDim S2x8x2x8192x1 ![0, 1, 2, 3] bcast_S2x8x2x8192_S2x8x2x8192x1_0_1_2_3
      (Host.reduceAdd w (constant S_ .f32 0x00000000#32) reducesTo_S2x8x2x8192x8192_S2x8x2x8192_d4 h_S_)))

/-- The rows of both components: the values weighted by the shares. -/
def rowsV (x : FVec Ideal S16384x6144 .bf16) (p : FVec Ideal S2x8x2x8192x8192 .f32) : FVec Ideal S2x8192x8x2x128 .f32 :=
  transpose S2x8192x8x2x128 [0, 4, 1, 3, 2] (Host.dotGeneral dot_S2x8192x8x128_S2x8x2x8192x8192_S2x8x128x2x8192_1_4_3_23_02_01 none
    (shapeCast S2x8192x8x128 (extractStridedSlice S16384x1024 ![0, 2048] (extf .f32 x bitsLt_bf16_f32) slices_S16384x6144_S16384x1024_0_2048) shapeCasts_S16384x1024_S2x8192x8x128) p)
    transposes_S2x8x128x2x8192_S2x8192x8x2x128_0_4_1_3_2

/-- The first component less `lam` times the second. -/
def mixV (l : FVec Ideal S_ .f32) (o : FVec Ideal S2x8192x8x2x128 .f32) : FVec Ideal S2x8192x8x128 .f32 :=
  subf (shapeCast S2x8192x8x128 (extractStridedSlice S2x8192x8x1x128 ![0, 0, 0, 0, 0] o slices_S2x8192x8x2x128_S2x8192x8x1x128_0_0_0_0_0) shapeCasts_S2x8192x8x1x128_S2x8192x8x128)
    (mulf (broadcastInDim S2x8192x8x128 ![] bcast_S_S2x8192x8x128 l)
      (shapeCast S2x8192x8x128 (extractStridedSlice S2x8192x8x1x128 ![0, 0, 0, 1, 0] o slices_S2x8192x8x2x128_S2x8192x8x1x128_0_0_0_1_0) shapeCasts_S2x8192x8x1x128_S2x8192x8x128))

/-- Each row over its root mean square, times the gain and the constant. -/
def normV (g : FVec Ideal S1x128 .f32) (d : FVec Ideal S2x8192x8x128 .f32) : FVec Ideal S2x8192x8x128 .f32 :=
  mulf (mulf (mulf d (broadcastInDim S2x8192x8x128 ![0, 1, 2, 3] bcast_S2x8192x8x1_S2x8192x8x128_0_1_2_3
      (Host.rsqrt (addf (Host.divf (broadcastInDim S2x8192x8x1 ![0, 1, 2] bcast_S2x8192x8_S2x8192x8x1_0_1_2
          (Host.reduceAdd (mulf d d) (constant S_ .f32 0x00000000#32) reducesTo_S2x8192x8x128_S2x8192x8_d3 h_S_))
        (broadcastInDim S2x8192x8x1 ![] bcast_S_S2x8192x8x1 (constant S_ .f32 0x43000000#32)))
        (broadcastInDim S2x8192x8x1 ![] bcast_S_S2x8192x8x1 (constant S_ .f32 0x358637BD#32))))))
      (broadcastInDim S2x8192x8x128 ![0, 1, 2, 3] bcast_S1x1x1x128_S2x8192x8x128_0_1_2_3
        (broadcastInDim S1x1x1x128 ![3] bcast_S128_S1x1x1x128_3 (shapeCast S128 g shapeCasts_S1x128_S128))))
    (broadcastInDim S2x8192x8x128 ![] bcast_S_S2x8192x8x128 (constant S_ .f32 0x3F4CCCCD#32))

/-- The reference's result, of the three arguments. -/
def diffRef (x : FVec Ideal S16384x6144 .bf16) (l : FVec Ideal S4x64 .f32) (g : FVec Ideal S1x128 .f32) :
    FVec Ideal S16384x1024 .bf16 :=
  shapeCast S16384x1024 (truncf .bf16 (normV g (mixV (lamV l) (rowsV x (sharesV (weightsV (scoresV x)))))) bitsLt_bf16_f32)
    shapeCasts_S2x8192x8x128_S16384x1024

/-- The printed program's result is these steps. -/
theorem res_eq (m : (ℓ : Loc nD τ sig) → Buf (Elt Ideal) ℓ) (c : Dev nD) :
    res_out0 m c = diffRef (m ((c.tc : Thread nD τ).loc main_arg0)) (m ((c.tc : Thread nD τ).loc main_arg1))
      (m ((c.tc : Thread nD τ).loc main_arg2)) := by
  unfold res_out0 res_main_v89
  rfl

/-! ## Each step at an index -/

/-- The head's slope, a number. -/
def slope (h : ℕ) : EReal :=
  Ideal.exp (Ideal.ofBits .f32 0x3F317218#32 * Ideal.div (Ideal.ofBits .f32 0xC1000000#32
    * (1 + FloatOps.sitofp (F := Ideal) .f32 (BitVec.ofNat 32 h))) (Ideal.ofBits .f32 0x41000000#32))

theorem slopesV_at (j : S8.Idx) : slopesV j = slope (j 0).val := by
  pointwise [slopesV]
  rfl

theorem lamV_at (l : FVec Ideal S4x64 .f32) (j : S_.Idx) : lamV l j
    = Ideal.exp (∑ x : Fin 64, l (ix2 (0 : Fin 4) x) * l (ix2 (1 : Fin 4) x))
      - Ideal.exp (∑ x : Fin 64, l (ix2 (2 : Fin 4) x) * l (ix2 (3 : Fin 4) x)) + Ideal.ofBits .f32 0x3E4CCCCD#32 := by
  pointwise [lamV]

theorem distV_at (j : S8192x8192.Idx) : distV j = ((((j 0).val : ℝ) - ((j 1).val : ℝ) : ℝ) : EReal) := by
  pointwise [distV]
  exact Num.sitofp_sub _ _ (lt_trans (j 0).isLt (by decide)) (lt_trans (j 1).isLt (by decide))

theorem scoresV_at (x : FVec Ideal S16384x6144 .bf16) (b : Fin 2) (h : Fin 8) (c : Fin 2) (q k : Fin 8192) :
    scoresV x (ix5 b h c q k) = if k.val ≤ q.val then
      (∑ i : Fin 64, x (ix2 (⟨b.val * 8192 + q.val, by omega⟩ : Fin 16384) (⟨h.val * 128 + c.val * 64 + i.val, by omega⟩ : Fin 6144))
        * x (ix2 (⟨b.val * 8192 + k.val, by omega⟩ : Fin 16384) (⟨1024 + (h.val * 128 + c.val * 64 + i.val), by omega⟩ : Fin 6144)))
        - slope h.val * (((q.val : ℝ) - (k.val : ℝ) : ℝ) : EReal)
      else ⊥ := by
  pointwise [scoresV]
  rw [Flash.negInf, slopesV_at, distV_at]
  refine if_congr ?_ rfl rfl
  change (0 : EReal) ≤ (((q.val : ℝ) - (k.val : ℝ) : ℝ) : EReal) ↔ _
  rw [← EReal.coe_zero, EReal.coe_le_coe_iff, sub_nonneg, Nat.cast_le]

/-- The largest over the last of five axes, at an index. -/
theorem rowMax {n0 n1 n2 n3 n4 : ℕ} {u : Shape} (s : FVec Ideal ⟨5, ![n0, n1, n2, n3, n4]⟩ .f32) (c : FVec Ideal u .f32)
    (h : (⟨5, ![n0, n1, n2, n3, n4]⟩ : Shape).ReducesTo [4] ⟨4, ![n0, n1, n2, n3]⟩) (hu : 0 < u.numel) (b : EReal) (hb : ∀ i, c i = b)
    (j : (⟨4, ![n0, n1, n2, n3]⟩ : Shape).Idx) :
    Host.reduce FloatOps.maximumf s c h hu j = Finset.univ.fold max b fun x : Fin n4 => s (ix5 (j 0) (j 1) (j 2) (j 3) x) := by
  simp only [pointwise, hb]

theorem maxV_at (s : FVec Ideal S2x8x2x8192x8192 .f32) (j : S2x8x2x8192.Idx) :
    maxV s j = Finset.univ.sup fun x : Fin 8192 => s (ix5 (j 0) (j 1) (j 2) (j 3) x) :=
  (rowMax s (constant S_ .f32 0xFF800000#32) reducesTo_S2x8x2x8192x8192_S2x8x2x8192_d4 h_S_ ⊥ (fun _ => Flash.negInf) j).trans
    (Flash.fold_bot _ _)

theorem shiftV_at (s : FVec Ideal S2x8x2x8192x8192 .f32) (m : FVec Ideal S2x8x2x8192 .f32) (j : S2x8x2x8192x8192.Idx) :
    shiftV s m j = Ideal.exp (s j - max ⊥ (m (ix4 (j 0) (j 1) (j 2) (j 3)))) := by
  pointwise [shiftV]
  rw [Flash.negInf]

theorem weightsV_at (s : FVec Ideal S2x8x2x8192x8192 .f32) (j : S2x8x2x8192x8192.Idx) :
    weightsV s j = Ideal.exp (s j - max ⊥ (maxV s (ix4 (j 0) (j 1) (j 2) (j 3)))) := by
  exact shiftV_at s (maxV s) j

theorem sharesV_at (w : FVec Ideal S2x8x2x8192x8192 .f32) (j : S2x8x2x8192x8192.Idx) :
    sharesV w j = Ideal.div (w j) (∑ k : Fin 8192, w (ix5 (j 0) (j 1) (j 2) (j 3) k)) := by
  pointwise [sharesV]

theorem rowsV_at (x : FVec Ideal S16384x6144 .bf16) (p : FVec Ideal S2x8x2x8192x8192 .f32) (b : Fin 2) (q : Fin 8192) (h : Fin 8)
    (c : Fin 2) (i : Fin 128) : rowsV x p (ix5 b q h c i) = ∑ k : Fin 8192,
      x (ix2 (⟨b.val * 8192 + k.val, by omega⟩ : Fin 16384) (⟨2048 + (h.val * 128 + i.val), by omega⟩ : Fin 6144))
        * p (ix5 b h c q k) := by
  pointwise [rowsV]

theorem mixV_at (l : FVec Ideal S_ .f32) (o : FVec Ideal S2x8192x8x2x128 .f32) (b : Fin 2) (q : Fin 8192) (h : Fin 8) (i : Fin 128) :
    mixV l o (ix4 b q h i) = o (ix5 b q h (0 : Fin 2) i) - l ix0 * o (ix5 b q h (1 : Fin 2) i) := by
  pointwise [mixV]

theorem normV_at (g : FVec Ideal S1x128 .f32) (d : FVec Ideal S2x8192x8x128 .f32) (b : Fin 2) (q : Fin 8192) (h : Fin 8) (i : Fin 128) :
    normV g d (ix4 b q h i) = Flash.norm (fun i => d (ix4 b q h i)) (fun i => g (ix2 (0 : Fin 1) i))
      (Ideal.ofBits .f32 0x43000000#32) (Ideal.ofBits .f32 0x358637BD#32) (Ideal.ofBits .f32 0x3F4CCCCD#32) i := by
  unfold Flash.norm
  pointwise [normV]

/-- The score of key `k`, for every natural number `k`. -/
def score (x : FVec Ideal S16384x6144 .bf16) (b : Fin 2) (h : Fin 8) (c : Fin 2) (q : Fin 8192) (k : ℕ) : EReal :=
  if hk : k < 8192 then scoresV x (ix5 b h c q ⟨k, hk⟩) else ⊥

/-- Lane `i` of the value of key `k`, for every natural number `k`. -/
def value (x : FVec Ideal S16384x6144 .bf16) (b : Fin 2) (h : Fin 8) (i : Fin 128) (k : ℕ) : EReal :=
  if hk : k < 8192 then x (ix2 (⟨b.val * 8192 + k, by omega⟩ : Fin 16384) (⟨2048 + (h.val * 128 + i.val), by omega⟩ : Fin 6144)) else 0

theorem weight_eq (x : FVec Ideal S16384x6144 .bf16) (b : Fin 2) (h : Fin 8) (c : Fin 2) (q : Fin 8192) (k : Fin 8192) :
    weightsV (scoresV x) (ix5 b h c q k) = Flash.wt (score x b h c q k.val) (Flash.M (score x b h c q) 8192) := by
  rw [weightsV_at, maxV_at, max_eq_right bot_le, Flash.M, Flash.sup_range, Flash.wt]
  refine congrArg Ideal.exp (congrArg₂ (· - ·) ?_ ?_)
  · rw [score, dif_pos k.isLt]
  · exact Finset.sup_congr rfl fun k' _ => by rw [score, dif_pos k'.isLt]; rfl

/-- One component's row is the plain softmax row. -/
theorem row_at (x : FVec Ideal S16384x6144 .bf16) (b : Fin 2) (q : Fin 8192) (h : Fin 8) (c : Fin 2) (i : Fin 128) :
    rowsV x (sharesV (weightsV (scoresV x))) (ix5 b q h c i) = Flash.plain (score x b h c q) (value x b h i) 8192 := by
  rw [rowsV_at, Flash.plain, Finset.sum_range]
  refine Finset.sum_congr rfl fun k _ => congrArg₂ (· * ·) ?_ ?_
  · rw [value, dif_pos k.isLt]
  · rw [sharesV_at, weight_eq, Flash.L, Finset.sum_range]
    exact congrArg (Ideal.div _) (Finset.sum_congr rfl fun k' _ => weight_eq x b h c q k')

/-- THE REFERENCE AT AN INDEX: one normalised row of the difference of two plain softmax rows. -/
theorem diffRef_at (x : FVec Ideal S16384x6144 .bf16) (l : FVec Ideal S4x64 .f32) (g : FVec Ideal S1x128 .f32)
    (b : Fin 2) (q : Fin 8192) (h : Fin 8) (i : Fin 128) (j : S16384x1024.Idx)
    (h0 : (j 0).val = b.val * 8192 + q.val) (h1 : (j 1).val = h.val * 128 + i.val) :
    diffRef x l g j = Flash.norm (fun i => Flash.plain (score x b h 0 q) (value x b h i) 8192
        - lamV l ix0 * Flash.plain (score x b h 1 q) (value x b h i) 8192) (fun i => g (ix2 (0 : Fin 1) i))
      (Ideal.ofBits .f32 0x43000000#32) (Ideal.ofBits .f32 0x358637BD#32) (Ideal.ofBits .f32 0x3F4CCCCD#32) i := by
  have e : diffRef x l g j = normV g (mixV (lamV l) (rowsV x (sharesV (weightsV (scoresV x))))) (ix4 b q h i) := by
    pointwise [diffRef]
    refine congrArg _ ?_
    refine congr (congr (congr (congrArg ix4 ?_) ?_) ?_) ?_ <;> apply Fin.ext <;> simp only [h0, h1] <;> omega
  rw [e, normV_at]
  refine congrArg (fun o => Flash.norm o _ _ _ _ i) (funext fun i => ?_)
  rw [mixV_at, row_at, row_at]

end Cert.DiffRefIdeal.Value

end
-- ==== Proof.DiffValue.lean ====
/-
The differential attention: what the kernel's result array holds after the run.

The grid is 2 sequences by 8 heads by 16 query tiles. A block's scores are the reference's, each row's moved by a constant:
the kernel counts a key's distance from the query tile's start, the reference from the query itself. A softmax row does not
change when its scores move by a real constant, nor when bottom scores are appended, so each written block is the reference's.
-/
module
public import proofs.«01_k».proof.Proof.DiffBlock
public import proofs.«01_k».proof.Proof.DiffRef
public import Idealize.ShloMosaic.Lib.Claim
@[expose] public section
set_option maxRecDepth 16384

noncomputable section

open Idealize.ShloMosaic Idealize.ShloMosaic.TcCoe Idealize.SL.Sem
open Idealize.ShloMosaic.Pipeline (Dat)

namespace Cert.DiffIdeal.Value

open Cert.DiffIdeal Cert.DiffIdeal.Gen

variable (m : (ℓ : Loc nD τ sig) → Buf (Elt Ideal) ℓ)

/-- Where each window's block stands at point `t`. -/
theorem idx : ∀ t : Fin cfg0.N, win0_0.index t = ![0] ∧ win0_1.index t = ![t.val / 128 * 16 + t.val % 16, t.val / 16 % 8]
    ∧ win0_2.index t = ![t.val / 128, 8 + t.val / 16 % 8] ∧ win0_3.index t = ![t.val / 128, 16 + t.val / 16 % 8]
    ∧ win0_4.index t = ![0, 0] ∧ win0_5.index t = ![0, 0] ∧ win0_6.index t = ![t.val / 128 * 16 + t.val % 16, t.val / 16 % 8] :=
  (by decide +kernel : ∀ t : Fin grid0.N, _)

theorem coord : ∀ t : Fin cfg0.N, (grid0.coords t 1).val = t.val / 16 % 8 ∧ (grid0.coords t 2).val = t.val % 16 :=
  (by decide +kernel : ∀ t : Fin grid0.N, _)

theorem t_lt (t : Fin cfg0.N) : t.val < 256 := lt_of_lt_of_eq t.isLt (by decide +kernel : grid0.N = 256)

/-- The combined projections. -/
abbrev X (c : Dev nD) : FVec Ideal S16384x6144 .bf16 := m ((c : Thread nD τ).loc main_arg0)

theorem q_at (c : Dev nD) (t : Fin cfg0.N) (r : Fin 512) (l : Fin 128) : iblk m c 1 t (ix2 r l)
    = X m c (ix2 (⟨(t.val / 128 * 16 + t.val % 16) * 512 + r.val, by have := t_lt t; omega⟩ : Fin 16384) (⟨t.val / 16 % 8 * 128 + l.val, by omega⟩ : Fin 6144)) := by
  blk_point [iblk, V, idx t]

theorem k_at (c : Dev nD) (t : Fin cfg0.N) (k : Fin 8192) (l : Fin 128) : iblk m c 2 t (ix2 k l)
    = X m c (ix2 (⟨t.val / 128 * 8192 + k.val, by have := t_lt t; omega⟩ : Fin 16384) (⟨(8 + t.val / 16 % 8) * 128 + l.val, by omega⟩ : Fin 6144)) := by
  blk_point [iblk, V, idx t]

theorem v_at (c : Dev nD) (t : Fin cfg0.N) (k : Fin 8192) (l : Fin 128) : iblk m c 3 t (ix2 k l)
    = X m c (ix2 (⟨t.val / 128 * 8192 + k.val, by have := t_lt t; omega⟩ : Fin 16384) (⟨(16 + t.val / 16 % 8) * 128 + l.val, by omega⟩ : Fin 6144)) := by
  blk_point [iblk, V, idx t]

theorem lam_at (c : Dev nD) (t : Fin cfg0.N) (a : Fin 4) (l : Fin 64) : iblk m c 4 t (ix2 a l)
    = m ((c : Thread nD τ).loc main_arg1) (ix2 a l) := by
  blk_point [iblk, V, idx t]

theorem gain_at (c : Dev nD) (t : Fin cfg0.N) (l : Fin 128) : iblk m c 5 t (ix2 (0 : Fin 1) l)
    = m ((c : Thread nD τ).loc main_arg2) (ix2 (0 : Fin 1) l) := by
  blk_point [iblk, V, idx t]

theorem slope_at (c : Dev nD) (t : Fin cfg0.N) (h : Fin 8) : iblk m c 0 t (ix1 h) = Cert.DiffRefIdeal.Value.slope h.val := by
  blk_simp [iblk, idx t]
  entry_read
  pointwise
  have e : ((((View.whole main_v9).slice (win0_0.rect t)).emb (ix1 h) 0 : Fin 8) : ℕ) = h.val := by
    refine (Pipeline.Window.rect_emb_val win0_0 t (ix1 h) 0).trans ?_
    rw [(idx t).1]
    exact Nat.zero_add _
  rw [e]
  rfl

theorem slope_real (h : ℕ) : ∃ s : ℝ, Cert.DiffRefIdeal.Value.slope h = ((s : ℝ) : EReal) := by
  have h1 : ∃ a : ℝ, Ideal.ofBits .f32 0x3F317218#32 = ((a : ℝ) : EReal) := by
    simp [Ideal.ofBits, Ideal.ieee, -EReal.coe_mul]
  have h2 : ∃ a : ℝ, Ideal.ofBits .f32 0xC1000000#32 = ((a : ℝ) : EReal) :=
    ⟨-(8388608 * (2 ^ 20)⁻¹), by simp [Ideal.ofBits, Ideal.ieee, -EReal.coe_mul]⟩
  have h3 : Ideal.ofBits .f32 0x41000000#32 = ((8 : ℝ) : EReal) := by
    simp [Ideal.ofBits, Ideal.ieee, -EReal.coe_mul]; norm_num
  have h4 : ∃ a : ℝ, FloatOps.sitofp (F := Ideal) .f32 (BitVec.ofNat 32 h) = ((a : ℝ) : EReal) := ⟨_, rfl⟩
  obtain ⟨a, ha⟩ := h1
  obtain ⟨b, hb⟩ := h2
  obtain ⟨d, hd⟩ := h4
  refine ⟨Real.exp (a * (b * (1 + d) * (1 / 8))), ?_⟩
  rw [Cert.DiffRefIdeal.Value.slope, ha, hb, h3, hd, Ideal.div_coe (by norm_num)]
  exact congrArg Ideal.exp (by push_cast; rfl)

/-- The reference's score is the kernel's, moved by the slope times the row's place in its tile. -/
theorem score_eq (c : Dev nD) (t : Fin cfg0.N) (r : Fin 512) (a : Fin 2) (b : Fin 2) (h : Fin 8) (q : Fin 8192) (hb : b.val = t.val / 128)
    (hh : h.val = t.val / 16 % 8) (hq : q.val = 512 * (t.val % 16) + r.val) (s : ℝ)
    (hs : Cert.DiffRefIdeal.Value.slope h.val = ((s : ℝ) : EReal)) (k : ℕ) (hk : k < 8192) :
    Cert.DiffRefIdeal.Value.score (X m c) b h a q k
      = ksc (iblk m c 1 t) (iblk m c 2 t) ((s : ℝ) : EReal) (t.val % 16) a r k + ((-(s * (r.val : ℝ)) : ℝ) : EReal) := by
  have ht := t_lt t
  rw [Cert.DiffRefIdeal.Value.score, dif_pos hk, Cert.DiffRefIdeal.Value.scoresV_at, ksc, dif_pos hk, hs]
  by_cases hkq : k ≤ q.val
  · rw [if_pos hkq, if_pos (by omega), add_assoc, sub_eq_add_neg]
    refine congrArg₂ (· + ·) (Finset.sum_congr rfl fun l _ => ?_) ?_
    · rw [q_at, k_at]
      refine congrArg₂ (· * ·) (congrArg _ (congrArg₂ ix2 (Fin.ext ?_) (Fin.ext ?_))) (congrArg _ (congrArg₂ ix2 (Fin.ext ?_) (Fin.ext ?_)))
        <;> simp only [hb, hh, hq] <;> omega
    · rw [← EReal.coe_mul, ← EReal.coe_neg, ← EReal.coe_mul, ← EReal.coe_add]
      refine congrArg _ ?_
      rw [hq]
      push_cast
      ring
  · rw [if_neg hkq, if_neg (by omega), EReal.bot_add]

/-- ONE BLOCK is the reference's. -/
theorem block_eq (c : Dev nD) (t : Fin cfg0.N) (r : Fin 512) (j : Fin 128) (J : S16384x1024.Idx)
    (h0 : (J 0).val = (t.val / 128 * 16 + t.val % 16) * 512 + r.val) (h1 : (J 1).val = t.val / 16 % 8 * 128 + j.val) :
    outsAt0 m c t (ix2 r j) = Cert.DiffRefIdeal.Value.diffRef (X m c) (m ((c : Thread nD τ).loc main_arg1))
      (m ((c : Thread nD τ).loc main_arg2)) J := by
  have ht := t_lt t
  obtain ⟨e1, e2⟩ := coord t
  obtain ⟨s, hs⟩ := slope_real (t.val / 16 % 8)
  obtain ⟨ep, hep⟩ := Num.eps_real
  rw [Cert.DiffRefIdeal.Value.diffRef_at _ _ _ (⟨t.val / 128, by omega⟩ : Fin 2) (⟨512 * (t.val % 16) + r.val, by omega⟩ : Fin 8192)
    (⟨t.val / 16 % 8, by omega⟩ : Fin 8) j J (by rw [h0]; simp only; omega) (by rw [h1])]
  unfold outsAt0
  have hsl : iblk m c 0 t (ix1 (grid0.coords t 1)) = ((s : ℝ) : EReal) :=
    (slope_at m c t (grid0.coords t 1)).trans ((congrArg Cert.DiffRefIdeal.Value.slope e1).trans hs)
  refine (block_at c (grid0.coords t) _ _ _ _ _ _ _ _ _ _ _ _ _ _ _ _ _ _ _ _ r j).trans ?_
  rw [hsl, e2, Num.c128, hep]
  have hlam : lamK (iblk m c 4 t) = Cert.DiffRefIdeal.Value.lamV (m ((c : Thread nD τ).loc main_arg1)) ix0 := by
    rw [Cert.DiffRefIdeal.Value.lamV_at]
    unfold lamK
    simp only [lam_at]
  have hg : (fun j : Fin 128 => iblk m c 5 t (ix2 (0 : Fin 1) j)) = fun j => m ((c : Thread nD τ).loc main_arg2) (ix2 (0 : Fin 1) j) :=
    funext fun l => gain_at m c t l
  have hv : ∀ (i : Fin 128) (k : ℕ), kval (iblk m c 3 t) i k
      = Cert.DiffRefIdeal.Value.value (X m c) (⟨t.val / 128, by omega⟩ : Fin 2) (⟨t.val / 16 % 8, by omega⟩ : Fin 8) i k := fun i k => by
    unfold kval Cert.DiffRefIdeal.Value.value
    by_cases hk : k < 8192
    · rw [dif_pos hk, dif_pos hk, v_at]
      exact congrArg _ (congrArg₂ ix2 rfl (Fin.ext (by simp only; omega)))
    · rw [dif_neg hk, dif_neg hk]
  have hsc := fun (a : Fin 2) => score_eq m c t r a (⟨t.val / 128, by omega⟩ : Fin 2) (⟨t.val / 16 % 8, by omega⟩ : Fin 8)
    (⟨512 * (t.val % 16) + r.val, by omega⟩ : Fin 8192) rfl rfl rfl s hs
  have hbot : ∀ (a : Fin 2) (k : ℕ), 512 * (t.val % 16) + 512 ≤ k → k < 8192 →
      ksc (iblk m c 1 t) (iblk m c 2 t) ((s : ℝ) : EReal) (t.val % 16) a r k = ⊥ := fun a k hk _ => by
    rw [ksc, if_neg (by have := r.isLt; omega)]
  rw [hlam, hg]
  have hval := fun i => funext (hv i)
  simp only [hval]
  have hsh := fun (a : Fin 2) (v : ℕ → EReal) => Flash.plain_shift _ _ v _ 8192 (hsc a)
  simp only [hsh]
  have hx := fun (a : Fin 2) (v : ℕ → EReal) => Flash.streamed_extend _ v (by omega : 512 * (t.val % 16) + 512 ≤ 8192) (hbot a)
  simp only [← hx]
  exact Flash.row_eq _ _ _ 8192 _ _ _ (by norm_num) j

/-- THE RESULT of the kernel is the reference's. -/
theorem final (c : Dev nD) : (dats m 0 c).arrAt 6 (cfgs 0).N = Cert.DiffRefIdeal.Value.diffRef (X m c)
    (m ((c : Thread nD τ).loc main_arg1)) (m ((c : Thread nD τ).loc main_arg2)) :=
  (dats m 0 c).arrAt_eq_of_covers 6 _ (by decide +kernel) fun t hf y => by
    blk_simp
    rw [after0_6]
    have hy : y = ix2 (y 0 : Fin 512) (y 1 : Fin 128) := funext fun a => by
      match a with
      | 0 => rfl
      | 1 => rfl
    rw [hy]
    refine block_eq m c t (y 0) (y 1) _ ?_ ?_
    · refine (Pipeline.Window.rect_emb_val win0_6 t (ix2 (y 0 : Fin 512) (y 1 : Fin 128)) 0).trans ?_
      rw [(idx t).2.2.2.2.2.2]
      rfl
    · refine (Pipeline.Window.rect_emb_val win0_6 t (ix2 (y 0 : Fin 512) (y 1 : Fin 128)) 1).trans ?_
      rw [(idx t).2.2.2.2.2.2]
      rfl

end Cert.DiffIdeal.Value

end
-- ==== Proof.Proj.Cases.lean ====
/-
  The projection kernel: the six cases of its body and what each does to its windows.

  The grid is 32 row blocks by 6 column blocks, point `t` being column block `t % 6` of row block `t / 6`. The body
  branches on the column block alone, so it has six cases, A to F. Case A fills the scratch with the normalised rows;
  cases B to F each store one of the five f32 outputs (windows 6 to 10) and leave the other four untouched; every case
  stores the bf16 output (window 11). The f32 blocks are written back at the last of a row block's six points, case F,
  where the body stores into window 10 only: the blocks of windows 6 to 9 have been carried there from earlier points.
-/
module

public import proofs.«01_k».proof.Proof.Gen.ProjIdeal.Frame
public import proofs.«01_k».proof.Proof.Gen.ProjIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 6) — by arithmetic of the point. -/
theorem hcond0_0 : ∀ t : Fin cfg0.N, cond0_0 (grid0.coords t) ↔ t.val % 6 = 0 :=
  (fun t => by
    have ht : t.val < 192 := Nat.lt_of_lt_of_eq t.isLt N_0
    have e0 : (grid0.coords t 0).val = t.val / 6 % 32 := Pipeline.Grid.coords_val t 0 (by decide) rfl
    have e1 : (grid0.coords t 1).val = t.val / 1 % 6 := Pipeline.Grid.coords_val t 1 (by decide) rfl
    simp only [cond0_0, e0, e1]
    word_cmp
   : ∀ t : Fin grid0.N, cond0_0 (grid0.coords t) ↔ t.val % 6 = 0)

/-- The condition of the body's `scf.if` 1 (`k0_h2`), from the grid coordinates (the skeleton's scalar
    chain substituted). -/
abbrev cond0_1 (i : grid0.Coords) : Prop := k0_cond2 i = 1#1
/-- It holds at the points ≡ 1 (mod 6) — by arithmetic of the point. -/
theorem hcond0_1 : ∀ t : Fin cfg0.N, cond0_1 (grid0.coords t) ↔ t.val % 6 = 1 :=
  (fun t => by
    have ht : t.val < 192 := Nat.lt_of_lt_of_eq t.isLt N_0
    have e0 : (grid0.coords t 0).val = t.val / 6 % 32 := Pipeline.Grid.coords_val t 0 (by decide) rfl
    have e1 : (grid0.coords t 1).val = t.val / 1 % 6 := Pipeline.Grid.coords_val t 1 (by decide) rfl
    simp only [cond0_1, k0_cond2, e0, e1]
    word_cmp
   : ∀ t : Fin grid0.N, cond0_1 (grid0.coords t) ↔ t.val % 6 = 1)

/-- The condition of the body's `scf.if` 2 (`k0_h3`), from the grid coordinates (the skeleton's scalar
    chain substituted). -/
abbrev cond0_2 (i : grid0.Coords) : Prop := k0_cond3 i = 1#1
/-- It holds at the points ≡ 2 (mod 6) — by arithmetic of the point. -/
theorem hcond0_2 : ∀ t : Fin cfg0.N, cond0_2 (grid0.coords t) ↔ t.val % 6 = 2 :=
  (fun t => by
    have ht : t.val < 192 := Nat.lt_of_lt_of_eq t.isLt N_0
    have e0 : (grid0.coords t 0).val = t.val / 6 % 32 := Pipeline.Grid.coords_val t 0 (by decide) rfl
    have e1 : (grid0.coords t 1).val = t.val / 1 % 6 := Pipeline.Grid.coords_val t 1 (by decide) rfl
    simp only [cond0_2, k0_cond3, e0, e1]
    word_cmp
   : ∀ t : Fin grid0.N, cond0_2 (grid0.coords t) ↔ t.val % 6 = 2)

/-- The condition of the body's `scf.if` 3 (`k0_h4`), from the grid coordinates (the skeleton's scalar
    chain substituted). -/
abbrev cond0_3 (i : grid0.Coords) : Prop := k0_cond4 i = 1#1
/-- It holds at the points ≡ 3 (mod 6) — by arithmetic of the point. -/
theorem hcond0_3 : ∀ t : Fin cfg0.N, cond0_3 (grid0.coords t) ↔ t.val % 6 = 3 :=
  (fun t => by
    have ht : t.val < 192 := Nat.lt_of_lt_of_eq t.isLt N_0
    have e0 : (grid0.coords t 0).val = t.val / 6 % 32 := Pipeline.Grid.coords_val t 0 (by decide) rfl
    have e1 : (grid0.coords t 1).val = t.val / 1 % 6 := Pipeline.Grid.coords_val t 1 (by decide) rfl
    simp only [cond0_3, k0_cond4, e0, e1]
    word_cmp
   : ∀ t : Fin grid0.N, cond0_3 (grid0.coords t) ↔ t.val % 6 = 3)

/-- The condition of the body's `scf.if` 4 (`k0_h5`), from the grid coordinates (the skeleton's scalar
    chain substituted). -/
abbrev cond0_4 (i : grid0.Coords) : Prop := k0_cond5 i = 1#1
/-- It holds at the points ≡ 4 (mod 6) — by arithmetic of the point. -/
theorem hcond0_4 : ∀ t : Fin cfg0.N, cond0_4 (grid0.coords t) ↔ t.val % 6 = 4 :=
  (fun t => by
    have ht : t.val < 192 := Nat.lt_of_lt_of_eq t.isLt N_0
    have e0 : (grid0.coords t 0).val = t.val / 6 % 32 := Pipeline.Grid.coords_val t 0 (by decide) rfl
    have e1 : (grid0.coords t 1).val = t.val / 1 % 6 := Pipeline.Grid.coords_val t 1 (by decide) rfl
    simp only [cond0_4, k0_cond5, e0, e1]
    word_cmp
   : ∀ t : Fin grid0.N, cond0_4 (grid0.coords t) ↔ t.val % 6 = 4)

/-- The condition of the body's `scf.if` 5 (`k0_h6`), from the grid coordinates (the skeleton's scalar
    chain substituted). -/
abbrev cond0_5 (i : grid0.Coords) : Prop := k0_cond6 i = 1#1
/-- It holds at the points ≡ 5 (mod 6) — by arithmetic of the point. -/
theorem hcond0_5 : ∀ t : Fin cfg0.N, cond0_5 (grid0.coords t) ↔ t.val % 6 = 5 :=
  (fun t => by
    have ht : t.val < 192 := Nat.lt_of_lt_of_eq t.isLt N_0
    have e0 : (grid0.coords t 0).val = t.val / 6 % 32 := Pipeline.Grid.coords_val t 0 (by decide) rfl
    have e1 : (grid0.coords t 1).val = t.val / 1 % 6 := Pipeline.Grid.coords_val t 1 (by decide) rfl
    simp only [cond0_5, k0_cond6, e0, e1]
    word_cmp
   : ∀ t : Fin grid0.N, cond0_5 (grid0.coords t) ↔ t.val % 6 = 5)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 11 is never idle (an output stored at every point, under no condition). -/
theorem liveAt0_11 : ∀ t : Fin cfg0.N, cfg0.idle 11 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ ¬cond0_1 i ∧ ¬cond0_2 i ∧ ¬cond0_3 i ∧ ¬cond0_4 i ∧ ¬cond0_5 i
instance conds0_A.dec (i : grid0.Coords) : Decidable (conds0_A i) :=
  @instDecidableAnd _ _ inferInstance (@instDecidableAnd _ _ inferInstance (@instDecidableAnd _ _ inferInstance (@instDecidableAnd _ _ inferInstance (@instDecidableAnd _ _ inferInstance inferInstance))))
/-- Case B's branch conditions on the grid, as one proposition. -/
abbrev conds0_B (i : grid0.Coords) : Prop := ¬cond0_0 i ∧ cond0_1 i ∧ ¬cond0_2 i ∧ ¬cond0_3 i ∧ ¬cond0_4 i ∧ ¬cond0_5 i
instance conds0_B.dec (i : grid0.Coords) : Decidable (conds0_B i) :=
  @instDecidableAnd _ _ inferInstance (@instDecidableAnd _ _ inferInstance (@instDecidableAnd _ _ inferInstance (@instDecidableAnd _ _ inferInstance (@instDecidableAnd _ _ inferInstance inferInstance))))
/-- Case C's branch conditions on the grid, as one proposition. -/
abbrev conds0_C (i : grid0.Coords) : Prop := ¬cond0_0 i ∧ ¬cond0_1 i ∧ cond0_2 i ∧ ¬cond0_3 i ∧ ¬cond0_4 i ∧ ¬cond0_5 i
instance conds0_C.dec (i : grid0.Coords) : Decidable (conds0_C i) :=
  @instDecidableAnd _ _ inferInstance (@instDecidableAnd _ _ inferInstance (@instDecidableAnd _ _ inferInstance (@instDecidableAnd _ _ inferInstance (@instDecidableAnd _ _ inferInstance inferInstance))))
/-- Case D's branch conditions on the grid, as one proposition. -/
abbrev conds0_D (i : grid0.Coords) : Prop := ¬cond0_0 i ∧ ¬cond0_1 i ∧ ¬cond0_2 i ∧ cond0_3 i ∧ ¬cond0_4 i ∧ ¬cond0_5 i
instance conds0_D.dec (i : grid0.Coords) : Decidable (conds0_D i) :=
  @instDecidableAnd _ _ inferInstance (@instDecidableAnd _ _ inferInstance (@instDecidableAnd _ _ inferInstance (@instDecidableAnd _ _ inferInstance (@instDecidableAnd _ _ inferInstance inferInstance))))
/-- Case E's branch conditions on the grid, as one proposition. -/
abbrev conds0_E (i : grid0.Coords) : Prop := ¬cond0_0 i ∧ ¬cond0_1 i ∧ ¬cond0_2 i ∧ ¬cond0_3 i ∧ cond0_4 i ∧ ¬cond0_5 i
instance conds0_E.dec (i : grid0.Coords) : Decidable (conds0_E i) :=
  @instDecidableAnd _ _ inferInstance (@instDecidableAnd _ _ inferInstance (@instDecidableAnd _ _ inferInstance (@instDecidableAnd _ _ inferInstance (@instDecidableAnd _ _ inferInstance inferInstance))))
/-- Case F's branch conditions on the grid, as one proposition. -/
abbrev conds0_F (i : grid0.Coords) : Prop := ¬cond0_0 i ∧ ¬cond0_1 i ∧ ¬cond0_2 i ∧ ¬cond0_3 i ∧ ¬cond0_4 i ∧ cond0_5 i
instance conds0_F.dec (i : grid0.Coords) : Decidable (conds0_F i) :=
  @instDecidableAnd _ _ inferInstance (@instDecidableAnd _ _ inferInstance (@instDecidableAnd _ _ inferInstance (@instDecidableAnd _ _ inferInstance (@instDecidableAnd _ _ inferInstance inferInstance))))
/-- Whether output 6's buffer is FRESH at each position `1 ‥ N` — holds nothing the body stored since the region's entry or the
    last write-back (written back at the point before, or idle there and fresh before it) —, as a bitmask the classifier
    computed, bit `n` for position `n + 1`; position 0 is fresh. `freshTab0_6_step` checks it against the configuration's own
    step point by point and Lib/Pipeline/TableIdle.lean `Cfg.fresh_tab` makes it `Cfg.fresh` (`fresh0_6_eq`). -/
def freshTab0_6 : ℕ → Bool
  | 0 => true
  | n + 1 => (0x861861861861861861861861861861861861861861861861 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points of case A the printed configuration (`Cfg.idle`) calls output 6 idle: the case stores nothing into it. -/
theorem idleAt0_6_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → cfg0.idle 6 (grid0.coords t) = true :=
  fun t h0 h1 h2 h3 h4 h5 => (by decide +kernel : ∀ t : Fin cfg0.N, conds0_A (grid0.coords t) → cfg0.idle 6 (grid0.coords t) = true) t ⟨h0, h1, h2, h3, h4, h5⟩
/-- At the points of case A the pipeline does not write output 6's block back. -/
theorem noFlush0_6_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → (cfg0.win 6).flush t = false :=
  fun t h0 h1 h2 h3 h4 h5 => (by decide +kernel : ∀ t : Fin cfg0.N, conds0_A (grid0.coords t) → (cfg0.win 6).flush t = false) t ⟨h0, h1, h2, h3, h4, h5⟩
/-- At the points of case B the printed configuration (`Cfg.idle`) calls output 6 live: the case stores into it. -/
theorem liveAt0_6_B : ∀ t : Fin cfg0.N, ¬cond0_0 (grid0.coords t) → cond0_1 (grid0.coords t) → ¬cond0_2 (grid0.coords t) → ¬cond0_3 (grid0.coords t) → ¬cond0_4 (grid0.coords t) → ¬cond0_5 (grid0.coords t) → cfg0.idle 6 (grid0.coords t) = false :=
  fun t h0 h1 h2 h3 h4 h5 => (by decide +kernel : ∀ t : Fin cfg0.N, conds0_B (grid0.coords t) → cfg0.idle 6 (grid0.coords t) = false) t ⟨h0, h1, h2, h3, h4, h5⟩
/-- At the points of case C the printed configuration (`Cfg.idle`) calls output 6 idle: the case stores nothing into it. -/
theorem idleAt0_6_C : ∀ t : Fin cfg0.N, ¬cond0_0 (grid0.coords t) → ¬cond0_1 (grid0.coords t) → cond0_2 (grid0.coords t) → ¬cond0_3 (grid0.coords t) → ¬cond0_4 (grid0.coords t) → ¬cond0_5 (grid0.coords t) → cfg0.idle 6 (grid0.coords t) = true :=
  fun t h0 h1 h2 h3 h4 h5 => (by decide +kernel : ∀ t : Fin cfg0.N, conds0_C (grid0.coords t) → cfg0.idle 6 (grid0.coords t) = true) t ⟨h0, h1, h2, h3, h4, h5⟩
/-- At the points of case C the pipeline does not write output 6's block back. -/
theorem noFlush0_6_C : ∀ t : Fin cfg0.N, ¬cond0_0 (grid0.coords t) → ¬cond0_1 (grid0.coords t) → cond0_2 (grid0.coords t) → ¬cond0_3 (grid0.coords t) → ¬cond0_4 (grid0.coords t) → ¬cond0_5 (grid0.coords t) → (cfg0.win 6).flush t = false :=
  fun t h0 h1 h2 h3 h4 h5 => (by decide +kernel : ∀ t : Fin cfg0.N, conds0_C (grid0.coords t) → (cfg0.win 6).flush t = false) t ⟨h0, h1, h2, h3, h4, h5⟩
/-- At the points of case D the printed configuration (`Cfg.idle`) calls output 6 idle: the case stores nothing into it. -/
theorem idleAt0_6_D : ∀ t : Fin cfg0.N, ¬cond0_0 (grid0.coords t) → ¬cond0_1 (grid0.coords t) → ¬cond0_2 (grid0.coords t) → cond0_3 (grid0.coords t) → ¬cond0_4 (grid0.coords t) → ¬cond0_5 (grid0.coords t) → cfg0.idle 6 (grid0.coords t) = true :=
  fun t h0 h1 h2 h3 h4 h5 => (by decide +kernel : ∀ t : Fin cfg0.N, conds0_D (grid0.coords t) → cfg0.idle 6 (grid0.coords t) = true) t ⟨h0, h1, h2, h3, h4, h5⟩
/-- At the points of case D the pipeline does not write output 6's block back. -/
theorem noFlush0_6_D : ∀ t : Fin cfg0.N, ¬cond0_0 (grid0.coords t) → ¬cond0_1 (grid0.coords t) → ¬cond0_2 (grid0.coords t) → cond0_3 (grid0.coords t) → ¬cond0_4 (grid0.coords t) → ¬cond0_5 (grid0.coords t) → (cfg0.win 6).flush t = false :=
  fun t h0 h1 h2 h3 h4 h5 => (by decide +kernel : ∀ t : Fin cfg0.N, conds0_D (grid0.coords t) → (cfg0.win 6).flush t = false) t ⟨h0, h1, h2, h3, h4, h5⟩
/-- At the points of case E the printed configuration (`Cfg.idle`) calls output 6 idle: the case stores nothing into it. -/
theorem idleAt0_6_E : ∀ t : Fin cfg0.N, ¬cond0_0 (grid0.coords t) → ¬cond0_1 (grid0.coords t) → ¬cond0_2 (grid0.coords t) → ¬cond0_3 (grid0.coords t) → cond0_4 (grid0.coords t) → ¬cond0_5 (grid0.coords t) → cfg0.idle 6 (grid0.coords t) = true :=
  fun t h0 h1 h2 h3 h4 h5 => (by decide +kernel : ∀ t : Fin cfg0.N, conds0_E (grid0.coords t) → cfg0.idle 6 (grid0.coords t) = true) t ⟨h0, h1, h2, h3, h4, h5⟩
/-- At the points of case E the pipeline does not write output 6's block back. -/
theorem noFlush0_6_E : ∀ t : Fin cfg0.N, ¬cond0_0 (grid0.coords t) → ¬cond0_1 (grid0.coords t) → ¬cond0_2 (grid0.coords t) → ¬cond0_3 (grid0.coords t) → cond0_4 (grid0.coords t) → ¬cond0_5 (grid0.coords t) → (cfg0.win 6).flush t = false :=
  fun t h0 h1 h2 h3 h4 h5 => (by decide +kernel : ∀ t : Fin cfg0.N, conds0_E (grid0.coords t) → (cfg0.win 6).flush t = false) t ⟨h0, h1, h2, h3, h4, h5⟩
/-- At the points of case F output 6 is idle: the case stores nothing into it. -/
theorem idleAt0_6_F : ∀ t : Fin cfg0.N, ¬cond0_0 (grid0.coords t) → ¬cond0_1 (grid0.coords t) → ¬cond0_2 (grid0.coords t) → ¬cond0_3 (grid0.coords t) → ¬cond0_4 (grid0.coords t) → cond0_5 (grid0.coords t) → cfg0.idle 6 (grid0.coords t) = true :=
  fun t h0 h1 h2 h3 h4 h5 => (by decide +kernel : ∀ t : Fin cfg0.N, conds0_F (grid0.coords t) → cfg0.idle 6 (grid0.coords t) = true) t ⟨h0, h1, h2, h3, h4, h5⟩
/-- At the points of case F the pipeline writes output 6's block back. -/
theorem flushAt0_6_F : ∀ t : Fin cfg0.N, ¬cond0_0 (grid0.coords t) → ¬cond0_1 (grid0.coords t) → ¬cond0_2 (grid0.coords t) → ¬cond0_3 (grid0.coords t) → ¬cond0_4 (grid0.coords t) → cond0_5 (grid0.coords t) → (cfg0.win 6).flush t = true :=
  fun t h0 h1 h2 h3 h4 h5 => (by decide +kernel : ∀ t : Fin cfg0.N, conds0_F (grid0.coords t) → (cfg0.win 6).flush t = true) t ⟨h0, h1, h2, h3, h4, h5⟩
/-- At the points of case F, which keeps output 6's prior contents (reads it before covering, or covers it in part), the
    window's buffer is not FRESH: something was stored into it since the region's entry or its last write-back, idle points
    between or not (Lib/Pipeline/TableIdle.lean `Cfg.fresh`, by the table `freshTab0_6`). -/
theorem notFresh0_6_F : ∀ t : Fin cfg0.N, ¬cond0_0 (grid0.coords t) → ¬cond0_1 (grid0.coords t) → ¬cond0_2 (grid0.coords t) → ¬cond0_3 (grid0.coords t) → ¬cond0_4 (grid0.coords t) → cond0_5 (grid0.coords t) → cfg0.fresh 6 t.val = false :=
  fun t h0 h1 h2 h3 h4 h5 => (by intro t; rw [fresh0_6_eq t]; revert t; decide +kernel : ∀ t : Fin cfg0.N, conds0_F (grid0.coords t) → cfg0.fresh 6 t.val = false) t ⟨h0, h1, h2, h3, h4, h5⟩
/-- Whether output 7's buffer is FRESH at each position `1 ‥ N` — holds nothing the body stored since the region's entry or the
    last write-back (written back at the point before, or idle there and fresh before it) —, as a bitmask the classifier
    computed, bit `n` for position `n + 1`; position 0 is fresh. `freshTab0_7_step` checks it against the configuration's own
    step point by point and Lib/Pipeline/TableIdle.lean `Cfg.fresh_tab` makes it `Cfg.fresh` (`fresh0_7_eq`). -/
def freshTab0_7 : ℕ → Bool
  | 0 => true
  | n + 1 => (0x8e38e38e38e38e38e38e38e38e38e38e38e38e38e38e38e3 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the points of case A the printed configuration (`Cfg.idle`) calls output 7 idle: the case stores nothing into it. -/
theorem idleAt0_7_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → cfg0.idle 7 (grid0.coords t) = true :=
  fun t h0 h1 h2 h3 h4 h5 => (by decide +kernel : ∀ t : Fin cfg0.N, conds0_A (grid0.coords t) → cfg0.idle 7 (grid0.coords t) = true) t ⟨h0, h1, h2, h3, h4, h5⟩
/-- At the points of case A the pipeline does not write output 7's block back. -/
theorem noFlush0_7_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → (cfg0.win 7).flush t = false :=
  fun t h0 h1 h2 h3 h4 h5 => (by decide +kernel : ∀ t : Fin cfg0.N, conds0_A (grid0.coords t) → (cfg0.win 7).flush t = false) t ⟨h0, h1, h2, h3, h4, h5⟩
/-- At the points of case B the printed configuration (`Cfg.idle`) calls output 7 idle: the case stores nothing into it. -/
theorem idleAt0_7_B : ∀ t : Fin cfg0.N, ¬cond0_0 (grid0.coords t) → cond0_1 (grid0.coords t) → ¬cond0_2 (grid0.coords t) → ¬cond0_3 (grid0.coords t) → ¬cond0_4 (grid0.coords t) → ¬cond0_5 (grid0.coords t) → cfg0.idle 7 (grid0.coords t) = true :=
  fun t h0 h1 h2 h3 h4 h5 => (by decide +kernel : ∀ t : Fin cfg0.N, conds0_B (grid0.coords t) → cfg0.idle 7 (grid0.coords t) = true) t ⟨h0, h1, h2, h3, h4, h5⟩
/-- At the points of case B the pipeline does not write output 7's block back. -/
theorem noFlush0_7_B : ∀ t : Fin cfg0.N, ¬cond0_0 (grid0.coords t) → cond0_1 (grid0.coords t) → ¬cond0_2 (grid0.coords t) → ¬cond0_3 (grid0.coords t) → ¬cond0_4 (grid0.coords t) → ¬cond0_5 (grid0.coords t) → (cfg0.win 7).flush t = false :=
  fun t h0 h1 h2 h3 h4 h5 => (by decide +kernel : ∀ t : Fin cfg0.N, conds0_B (grid0.coords t) → (cfg0.win 7).flush t = false) t ⟨h0, h1, h2, h3, h4, h5⟩
/-- At the points of case C the printed configuration (`Cfg.idle`) calls output 7 live: the case stores into it. -/
theorem liveAt0_7_C : ∀ t : Fin cfg0.N, ¬cond0_0 (grid0.coords t) → ¬cond0_1 (grid0.coords t) → cond0_2 (grid0.coords t) → ¬cond0_3 (grid0.coords t) → ¬cond0_4 (grid0.coords t) → ¬cond0_5 (grid0.coords t) → cfg0.idle 7 (grid0.coords t) = false :=
  fun t h0 h1 h2 h3 h4 h5 => (by decide +kernel : ∀ t : Fin cfg0.N, conds0_C (grid0.coords t) → cfg0.idle 7 (grid0.coords t) = false) t ⟨h0, h1, h2, h3, h4, h5⟩
/-- At the points of case D the printed configuration (`Cfg.idle`) calls output 7 idle: the case stores nothing into it. -/
theorem idleAt0_7_D : ∀ t : Fin cfg0.N, ¬cond0_0 (grid0.coords t) → ¬cond0_1 (grid0.coords t) → ¬cond0_2 (grid0.coords t) → cond0_3 (grid0.coords t) → ¬cond0_4 (grid0.coords t) → ¬cond0_5 (grid0.coords t) → cfg0.idle 7 (grid0.coords t) = true :=
  fun t h0 h1 h2 h3 h4 h5 => (by decide +kernel : ∀ t : Fin cfg0.N, conds0_D (grid0.coords t) → cfg0.idle 7 (grid0.coords t) = true) t ⟨h0, h1, h2, h3, h4, h5⟩
/-- At the points of case D the pipeline does not write output 7's block back. -/
theorem noFlush0_7_D : ∀ t : Fin cfg0.N, ¬cond0_0 (grid0.coords t) → ¬cond0_1 (grid0.coords t) → ¬cond0_2 (grid0.coords t) → cond0_3 (grid0.coords t) → ¬cond0_4 (grid0.coords t) → ¬cond0_5 (grid0.coords t) → (cfg0.win 7).flush t = false :=
  fun t h0 h1 h2 h3 h4 h5 => (by decide +kernel : ∀ t : Fin cfg0.N, conds0_D (grid0.coords t) → (cfg0.win 7).flush t = false) t ⟨h0, h1, h2, h3, h4, h5⟩
/-- At the points of case E the printed configuration (`Cfg.idle`) calls output 7 idle: the case stores nothing into it. -/
theorem idleAt0_7_E : ∀ t : Fin cfg0.N, ¬cond0_0 (grid0.coords t) → ¬cond0_1 (grid0.coords t) → ¬cond0_2 (grid0.coords t) → ¬cond0_3 (grid0.coords t) → cond0_4 (grid0.coords t) → ¬cond0_5 (grid0.coords t) → cfg0.idle 7 (grid0.coords t) = true :=
  fun t h0 h1 h2 h3 h4 h5 => (by decide +kernel : ∀ t : Fin cfg0.N, conds0_E (grid0.coords t) → cfg0.idle 7 (grid0.coords t) = true) t ⟨h0, h1, h2, h3, h4, h5⟩
/-- At the points of case E the pipeline does not write output 7's block back. -/
theorem noFlush0_7_E : ∀ t : Fin cfg0.N, ¬cond0_0 (grid0.coords t) → ¬cond0_1 (grid0.coords t) → ¬cond0_2 (grid0.coords t) → ¬cond0_3 (grid0.coords t) → cond0_4 (grid0.coords t) → ¬cond0_5 (grid0.coords t) → (cfg0.win 7).flush t = false :=
  fun t h0 h1 h2 h3 h4 h5 => (by decide +kernel : ∀ t : Fin cfg0.N, conds0_E (grid0.coords t) → (cfg0.win 7).flush t = false) t ⟨h0, h1, h2, h3, h4, h5⟩
/-- At the points of case F output 7 is idle: the case stores nothing into it. -/
theorem idleAt0_7_F : ∀ t : Fin cfg0.N, ¬cond0_0 (grid0.coords t) → ¬cond0_1 (grid0.coords t) → ¬cond0_2 (grid0.coords t) → ¬cond0_3 (grid0.coords t) → ¬cond0_4 (grid0.coords t) → cond0_5 (grid0.coords t) → cfg0.idle 7 (grid0.coords t) = true :=
  fun t h0 h1 h2 h3 h4 h5 => (by decide +kernel : ∀ t : Fin cfg0.N, conds0_F (grid0.coords t) → cfg0.idle 7 (grid0.coords t) = true) t ⟨h0, h1, h2, h3, h4, h5⟩
/-- At the points of case F the pipeline writes output 7's block back. -/
theorem flushAt0_7_F : ∀ t : Fin cfg0.N, ¬cond0_0 (grid0.coords t) → ¬cond0_1 (grid0.coords t) → ¬cond0_2 (grid0.coords t) → ¬cond0_3 (grid0.coords t) → ¬cond0_4 (grid0.coords t) → cond0_5 (grid0.coords t) → (cfg0.win 7).flush t = true :=
  fun t h0 h1 h2 h3 h4 h5 => (by decide +kernel : ∀ t : Fin cfg0.N, conds0_F (grid0.coords t) → (cfg0.win 7).flush t = true) t ⟨h0, h1, h2, h3, h4, h5⟩
/-- At the points of case F, which keeps output 7's prior contents (reads it before covering, or covers it in part), the
    window's buffer is not FRESH: something was stored into it since the region's entry or its last write-back, idle points
    between or not (Lib/Pipeline/TableIdle.lean `Cfg.fresh`, by the table `freshTab0_7`). -/
theorem notFresh0_7_F : ∀ t : Fin cfg0.N, ¬cond0_0 (grid0.coords t) → ¬cond0_1 (grid0.coords t) → ¬cond0_2 (grid0.coords t) → ¬cond0_3 (grid0.coords t) → ¬cond0_4 (grid0.coords t) → cond0_5 (grid0.coords t) → cfg0.fresh 7 t.val = false :=
  fun t h0 h1 h2 h3 h4 h5 => (by intro t; rw [fresh0_7_eq t]; revert t; decide +kernel : ∀ t : Fin cfg0.N, conds0_F (grid0.coords t) → cfg0.fresh 7 t.val = false) t ⟨h0, h1, h2, h3, h4, h5⟩
/-- Whether output 8's buffer is FRESH at each position `1 ‥ N` — holds nothing the body stored since the region's entry or the
    last write-back (written back at the point before, or idle there and fresh before it) —, as a bitmask the classifier
    computed, bit `n` for position `n + 1`; position 0 is fresh. `freshTab0_8_step` checks it against the configuration's own
    step point by point and Lib/Pipeline/TableIdle.lean `Cfg.fresh_tab` makes it `Cfg.fresh` (`fresh0_8_eq`). -/
def freshTab0_8 : ℕ → Bool
  | 0 => true
  | n + 1 => (0x9e79e79e79e79e79e79e79e79e79e79e79e79e79e79e79e7 : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- At the points of case A the printed configuration (`Cfg.idle`) calls output 8 idle: the case stores nothing into it. -/
theorem idleAt0_8_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → cfg0.idle 8 (grid0.coords t) = true :=
  fun t h0 h1 h2 h3 h4 h5 => (by decide +kernel : ∀ t : Fin cfg0.N, conds0_A (grid0.coords t) → cfg0.idle 8 (grid0.coords t) = true) t ⟨h0, h1, h2, h3, h4, h5⟩
/-- At the points of case A the pipeline does not write output 8's block back. -/
theorem noFlush0_8_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → (cfg0.win 8).flush t = false :=
  fun t h0 h1 h2 h3 h4 h5 => (by decide +kernel : ∀ t : Fin cfg0.N, conds0_A (grid0.coords t) → (cfg0.win 8).flush t = false) t ⟨h0, h1, h2, h3, h4, h5⟩
/-- At the points of case B the printed configuration (`Cfg.idle`) calls output 8 idle: the case stores nothing into it. -/
theorem idleAt0_8_B : ∀ t : Fin cfg0.N, ¬cond0_0 (grid0.coords t) → cond0_1 (grid0.coords t) → ¬cond0_2 (grid0.coords t) → ¬cond0_3 (grid0.coords t) → ¬cond0_4 (grid0.coords t) → ¬cond0_5 (grid0.coords t) → cfg0.idle 8 (grid0.coords t) = true :=
  fun t h0 h1 h2 h3 h4 h5 => (by decide +kernel : ∀ t : Fin cfg0.N, conds0_B (grid0.coords t) → cfg0.idle 8 (grid0.coords t) = true) t ⟨h0, h1, h2, h3, h4, h5⟩
/-- At the points of case B the pipeline does not write output 8's block back. -/
theorem noFlush0_8_B : ∀ t : Fin cfg0.N, ¬cond0_0 (grid0.coords t) → cond0_1 (grid0.coords t) → ¬cond0_2 (grid0.coords t) → ¬cond0_3 (grid0.coords t) → ¬cond0_4 (grid0.coords t) → ¬cond0_5 (grid0.coords t) → (cfg0.win 8).flush t = false :=
  fun t h0 h1 h2 h3 h4 h5 => (by decide +kernel : ∀ t : Fin cfg0.N, conds0_B (grid0.coords t) → (cfg0.win 8).flush t = false) t ⟨h0, h1, h2, h3, h4, h5⟩
/-- At the points of case C the printed configuration (`Cfg.idle`) calls output 8 idle: the case stores nothing into it. -/
theorem idleAt0_8_C : ∀ t : Fin cfg0.N, ¬cond0_0 (grid0.coords t) → ¬cond0_1 (grid0.coords t) → cond0_2 (grid0.coords t) → ¬cond0_3 (grid0.coords t) → ¬cond0_4 (grid0.coords t) → ¬cond0_5 (grid0.coords t) → cfg0.idle 8 (grid0.coords t) = true :=
  fun t h0 h1 h2 h3 h4 h5 => (by decide +kernel : ∀ t : Fin cfg0.N, conds0_C (grid0.coords t) → cfg0.idle 8 (grid0.coords t) = true) t ⟨h0, h1, h2, h3, h4, h5⟩
/-- At the points of case C the pipeline does not write output 8's block back. -/
theorem noFlush0_8_C : ∀ t : Fin cfg0.N, ¬cond0_0 (grid0.coords t) → ¬cond0_1 (grid0.coords t) → cond0_2 (grid0.coords t) → ¬cond0_3 (grid0.coords t) → ¬cond0_4 (grid0.coords t) → ¬cond0_5 (grid0.coords t) → (cfg0.win 8).flush t = false :=
  fun t h0 h1 h2 h3 h4 h5 => (by decide +kernel : ∀ t : Fin cfg0.N, conds0_C (grid0.coords t) → (cfg0.win 8).flush t = false) t ⟨h0, h1, h2, h3, h4, h5⟩
/-- At the points of case D the printed configuration (`Cfg.idle`) calls output 8 live: the case stores into it. -/
theorem liveAt0_8_D : ∀ t : Fin cfg0.N, ¬cond0_0 (grid0.coords t) → ¬cond0_1 (grid0.coords t) → ¬cond0_2 (grid0.coords t) → cond0_3 (grid0.coords t) → ¬cond0_4 (grid0.coords t) → ¬cond0_5 (grid0.coords t) → cfg0.idle 8 (grid0.coords t) = false :=
  fun t h0 h1 h2 h3 h4 h5 => (by decide +kernel : ∀ t : Fin cfg0.N, conds0_D (grid0.coords t) → cfg0.idle 8 (grid0.coords t) = false) t ⟨h0, h1, h2, h3, h4, h5⟩
/-- At the points of case E the printed configuration (`Cfg.idle`) calls output 8 idle: the case stores nothing into it. -/
theorem idleAt0_8_E : ∀ t : Fin cfg0.N, ¬cond0_0 (grid0.coords t) → ¬cond0_1 (grid0.coords t) → ¬cond0_2 (grid0.coords t) → ¬cond0_3 (grid0.coords t) → cond0_4 (grid0.coords t) → ¬cond0_5 (grid0.coords t) → cfg0.idle 8 (grid0.coords t) = true :=
  fun t h0 h1 h2 h3 h4 h5 => (by decide +kernel : ∀ t : Fin cfg0.N, conds0_E (grid0.coords t) → cfg0.idle 8 (grid0.coords t) = true) t ⟨h0, h1, h2, h3, h4, h5⟩
/-- At the points of case E the pipeline does not write output 8's block back. -/
theorem noFlush0_8_E : ∀ t : Fin cfg0.N, ¬cond0_0 (grid0.coords t) → ¬cond0_1 (grid0.coords t) → ¬cond0_2 (grid0.coords t) → ¬cond0_3 (grid0.coords t) → cond0_4 (grid0.coords t) → ¬cond0_5 (grid0.coords t) → (cfg0.win 8).flush t = false :=
  fun t h0 h1 h2 h3 h4 h5 => (by decide +kernel : ∀ t : Fin cfg0.N, conds0_E (grid0.coords t) → (cfg0.win 8).flush t = false) t ⟨h0, h1, h2, h3, h4, h5⟩
/-- At the points of case F output 8 is idle: the case stores nothing into it. -/
theorem idleAt0_8_F : ∀ t : Fin cfg0.N, ¬cond0_0 (grid0.coords t) → ¬cond0_1 (grid0.coords t) → ¬cond0_2 (grid0.coords t) → ¬cond0_3 (grid0.coords t) → ¬cond0_4 (grid0.coords t) → cond0_5 (grid0.coords t) → cfg0.idle 8 (grid0.coords t) = true :=
  fun t h0 h1 h2 h3 h4 h5 => (by decide +kernel : ∀ t : Fin cfg0.N, conds0_F (grid0.coords t) → cfg0.idle 8 (grid0.coords t) = true) t ⟨h0, h1, h2, h3, h4, h5⟩
/-- At the points of case F the pipeline writes output 8's block back. -/
theorem flushAt0_8_F : ∀ t : Fin cfg0.N, ¬cond0_0 (grid0.coords t) → ¬cond0_1 (grid0.coords t) → ¬cond0_2 (grid0.coords t) → ¬cond0_3 (grid0.coords t) → ¬cond0_4 (grid0.coords t) → cond0_5 (grid0.coords t) → (cfg0.win 8).flush t = true :=
  fun t h0 h1 h2 h3 h4 h5 => (by decide +kernel : ∀ t : Fin cfg0.N, conds0_F (grid0.coords t) → (cfg0.win 8).flush t = true) t ⟨h0, h1, h2, h3, h4, h5⟩
/-- At the points of case F, which keeps output 8's prior contents (reads it before covering, or covers it in part), the
    window's buffer is not FRESH: something was stored into it since the region's entry or its last write-back, idle points
    between or not (Lib/Pipeline/TableIdle.lean `Cfg.fresh`, by the table `freshTab0_8`). -/
theorem notFresh0_8_F : ∀ t : Fin cfg0.N, ¬cond0_0 (grid0.coords t) → ¬cond0_1 (grid0.coords t) → ¬cond0_2 (grid0.coords t) → ¬cond0_3 (grid0.coords t) → ¬cond0_4 (grid0.coords t) → cond0_5 (grid0.coords t) → cfg0.fresh 8 t.val = false :=
  fun t h0 h1 h2 h3 h4 h5 => (by intro t; rw [fresh0_8_eq t]; revert t; decide +kernel : ∀ t : Fin cfg0.N, conds0_F (grid0.coords t) → cfg0.fresh 8 t.val = false) t ⟨h0, h1, h2, h3, h4, h5⟩
/-- Whether output 9's buffer is FRESH at each position `1 ‥ N` — holds nothing the body stored since the region's entry or the
    last write-back (written back at the point before, or idle there and fresh before it) —, as a bitmask the classifier
    computed, bit `n` for position `n + 1`; position 0 is fresh. `freshTab0_9_step` checks it against the configuration's own
    step point by point and Lib/Pipeline/TableIdle.lean `Cfg.fresh_tab` makes it `Cfg.fresh` (`fresh0_9_eq`). -/
def freshTab0_9 : ℕ → Bool
  | 0 => true
  | n + 1 => (0xbefbefbefbefbefbefbefbefbefbefbefbefbefbefbefbef : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the points of case A the printed configuration (`Cfg.idle`) calls output 9 idle: the case stores nothing into it. -/
theorem idleAt0_9_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → cfg0.idle 9 (grid0.coords t) = true :=
  fun t h0 h1 h2 h3 h4 h5 => (by decide +kernel : ∀ t : Fin cfg0.N, conds0_A (grid0.coords t) → cfg0.idle 9 (grid0.coords t) = true) t ⟨h0, h1, h2, h3, h4, h5⟩
/-- At the points of case A the pipeline does not write output 9's block back. -/
theorem noFlush0_9_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → (cfg0.win 9).flush t = false :=
  fun t h0 h1 h2 h3 h4 h5 => (by decide +kernel : ∀ t : Fin cfg0.N, conds0_A (grid0.coords t) → (cfg0.win 9).flush t = false) t ⟨h0, h1, h2, h3, h4, h5⟩
/-- At the points of case B the printed configuration (`Cfg.idle`) calls output 9 idle: the case stores nothing into it. -/
theorem idleAt0_9_B : ∀ t : Fin cfg0.N, ¬cond0_0 (grid0.coords t) → cond0_1 (grid0.coords t) → ¬cond0_2 (grid0.coords t) → ¬cond0_3 (grid0.coords t) → ¬cond0_4 (grid0.coords t) → ¬cond0_5 (grid0.coords t) → cfg0.idle 9 (grid0.coords t) = true :=
  fun t h0 h1 h2 h3 h4 h5 => (by decide +kernel : ∀ t : Fin cfg0.N, conds0_B (grid0.coords t) → cfg0.idle 9 (grid0.coords t) = true) t ⟨h0, h1, h2, h3, h4, h5⟩
/-- At the points of case B the pipeline does not write output 9's block back. -/
theorem noFlush0_9_B : ∀ t : Fin cfg0.N, ¬cond0_0 (grid0.coords t) → cond0_1 (grid0.coords t) → ¬cond0_2 (grid0.coords t) → ¬cond0_3 (grid0.coords t) → ¬cond0_4 (grid0.coords t) → ¬cond0_5 (grid0.coords t) → (cfg0.win 9).flush t = false :=
  fun t h0 h1 h2 h3 h4 h5 => (by decide +kernel : ∀ t : Fin cfg0.N, conds0_B (grid0.coords t) → (cfg0.win 9).flush t = false) t ⟨h0, h1, h2, h3, h4, h5⟩
/-- At the points of case C the printed configuration (`Cfg.idle`) calls output 9 idle: the case stores nothing into it. -/
theorem idleAt0_9_C : ∀ t : Fin cfg0.N, ¬cond0_0 (grid0.coords t) → ¬cond0_1 (grid0.coords t) → cond0_2 (grid0.coords t) → ¬cond0_3 (grid0.coords t) → ¬cond0_4 (grid0.coords t) → ¬cond0_5 (grid0.coords t) → cfg0.idle 9 (grid0.coords t) = true :=
  fun t h0 h1 h2 h3 h4 h5 => (by decide +kernel : ∀ t : Fin cfg0.N, conds0_C (grid0.coords t) → cfg0.idle 9 (grid0.coords t) = true) t ⟨h0, h1, h2, h3, h4, h5⟩
/-- At the points of case C the pipeline does not write output 9's block back. -/
theorem noFlush0_9_C : ∀ t : Fin cfg0.N, ¬cond0_0 (grid0.coords t) → ¬cond0_1 (grid0.coords t) → cond0_2 (grid0.coords t) → ¬cond0_3 (grid0.coords t) → ¬cond0_4 (grid0.coords t) → ¬cond0_5 (grid0.coords t) → (cfg0.win 9).flush t = false :=
  fun t h0 h1 h2 h3 h4 h5 => (by decide +kernel : ∀ t : Fin cfg0.N, conds0_C (grid0.coords t) → (cfg0.win 9).flush t = false) t ⟨h0, h1, h2, h3, h4, h5⟩
/-- At the points of case D the printed configuration (`Cfg.idle`) calls output 9 idle: the case stores nothing into it. -/
theorem idleAt0_9_D : ∀ t : Fin cfg0.N, ¬cond0_0 (grid0.coords t) → ¬cond0_1 (grid0.coords t) → ¬cond0_2 (grid0.coords t) → cond0_3 (grid0.coords t) → ¬cond0_4 (grid0.coords t) → ¬cond0_5 (grid0.coords t) → cfg0.idle 9 (grid0.coords t) = true :=
  fun t h0 h1 h2 h3 h4 h5 => (by decide +kernel : ∀ t : Fin cfg0.N, conds0_D (grid0.coords t) → cfg0.idle 9 (grid0.coords t) = true) t ⟨h0, h1, h2, h3, h4, h5⟩
/-- At the points of case D the pipeline does not write output 9's block back. -/
theorem noFlush0_9_D : ∀ t : Fin cfg0.N, ¬cond0_0 (grid0.coords t) → ¬cond0_1 (grid0.coords t) → ¬cond0_2 (grid0.coords t) → cond0_3 (grid0.coords t) → ¬cond0_4 (grid0.coords t) → ¬cond0_5 (grid0.coords t) → (cfg0.win 9).flush t = false :=
  fun t h0 h1 h2 h3 h4 h5 => (by decide +kernel : ∀ t : Fin cfg0.N, conds0_D (grid0.coords t) → (cfg0.win 9).flush t = false) t ⟨h0, h1, h2, h3, h4, h5⟩
/-- At the points of case E the printed configuration (`Cfg.idle`) calls output 9 live: the case stores into it. -/
theorem liveAt0_9_E : ∀ t : Fin cfg0.N, ¬cond0_0 (grid0.coords t) → ¬cond0_1 (grid0.coords t) → ¬cond0_2 (grid0.coords t) → ¬cond0_3 (grid0.coords t) → cond0_4 (grid0.coords t) → ¬cond0_5 (grid0.coords t) → cfg0.idle 9 (grid0.coords t) = false :=
  fun t h0 h1 h2 h3 h4 h5 => (by decide +kernel : ∀ t : Fin cfg0.N, conds0_E (grid0.coords t) → cfg0.idle 9 (grid0.coords t) = false) t ⟨h0, h1, h2, h3, h4, h5⟩
/-- At the points of case F output 9 is idle: the case stores nothing into it. -/
theorem idleAt0_9_F : ∀ t : Fin cfg0.N, ¬cond0_0 (grid0.coords t) → ¬cond0_1 (grid0.coords t) → ¬cond0_2 (grid0.coords t) → ¬cond0_3 (grid0.coords t) → ¬cond0_4 (grid0.coords t) → cond0_5 (grid0.coords t) → cfg0.idle 9 (grid0.coords t) = true :=
  fun t h0 h1 h2 h3 h4 h5 => (by decide +kernel : ∀ t : Fin cfg0.N, conds0_F (grid0.coords t) → cfg0.idle 9 (grid0.coords t) = true) t ⟨h0, h1, h2, h3, h4, h5⟩
/-- At the points of case F the pipeline writes output 9's block back. -/
theorem flushAt0_9_F : ∀ t : Fin cfg0.N, ¬cond0_0 (grid0.coords t) → ¬cond0_1 (grid0.coords t) → ¬cond0_2 (grid0.coords t) → ¬cond0_3 (grid0.coords t) → ¬cond0_4 (grid0.coords t) → cond0_5 (grid0.coords t) → (cfg0.win 9).flush t = true :=
  fun t h0 h1 h2 h3 h4 h5 => (by decide +kernel : ∀ t : Fin cfg0.N, conds0_F (grid0.coords t) → (cfg0.win 9).flush t = true) t ⟨h0, h1, h2, h3, h4, h5⟩
/-- At the points of case F, which keeps output 9's prior contents (reads it before covering, or covers it in part), the
    window's buffer is not FRESH: something was stored into it since the region's entry or its last write-back, idle points
    between or not (Lib/Pipeline/TableIdle.lean `Cfg.fresh`, by the table `freshTab0_9`). -/
theorem notFresh0_9_F : ∀ t : Fin cfg0.N, ¬cond0_0 (grid0.coords t) → ¬cond0_1 (grid0.coords t) → ¬cond0_2 (grid0.coords t) → ¬cond0_3 (grid0.coords t) → ¬cond0_4 (grid0.coords t) → cond0_5 (grid0.coords t) → cfg0.fresh 9 t.val = false :=
  fun t h0 h1 h2 h3 h4 h5 => (by intro t; rw [fresh0_9_eq t]; revert t; decide +kernel : ∀ t : Fin cfg0.N, conds0_F (grid0.coords t) → cfg0.fresh 9 t.val = false) t ⟨h0, h1, h2, h3, h4, h5⟩
/-- At the points of case A the printed configuration (`Cfg.idle`) calls output 10 idle: the case stores nothing into it. -/
theorem idleAt0_10_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → cfg0.idle 10 (grid0.coords t) = true :=
  fun t h0 h1 h2 h3 h4 h5 => (by decide +kernel : ∀ t : Fin cfg0.N, conds0_A (grid0.coords t) → cfg0.idle 10 (grid0.coords t) = true) t ⟨h0, h1, h2, h3, h4, h5⟩
/-- At the points of case A the pipeline does not write output 10's block back. -/
theorem noFlush0_10_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → (cfg0.win 10).flush t = false :=
  fun t h0 h1 h2 h3 h4 h5 => (by decide +kernel : ∀ t : Fin cfg0.N, conds0_A (grid0.coords t) → (cfg0.win 10).flush t = false) t ⟨h0, h1, h2, h3, h4, h5⟩
/-- At the points of case B the printed configuration (`Cfg.idle`) calls output 10 idle: the case stores nothing into it. -/
theorem idleAt0_10_B : ∀ t : Fin cfg0.N, ¬cond0_0 (grid0.coords t) → cond0_1 (grid0.coords t) → ¬cond0_2 (grid0.coords t) → ¬cond0_3 (grid0.coords t) → ¬cond0_4 (grid0.coords t) → ¬cond0_5 (grid0.coords t) → cfg0.idle 10 (grid0.coords t) = true :=
  fun t h0 h1 h2 h3 h4 h5 => (by decide +kernel : ∀ t : Fin cfg0.N, conds0_B (grid0.coords t) → cfg0.idle 10 (grid0.coords t) = true) t ⟨h0, h1, h2, h3, h4, h5⟩
/-- At the points of case B the pipeline does not write output 10's block back. -/
theorem noFlush0_10_B : ∀ t : Fin cfg0.N, ¬cond0_0 (grid0.coords t) → cond0_1 (grid0.coords t) → ¬cond0_2 (grid0.coords t) → ¬cond0_3 (grid0.coords t) → ¬cond0_4 (grid0.coords t) → ¬cond0_5 (grid0.coords t) → (cfg0.win 10).flush t = false :=
  fun t h0 h1 h2 h3 h4 h5 => (by decide +kernel : ∀ t : Fin cfg0.N, conds0_B (grid0.coords t) → (cfg0.win 10).flush t = false) t ⟨h0, h1, h2, h3, h4, h5⟩
/-- At the points of case C the printed configuration (`Cfg.idle`) calls output 10 idle: the case stores nothing into it. -/
theorem idleAt0_10_C : ∀ t : Fin cfg0.N, ¬cond0_0 (grid0.coords t) → ¬cond0_1 (grid0.coords t) → cond0_2 (grid0.coords t) → ¬cond0_3 (grid0.coords t) → ¬cond0_4 (grid0.coords t) → ¬cond0_5 (grid0.coords t) → cfg0.idle 10 (grid0.coords t) = true :=
  fun t h0 h1 h2 h3 h4 h5 => (by decide +kernel : ∀ t : Fin cfg0.N, conds0_C (grid0.coords t) → cfg0.idle 10 (grid0.coords t) = true) t ⟨h0, h1, h2, h3, h4, h5⟩
/-- At the points of case C the pipeline does not write output 10's block back. -/
theorem noFlush0_10_C : ∀ t : Fin cfg0.N, ¬cond0_0 (grid0.coords t) → ¬cond0_1 (grid0.coords t) → cond0_2 (grid0.coords t) → ¬cond0_3 (grid0.coords t) → ¬cond0_4 (grid0.coords t) → ¬cond0_5 (grid0.coords t) → (cfg0.win 10).flush t = false :=
  fun t h0 h1 h2 h3 h4 h5 => (by decide +kernel : ∀ t : Fin cfg0.N, conds0_C (grid0.coords t) → (cfg0.win 10).flush t = false) t ⟨h0, h1, h2, h3, h4, h5⟩
/-- At the points of case D the printed configuration (`Cfg.idle`) calls output 10 idle: the case stores nothing into it. -/
theorem idleAt0_10_D : ∀ t : Fin cfg0.N, ¬cond0_0 (grid0.coords t) → ¬cond0_1 (grid0.coords t) → ¬cond0_2 (grid0.coords t) → cond0_3 (grid0.coords t) → ¬cond0_4 (grid0.coords t) → ¬cond0_5 (grid0.coords t) → cfg0.idle 10 (grid0.coords t) = true :=
  fun t h0 h1 h2 h3 h4 h5 => (by decide +kernel : ∀ t : Fin cfg0.N, conds0_D (grid0.coords t) → cfg0.idle 10 (grid0.coords t) = true) t ⟨h0, h1, h2, h3, h4, h5⟩
/-- At the points of case D the pipeline does not write output 10's block back. -/
theorem noFlush0_10_D : ∀ t : Fin cfg0.N, ¬cond0_0 (grid0.coords t) → ¬cond0_1 (grid0.coords t) → ¬cond0_2 (grid0.coords t) → cond0_3 (grid0.coords t) → ¬cond0_4 (grid0.coords t) → ¬cond0_5 (grid0.coords t) → (cfg0.win 10).flush t = false :=
  fun t h0 h1 h2 h3 h4 h5 => (by decide +kernel : ∀ t : Fin cfg0.N, conds0_D (grid0.coords t) → (cfg0.win 10).flush t = false) t ⟨h0, h1, h2, h3, h4, h5⟩
/-- At the points of case E the printed configuration (`Cfg.idle`) calls output 10 idle: the case stores nothing into it. -/
theorem idleAt0_10_E : ∀ t : Fin cfg0.N, ¬cond0_0 (grid0.coords t) → ¬cond0_1 (grid0.coords t) → ¬cond0_2 (grid0.coords t) → ¬cond0_3 (grid0.coords t) → cond0_4 (grid0.coords t) → ¬cond0_5 (grid0.coords t) → cfg0.idle 10 (grid0.coords t) = true :=
  fun t h0 h1 h2 h3 h4 h5 => (by decide +kernel : ∀ t : Fin cfg0.N, conds0_E (grid0.coords t) → cfg0.idle 10 (grid0.coords t) = true) t ⟨h0, h1, h2, h3, h4, h5⟩
/-- At the points of case E the pipeline does not write output 10's block back. -/
theorem noFlush0_10_E : ∀ t : Fin cfg0.N, ¬cond0_0 (grid0.coords t) → ¬cond0_1 (grid0.coords t) → ¬cond0_2 (grid0.coords t) → ¬cond0_3 (grid0.coords t) → cond0_4 (grid0.coords t) → ¬cond0_5 (grid0.coords t) → (cfg0.win 10).flush t = false :=
  fun t h0 h1 h2 h3 h4 h5 => (by decide +kernel : ∀ t : Fin cfg0.N, conds0_E (grid0.coords t) → (cfg0.win 10).flush t = false) t ⟨h0, h1, h2, h3, h4, h5⟩
/-- At the points of case F the printed configuration (`Cfg.idle`) calls output 10 live: the case stores into it. -/
theorem liveAt0_10_F : ∀ t : Fin cfg0.N, ¬cond0_0 (grid0.coords t) → ¬cond0_1 (grid0.coords t) → ¬cond0_2 (grid0.coords t) → ¬cond0_3 (grid0.coords t) → ¬cond0_4 (grid0.coords t) → cond0_5 (grid0.coords t) → cfg0.idle 10 (grid0.coords t) = false :=
  fun t h0 h1 h2 h3 h4 h5 => (by decide +kernel : ∀ t : Fin cfg0.N, conds0_F (grid0.coords t) → cfg0.idle 10 (grid0.coords t) = false) t ⟨h0, h1, h2, h3, h4, h5⟩

/-! ## The kernel body on any staging memrefs: a subtype the run finds -/

/-- One staging buffer of output window 6, through which its contents are stated (`View.read_writes_of_cover`: the
    choice does not matter). -/
abbrev VO0_6 : View sig .tc .vmem S512x1024 .f32 := (Memref.whole cc0_stg6_0 : Memref sig .tc .vmem S512x1024 .f32).view
/-- One staging buffer of output window 7, through which its contents are stated (`View.read_writes_of_cover`: the
    choice does not matter). -/
abbrev VO0_7 : View sig .tc .vmem S512x1024 .f32 := (Memref.whole cc0_stg7_0 : Memref sig .tc .vmem S512x1024 .f32).view
/-- One staging buffer of output window 8, through which its contents are stated (`View.read_writes_of_cover`: the
    choice does not matter). -/
abbrev VO0_8 : View sig .tc .vmem S512x1024 .f32 := (Memref.whole cc0_stg8_0 : Memref sig .tc .vmem S512x1024 .f32).view
/-- One staging buffer of output window 9, through which its contents are stated (`View.read_writes_of_cover`: the
    choice does not matter). -/
abbrev VO0_9 : View sig .tc .vmem S512x1024 .f32 := (Memref.whole cc0_stg9_0 : Memref sig .tc .vmem S512x1024 .f32).view
/-- One staging buffer of output window 10, through which its contents are stated (`View.read_writes_of_cover`: the
    choice does not matter). -/
abbrev VO0_10 : View sig .tc .vmem S512x1024 .f32 := (Memref.whole cc0_stg10_0 : Memref sig .tc .vmem S512x1024 .f32).view
/-- One staging buffer of output window 11, through which its contents are stated (`View.read_writes_of_cover`: the
    choice does not matter). -/
abbrev VO0_11 : View sig .tc .vmem S512x1024 .bf16 := (Memref.whole cc0_stg11_0 : Memref sig .tc .vmem S512x1024 .bf16).view
/-- Each window's current staging memref at point `t`, spelled as the pipeline passes it (`bodyAt0`), and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1024 .bf16 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S512x2048 .bf16 := Memref.whole cc0_scratch0
/-- The scratch `arg14` the kernel carries between points, as a view: what it holds is stated through it. -/
abbrev VS0_0 : View sig .tc .vmem S512x2048 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.ProjIdeal.Gen

end
-- ==== Proof.Proj.RunA.lean ====
/-
  The projection kernel's body in case A (column block 0), run from its first statement to its last.
-/
module

public import proofs.«01_k».proof.Proof.Proj.Cases

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run of case A, at column block 0: from whole staging buffers, the inputs' at their contents `x·`, the body runs to a
    continuation that finds the inputs as they were and each buffer it stored into with the pieces it stored (last first).
    The pieces are the witness; buffers the case does not store into are handed back as found. -/
noncomputable def kernelRun0_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : cond0_0 i) (hc1 : ¬cond0_1 i) (hc2 : ¬cond0_2 i) (hc3 : ¬cond0_3 i) (hc4 : ¬cond0_4 i) (hc5 : ¬cond0_5 i)
    (x0 : Vec F S512x2048 .f32) (x1 : Vec F S1x2048 .f32) (x2 : Vec F S2048x1024 .bf16) (x3 : Vec F S1x1x128 .f32) (x4 : Vec F S1x1x128 .f32) (x5 : Vec F S1x128x128 .bf16) :
    Σ' (L6 : List (View.Piece (Elt F) S512x1024 .f32)), Σ' (L7 : List (View.Piece (Elt F) S512x1024 .f32)), Σ' (L8 : List (View.Piece (Elt F) S512x1024 .f32)), Σ' (L9 : List (View.Piece (Elt F) S512x1024 .f32)), Σ' (L10 : List (View.Piece (Elt F) S512x1024 .f32)), Σ' (L11 : List (View.Piece (Elt F) S512x1024 .bf16)), { LS0 : List (View.Piece (Elt F) S512x2048 .bf16) //
      ∀ (xi6 : Vec F S512x1024 .f32) (xi7 : Vec F S512x1024 .f32) (xi8 : Vec F S512x1024 .f32) (xi9 : Vec F S512x1024 .f32) (xi10 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14) K } := by
  refine ⟨[], [], [], [], [], ?_, ?_, fun xi6 xi7 xi8 xi9 xi10 E K => ?run⟩
  case run =>
    simp only [cc0_proj_eq_skeleton]; unfold cc0_proj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    iexists _; iexact HS0

end Cert.ProjIdeal.Gen

end
-- ==== Proof.Proj.RunB.lean ====
/-
  The projection kernel's body in case B (column block 1), run from its first statement to its last.
-/
module

public import proofs.«01_k».proof.Proof.Proj.Cases

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run of case B, at column block 1: from whole staging buffers, the inputs' at their contents `x·` and the scratch at `xs0`, the body runs to a
    continuation that finds the inputs as they were and each buffer it stored into with the pieces it stored (last first).
    The pieces are the witness; buffers the case does not store into are handed back as found. -/
noncomputable def kernelRun0_B (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : cond0_1 i) (hc2 : ¬cond0_2 i) (hc3 : ¬cond0_3 i) (hc4 : ¬cond0_4 i) (hc5 : ¬cond0_5 i)
    (x0 : Vec F S512x2048 .f32) (x1 : Vec F S1x2048 .f32) (x2 : Vec F S2048x1024 .bf16) (x3 : Vec F S1x1x128 .f32) (x4 : Vec F S1x1x128 .f32) (x5 : Vec F S1x128x128 .bf16) (xs0 : Vec F S512x2048 .bf16) :
    Σ' (L6 : List (View.Piece (Elt F) S512x1024 .f32)), Σ' (L7 : List (View.Piece (Elt F) S512x1024 .f32)), Σ' (L8 : List (View.Piece (Elt F) S512x1024 .f32)), Σ' (L9 : List (View.Piece (Elt F) S512x1024 .f32)), Σ' (L10 : List (View.Piece (Elt F) S512x1024 .f32)), Σ' (L11 : List (View.Piece (Elt F) S512x1024 .bf16)), { LS0 : List (View.Piece (Elt F) S512x2048 .bf16) //
      ∀ (xi7 : Vec F S512x1024 .f32) (xi8 : Vec F S512x1024 .f32) (xi9 : Vec F S512x1024 .f32) (xi10 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xi9 ∗ owns (c : Thread nD τ) arg12 fullShare xi10 ∗ (∃ d, owns (c : Thread nD τ) arg13 fullShare d) ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ owns (c : Thread nD τ) arg11 fullShare xi9 ∗ owns (c : Thread nD τ) arg12 fullShare xi10 ∗ (∃ f, arg13.view.loc (c : Thread nD τ) ↦[arg13.view.set]{fullShare} arg13.view.writes (Elt F) f L11) ∗ owns (c : Thread nD τ) arg14 fullShare xs0) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14) K } := by
  refine ⟨?_, [], [], [], [], ?_, [], fun xi7 xi8 xi9 xi10 E K => ?run⟩
  case run =>
    simp only [cc0_proj_eq_skeleton]; unfold cc0_proj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hf9; obtain rfl := harg12.eq_unread hf10; obtain rfl := harg14.eq_unread hfs0
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    iexists _; isplitr; · ipureintro; exact harg14.read_unread _
    iexact HS0

end Cert.ProjIdeal.Gen

end
-- ==== Proof.Proj.RunC.lean ====
/-
  The projection kernel's body in case C (column block 2), run from its first statement to its last.
-/
module

public import proofs.«01_k».proof.Proof.Proj.Cases

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run of case C, at column block 2: from whole staging buffers, the inputs' at their contents `x·` and the scratch at `xs0`, the body runs to a
    continuation that finds the inputs as they were and each buffer it stored into with the pieces it stored (last first).
    The pieces are the witness; buffers the case does not store into are handed back as found. -/
noncomputable def kernelRun0_C (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : ¬cond0_1 i) (hc2 : cond0_2 i) (hc3 : ¬cond0_3 i) (hc4 : ¬cond0_4 i) (hc5 : ¬cond0_5 i)
    (x0 : Vec F S512x2048 .f32) (x1 : Vec F S1x2048 .f32) (x2 : Vec F S2048x1024 .bf16) (x3 : Vec F S1x1x128 .f32) (x4 : Vec F S1x1x128 .f32) (x5 : Vec F S1x128x128 .bf16) (xs0 : Vec F S512x2048 .bf16) :
    Σ' (L6 : List (View.Piece (Elt F) S512x1024 .f32)), Σ' (L7 : List (View.Piece (Elt F) S512x1024 .f32)), Σ' (L8 : List (View.Piece (Elt F) S512x1024 .f32)), Σ' (L9 : List (View.Piece (Elt F) S512x1024 .f32)), Σ' (L10 : List (View.Piece (Elt F) S512x1024 .f32)), Σ' (L11 : List (View.Piece (Elt F) S512x1024 .bf16)), { LS0 : List (View.Piece (Elt F) S512x2048 .bf16) //
      ∀ (xi6 : Vec F S512x1024 .f32) (xi8 : Vec F S512x1024 .f32) (xi9 : Vec F S512x1024 .f32) (xi10 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ owns (c : Thread nD τ) arg10 fullShare xi8 ∗ owns (c : Thread nD τ) arg11 fullShare xi9 ∗ owns (c : Thread nD τ) arg12 fullShare xi10 ∗ (∃ d, owns (c : Thread nD τ) arg13 fullShare d) ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f L7) ∗ owns (c : Thread nD τ) arg10 fullShare xi8 ∗ owns (c : Thread nD τ) arg11 fullShare xi9 ∗ owns (c : Thread nD τ) arg12 fullShare xi10 ∗ (∃ f, arg13.view.loc (c : Thread nD τ) ↦[arg13.view.set]{fullShare} arg13.view.writes (Elt F) f L11) ∗ owns (c : Thread nD τ) arg14 fullShare xs0) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14) K } := by
  refine ⟨[], ?_, [], [], [], ?_, [], fun xi6 xi8 xi9 xi10 E K => ?run⟩
  case run =>
    simp only [cc0_proj_eq_skeleton]; unfold cc0_proj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%d11, %f11, -, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hf10; obtain rfl := harg14.eq_unread hfs0
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    iexists _; isplitr; · ipureintro; exact harg14.read_unread _
    iexact HS0

end Cert.ProjIdeal.Gen

end
-- ==== Proof.Proj.RunD.lean ====
/-
  The projection kernel's body in case D (column block 3), run from its first statement to its last.
-/
module

public import proofs.«01_k».proof.Proof.Proj.Cases

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run of case D, at column block 3: from whole staging buffers, the inputs' at their contents `x·` and the scratch at `xs0`, the body runs to a
    continuation that finds the inputs as they were and each buffer it stored into with the pieces it stored (last first).
    The pieces are the witness; buffers the case does not store into are handed back as found. -/
noncomputable def kernelRun0_D (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : ¬cond0_1 i) (hc2 : ¬cond0_2 i) (hc3 : cond0_3 i) (hc4 : ¬cond0_4 i) (hc5 : ¬cond0_5 i)
    (x0 : Vec F S512x2048 .f32) (x1 : Vec F S1x2048 .f32) (x2 : Vec F S2048x1024 .bf16) (x3 : Vec F S1x1x128 .f32) (x4 : Vec F S1x1x128 .f32) (x5 : Vec F S1x128x128 .bf16) (xs0 : Vec F S512x2048 .bf16) :
    Σ' (L6 : List (View.Piece (Elt F) S512x1024 .f32)), Σ' (L7 : List (View.Piece (Elt F) S512x1024 .f32)), Σ' (L8 : List (View.Piece (Elt F) S512x1024 .f32)), Σ' (L9 : List (View.Piece (Elt F) S512x1024 .f32)), Σ' (L10 : List (View.Piece (Elt F) S512x1024 .f32)), Σ' (L11 : List (View.Piece (Elt F) S512x1024 .bf16)), { LS0 : List (View.Piece (Elt F) S512x2048 .bf16) //
      ∀ (xi6 : Vec F S512x1024 .f32) (xi7 : Vec F S512x1024 .f32) (xi9 : Vec F S512x1024 .f32) (xi10 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ owns (c : Thread nD τ) arg11 fullShare xi9 ∗ owns (c : Thread nD τ) arg12 fullShare xi10 ∗ (∃ d, owns (c : Thread nD τ) arg13 fullShare d) ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f L8) ∗ owns (c : Thread nD τ) arg11 fullShare xi9 ∗ owns (c : Thread nD τ) arg12 fullShare xi10 ∗ (∃ f, arg13.view.loc (c : Thread nD τ) ↦[arg13.view.set]{fullShare} arg13.view.writes (Elt F) f L11) ∗ owns (c : Thread nD τ) arg14 fullShare xs0) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14) K } := by
  refine ⟨[], [], ?_, [], [], ?_, [], fun xi6 xi7 xi9 xi10 E K => ?run⟩
  case run =>
    simp only [cc0_proj_eq_skeleton]; unfold cc0_proj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg14.eq_unread hfs0
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    iexists _; isplitr; · ipureintro; exact harg14.read_unread _
    iexact HS0

end Cert.ProjIdeal.Gen

end
-- ==== Proof.Proj.RunE.lean ====
/-
  The projection kernel's body in case E (column block 4), run from its first statement to its last.
-/
module

public import proofs.«01_k».proof.Proof.Proj.Cases

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run of case E, at column block 4: from whole staging buffers, the inputs' at their contents `x·` and the scratch at `xs0`, the body runs to a
    continuation that finds the inputs as they were and each buffer it stored into with the pieces it stored (last first).
    The pieces are the witness; buffers the case does not store into are handed back as found. -/
noncomputable def kernelRun0_E (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : ¬cond0_1 i) (hc2 : ¬cond0_2 i) (hc3 : ¬cond0_3 i) (hc4 : cond0_4 i) (hc5 : ¬cond0_5 i)
    (x0 : Vec F S512x2048 .f32) (x1 : Vec F S1x2048 .f32) (x2 : Vec F S2048x1024 .bf16) (x3 : Vec F S1x1x128 .f32) (x4 : Vec F S1x1x128 .f32) (x5 : Vec F S1x128x128 .bf16) (xs0 : Vec F S512x2048 .bf16) :
    Σ' (L6 : List (View.Piece (Elt F) S512x1024 .f32)), Σ' (L7 : List (View.Piece (Elt F) S512x1024 .f32)), Σ' (L8 : List (View.Piece (Elt F) S512x1024 .f32)), Σ' (L9 : List (View.Piece (Elt F) S512x1024 .f32)), Σ' (L10 : List (View.Piece (Elt F) S512x1024 .f32)), Σ' (L11 : List (View.Piece (Elt F) S512x1024 .bf16)), { LS0 : List (View.Piece (Elt F) S512x2048 .bf16) //
      ∀ (xi6 : Vec F S512x1024 .f32) (xi7 : Vec F S512x1024 .f32) (xi8 : Vec F S512x1024 .f32) (xi10 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ (∃ d, owns (c : Thread nD τ) arg11 fullShare d) ∗ owns (c : Thread nD τ) arg12 fullShare xi10 ∗ (∃ d, owns (c : Thread nD τ) arg13 fullShare d) ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ (∃ f, arg11.view.loc (c : Thread nD τ) ↦[arg11.view.set]{fullShare} arg11.view.writes (Elt F) f L9) ∗ owns (c : Thread nD τ) arg12 fullShare xi10 ∗ (∃ f, arg13.view.loc (c : Thread nD τ) ↦[arg13.view.set]{fullShare} arg13.view.writes (Elt F) f L11) ∗ owns (c : Thread nD τ) arg14 fullShare xs0) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14) K } := by
  refine ⟨[], [], [], ?_, [], ?_, [], fun xi6 xi7 xi8 xi10 E K => ?run⟩
  case run =>
    simp only [cc0_proj_eq_skeleton]; unfold cc0_proj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg14.eq_unread hfs0
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]
    · iexists _; isplitr; · ipureintro; exact harg12.read_unread _
      iexact H10
    isplitl [H11]; · iexists _; iexact H11
    iexists _; isplitr; · ipureintro; exact harg14.read_unread _
    iexact HS0

end Cert.ProjIdeal.Gen

end
-- ==== Proof.Proj.RunF.lean ====
/-
  The projection kernel's body in case F (column block 5), run from its first statement to its last.
-/
module

public import proofs.«01_k».proof.Proof.Proj.Cases

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run of case F, at column block 5: from whole staging buffers, the inputs' at their contents `x·` and the scratch at `xs0`, the body runs to a
    continuation that finds the inputs as they were and each buffer it stored into with the pieces it stored (last first).
    The pieces are the witness; buffers the case does not store into are handed back as found. -/
noncomputable def kernelRun0_F (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : ¬cond0_1 i) (hc2 : ¬cond0_2 i) (hc3 : ¬cond0_3 i) (hc4 : ¬cond0_4 i) (hc5 : cond0_5 i)
    (x0 : Vec F S512x2048 .f32) (x1 : Vec F S1x2048 .f32) (x2 : Vec F S2048x1024 .bf16) (x3 : Vec F S1x1x128 .f32) (x4 : Vec F S1x1x128 .f32) (x5 : Vec F S1x128x128 .bf16) (xo6 : Vec F S512x1024 .f32) (xo7 : Vec F S512x1024 .f32) (xo8 : Vec F S512x1024 .f32) (xo9 : Vec F S512x1024 .f32) (xs0 : Vec F S512x2048 .bf16) :
    Σ' (L6 : List (View.Piece (Elt F) S512x1024 .f32)), Σ' (L7 : List (View.Piece (Elt F) S512x1024 .f32)), Σ' (L8 : List (View.Piece (Elt F) S512x1024 .f32)), Σ' (L9 : List (View.Piece (Elt F) S512x1024 .f32)), Σ' (L10 : List (View.Piece (Elt F) S512x1024 .f32)), Σ' (L11 : List (View.Piece (Elt F) S512x1024 .bf16)), { LS0 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7 ∗ owns (c : Thread nD τ) arg10 fullShare xo8 ∗ owns (c : Thread nD τ) arg11 fullShare xo9 ∗ (∃ d, owns (c : Thread nD τ) arg12 fullShare d) ∗ (∃ d, owns (c : Thread nD τ) arg13 fullShare d) ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7 ∗ owns (c : Thread nD τ) arg10 fullShare xo8 ∗ owns (c : Thread nD τ) arg11 fullShare xo9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ owns (c : Thread nD τ) arg14 fullShare xs0) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14) K } := by
  refine ⟨[], [], [], [], ?_, ?_, [], fun E K => ?run⟩
  case run =>
    simp only [cc0_proj_eq_skeleton]; unfold cc0_proj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    iexists _; isplitr; · ipureintro; exact harg14.read_unread _
    iexact HS0

end Cert.ProjIdeal.Gen

end
-- ==== Proof.Proj.Out.lean ====
/-
  The projection kernel: what each case of the body leaves in each output's staging buffer and in the scratch.
-/
module

public import proofs.«01_k».proof.Proof.Proj.RunA
public import proofs.«01_k».proof.Proof.Proj.RunB
public import proofs.«01_k».proof.Proof.Proj.RunC
public import proofs.«01_k».proof.Proof.Proj.RunD
public import proofs.«01_k».proof.Proof.Proj.RunE
public import proofs.«01_k».proof.Proof.Proj.RunF
public import Idealize.ShloMosaic.Lib.Claim

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section CaseA

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole)
  (hc0 : cond0_0 i) (hc1 : ¬cond0_1 i) (hc2 : ¬cond0_2 i) (hc3 : ¬cond0_3 i) (hc4 : ¬cond0_4 i) (hc5 : ¬cond0_5 i)
  (x0 : Vec F S512x2048 .f32) (x1 : Vec F S1x2048 .f32) (x2 : Vec F S2048x1024 .bf16) (x3 : Vec F S1x1x128 .f32) (x4 : Vec F S1x1x128 .f32) (x5 : Vec F S1x128x128 .bf16)

/-- What output 6's staging buffer holds after the body in case A: what it held before. -/
def out0_A_6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : cond0_0 i) (hc1 : ¬cond0_1 i) (hc2 : ¬cond0_2 i) (hc3 : ¬cond0_3 i) (hc4 : ¬cond0_4 i) (hc5 : ¬cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xo6 : Vec F S512x1024 .f32) : Vec F S512x1024 .f32 := xo6

/-- What output 7's staging buffer holds after the body in case A: what it held before. -/
def out0_A_7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : cond0_0 i) (hc1 : ¬cond0_1 i) (hc2 : ¬cond0_2 i) (hc3 : ¬cond0_3 i) (hc4 : ¬cond0_4 i) (hc5 : ¬cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xo7 : Vec F S512x1024 .f32) : Vec F S512x1024 .f32 := xo7

/-- What output 8's staging buffer holds after the body in case A: what it held before. -/
def out0_A_8 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : cond0_0 i) (hc1 : ¬cond0_1 i) (hc2 : ¬cond0_2 i) (hc3 : ¬cond0_3 i) (hc4 : ¬cond0_4 i) (hc5 : ¬cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xo8 : Vec F S512x1024 .f32) : Vec F S512x1024 .f32 := xo8

/-- What output 9's staging buffer holds after the body in case A: what it held before. -/
def out0_A_9 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : cond0_0 i) (hc1 : ¬cond0_1 i) (hc2 : ¬cond0_2 i) (hc3 : ¬cond0_3 i) (hc4 : ¬cond0_4 i) (hc5 : ¬cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xo9 : Vec F S512x1024 .f32) : Vec F S512x1024 .f32 := xo9

/-- What output 10's staging buffer holds after the body in case A. -/
def out0_A_10 : Vec F S512x1024 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5).2.2.2.2.1)

/-- In case A the pieces stored into output 11 cover its block. -/
theorem cover0_A_11 (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5).2.2.2.2.2.1 S512x1024.size (by sl_kernel_rfl) y

/-- What output 11's staging buffer holds after the body in case A. -/
def out0_A_11 : Vec F S512x1024 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5).2.2.2.2.2.1)

/-- In case A the pieces stored into the scratch cover it. -/
theorem scover0_A_0 (y : S512x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5).2.2.2.2.2.2.1 S512x2048.size (by sl_kernel_rfl) y

/-- What the scratch holds after the body in case A. -/
def sout0_A_0 : Vec F S512x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5).2.2.2.2.2.2.1)

end CaseA

section CaseB

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole)
  (hc0 : ¬cond0_0 i) (hc1 : cond0_1 i) (hc2 : ¬cond0_2 i) (hc3 : ¬cond0_3 i) (hc4 : ¬cond0_4 i) (hc5 : ¬cond0_5 i)
  (x0 : Vec F S512x2048 .f32) (x1 : Vec F S1x2048 .f32) (x2 : Vec F S2048x1024 .bf16) (x3 : Vec F S1x1x128 .f32) (x4 : Vec F S1x1x128 .f32) (x5 : Vec F S1x128x128 .bf16)

/-- In case B the pieces stored into output 6 cover its block. -/
theorem cover0_B_6 (xs0 : Vec F S512x2048 .bf16) (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).1 S512x1024.size (by sl_kernel_rfl) y

/-- What output 6's staging buffer holds after the body in case B. -/
def out0_B_6 (xs0 : Vec F S512x2048 .bf16) : Vec F S512x1024 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).1)

/-- What output 7's staging buffer holds after the body in case B: what it held before. -/
def out0_B_7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : cond0_1 i) (hc2 : ¬cond0_2 i) (hc3 : ¬cond0_3 i) (hc4 : ¬cond0_4 i) (hc5 : ¬cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xs0 : Vec F S512x2048 .bf16) (xo7 : Vec F S512x1024 .f32) : Vec F S512x1024 .f32 := xo7

/-- What output 8's staging buffer holds after the body in case B: what it held before. -/
def out0_B_8 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : cond0_1 i) (hc2 : ¬cond0_2 i) (hc3 : ¬cond0_3 i) (hc4 : ¬cond0_4 i) (hc5 : ¬cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xs0 : Vec F S512x2048 .bf16) (xo8 : Vec F S512x1024 .f32) : Vec F S512x1024 .f32 := xo8

/-- What output 9's staging buffer holds after the body in case B: what it held before. -/
def out0_B_9 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : cond0_1 i) (hc2 : ¬cond0_2 i) (hc3 : ¬cond0_3 i) (hc4 : ¬cond0_4 i) (hc5 : ¬cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xs0 : Vec F S512x2048 .bf16) (xo9 : Vec F S512x1024 .f32) : Vec F S512x1024 .f32 := xo9

/-- What output 10's staging buffer holds after the body in case B. -/
def out0_B_10 (xs0 : Vec F S512x2048 .bf16) : Vec F S512x1024 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.2.2.1)

/-- In case B the pieces stored into output 11 cover its block. -/
theorem cover0_B_11 (xs0 : Vec F S512x2048 .bf16) (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.2.2.2.1 S512x1024.size (by sl_kernel_rfl) y

/-- What output 11's staging buffer holds after the body in case B. -/
def out0_B_11 (xs0 : Vec F S512x2048 .bf16) : Vec F S512x1024 .bf16 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.2.2.2.1)

/-- What the scratch holds after the body in case B. -/
def sout0_B_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : cond0_1 i) (hc2 : ¬cond0_2 i) (hc3 : ¬cond0_3 i) (hc4 : ¬cond0_4 i) (hc5 : ¬cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xs0 : Vec F S512x2048 .bf16) : Vec F S512x2048 .bf16 := xs0

end CaseB

section CaseC

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole)
  (hc0 : ¬cond0_0 i) (hc1 : ¬cond0_1 i) (hc2 : cond0_2 i) (hc3 : ¬cond0_3 i) (hc4 : ¬cond0_4 i) (hc5 : ¬cond0_5 i)
  (x0 : Vec F S512x2048 .f32) (x1 : Vec F S1x2048 .f32) (x2 : Vec F S2048x1024 .bf16) (x3 : Vec F S1x1x128 .f32) (x4 : Vec F S1x1x128 .f32) (x5 : Vec F S1x128x128 .bf16)

/-- What output 6's staging buffer holds after the body in case C: what it held before. -/
def out0_C_6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : ¬cond0_1 i) (hc2 : cond0_2 i) (hc3 : ¬cond0_3 i) (hc4 : ¬cond0_4 i) (hc5 : ¬cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xs0 : Vec F S512x2048 .bf16) (xo6 : Vec F S512x1024 .f32) : Vec F S512x1024 .f32 := xo6

/-- In case C the pieces stored into output 7 cover its block. -/
theorem cover0_C_7 (xs0 : Vec F S512x2048 .bf16) (y : S512x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.1 S512x1024.size (by sl_kernel_rfl) y

/-- What output 7's staging buffer holds after the body in case C. -/
def out0_C_7 (xs0 : Vec F S512x2048 .bf16) : Vec F S512x1024 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.1)

/-- What output 8's staging buffer holds after the body in case C: what it held before. -/
def out0_C_8 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : ¬cond0_1 i) (hc2 : cond0_2 i) (hc3 : ¬cond0_3 i) (hc4 : ¬cond0_4 i) (hc5 : ¬cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xs0 : Vec F S512x2048 .bf16) (xo8 : Vec F S512x1024 .f32) : Vec F S512x1024 .f32 := xo8

/-- What output 9's staging buffer holds after the body in case C: what it held before. -/
def out0_C_9 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : ¬cond0_1 i) (hc2 : cond0_2 i) (hc3 : ¬cond0_3 i) (hc4 : ¬cond0_4 i) (hc5 : ¬cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xs0 : Vec F S512x2048 .bf16) (xo9 : Vec F S512x1024 .f32) : Vec F S512x1024 .f32 := xo9

/-- What output 10's staging buffer holds after the body in case C. -/
def out0_C_10 (xs0 : Vec F S512x2048 .bf16) : Vec F S512x1024 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.2.2.1)

/-- In case C the pieces stored into output 11 cover its block. -/
theorem cover0_C_11 (xs0 : Vec F S512x2048 .bf16) (y : S512x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.2.2.2.1 S512x1024.size (by sl_kernel_rfl) y

/-- What output 11's staging buffer holds after the body in case C. -/
def out0_C_11 (xs0 : Vec F S512x2048 .bf16) : Vec F S512x1024 .bf16 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.2.2.2.1)

/-- What the scratch holds after the body in case C. -/
def sout0_C_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : ¬cond0_1 i) (hc2 : cond0_2 i) (hc3 : ¬cond0_3 i) (hc4 : ¬cond0_4 i) (hc5 : ¬cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xs0 : Vec F S512x2048 .bf16) : Vec F S512x2048 .bf16 := xs0

end CaseC

section CaseD

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole)
  (hc0 : ¬cond0_0 i) (hc1 : ¬cond0_1 i) (hc2 : ¬cond0_2 i) (hc3 : cond0_3 i) (hc4 : ¬cond0_4 i) (hc5 : ¬cond0_5 i)
  (x0 : Vec F S512x2048 .f32) (x1 : Vec F S1x2048 .f32) (x2 : Vec F S2048x1024 .bf16) (x3 : Vec F S1x1x128 .f32) (x4 : Vec F S1x1x128 .f32) (x5 : Vec F S1x128x128 .bf16)

/-- What output 6's staging buffer holds after the body in case D: what it held before. -/
def out0_D_6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : ¬cond0_1 i) (hc2 : ¬cond0_2 i) (hc3 : cond0_3 i) (hc4 : ¬cond0_4 i) (hc5 : ¬cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xs0 : Vec F S512x2048 .bf16) (xo6 : Vec F S512x1024 .f32) : Vec F S512x1024 .f32 := xo6

/-- What output 7's staging buffer holds after the body in case D: what it held before. -/
def out0_D_7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : ¬cond0_1 i) (hc2 : ¬cond0_2 i) (hc3 : cond0_3 i) (hc4 : ¬cond0_4 i) (hc5 : ¬cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xs0 : Vec F S512x2048 .bf16) (xo7 : Vec F S512x1024 .f32) : Vec F S512x1024 .f32 := xo7

/-- In case D the pieces stored into output 8 cover its block. -/
theorem cover0_D_8 (xs0 : Vec F S512x2048 .bf16) (y : S512x1024.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.1 S512x1024.size (by sl_kernel_rfl) y

/-- What output 8's staging buffer holds after the body in case D. -/
def out0_D_8 (xs0 : Vec F S512x2048 .bf16) : Vec F S512x1024 .f32 :=
  VO0_8.read (Elt F) (VO0_8.writes (Elt F) VO0_8.junk (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.1)

/-- What output 9's staging buffer holds after the body in case D: what it held before. -/
def out0_D_9 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : ¬cond0_1 i) (hc2 : ¬cond0_2 i) (hc3 : cond0_3 i) (hc4 : ¬cond0_4 i) (hc5 : ¬cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xs0 : Vec F S512x2048 .bf16) (xo9 : Vec F S512x1024 .f32) : Vec F S512x1024 .f32 := xo9

/-- What output 10's staging buffer holds after the body in case D. -/
def out0_D_10 (xs0 : Vec F S512x2048 .bf16) : Vec F S512x1024 .f32 :=
  VO0_10.read (Elt F) (VO0_10.writes (Elt F) VO0_10.junk (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.2.2.1)

/-- In case D the pieces stored into output 11 cover its block. -/
theorem cover0_D_11 (xs0 : Vec F S512x2048 .bf16) (y : S512x1024.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.2.2.2.1 S512x1024.size (by sl_kernel_rfl) y

/-- What output 11's staging buffer holds after the body in case D. -/
def out0_D_11 (xs0 : Vec F S512x2048 .bf16) : Vec F S512x1024 .bf16 :=
  VO0_11.read (Elt F) (VO0_11.writes (Elt F) VO0_11.junk (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.2.2.2.1)

/-- What the scratch holds after the body in case D. -/
def sout0_D_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : ¬cond0_1 i) (hc2 : ¬cond0_2 i) (hc3 : cond0_3 i) (hc4 : ¬cond0_4 i) (hc5 : ¬cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xs0 : Vec F S512x2048 .bf16) : Vec F S512x2048 .bf16 := xs0

end CaseD

section CaseE

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole)
  (hc0 : ¬cond0_0 i) (hc1 : ¬cond0_1 i) (hc2 : ¬cond0_2 i) (hc3 : ¬cond0_3 i) (hc4 : cond0_4 i) (hc5 : ¬cond0_5 i)
  (x0 : Vec F S512x2048 .f32) (x1 : Vec F S1x2048 .f32) (x2 : Vec F S2048x1024 .bf16) (x3 : Vec F S1x1x128 .f32) (x4 : Vec F S1x1x128 .f32) (x5 : Vec F S1x128x128 .bf16)

/-- What output 6's staging buffer holds after the body in case E: what it held before. -/
def out0_E_6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : ¬cond0_1 i) (hc2 : ¬cond0_2 i) (hc3 : ¬cond0_3 i) (hc4 : cond0_4 i) (hc5 : ¬cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xs0 : Vec F S512x2048 .bf16) (xo6 : Vec F S512x1024 .f32) : Vec F S512x1024 .f32 := xo6

/-- What output 7's staging buffer holds after the body in case E: what it held before. -/
def out0_E_7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : ¬cond0_1 i) (hc2 : ¬cond0_2 i) (hc3 : ¬cond0_3 i) (hc4 : cond0_4 i) (hc5 : ¬cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xs0 : Vec F S512x2048 .bf16) (xo7 : Vec F S512x1024 .f32) : Vec F S512x1024 .f32 := xo7

/-- What output 8's staging buffer holds after the body in case E: what it held before. -/
def out0_E_8 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : ¬cond0_1 i) (hc2 : ¬cond0_2 i) (hc3 : ¬cond0_3 i) (hc4 : cond0_4 i) (hc5 : ¬cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xs0 : Vec F S512x2048 .bf16) (xo8 : Vec F S512x1024 .f32) : Vec F S512x1024 .f32 := xo8

/-- In case E the pieces stored into output 9 cover its block. -/
theorem cover0_E_9 (xs0 : Vec F S512x2048 .bf16) (y : S512x1024.Idx) :
    ∃ pc ∈ (kernelRun0_E c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.2.1 S512x1024.size (by sl_kernel_rfl) y

/-- What output 9's staging buffer holds after the body in case E. -/
def out0_E_9 (xs0 : Vec F S512x2048 .bf16) : Vec F S512x1024 .f32 :=
  VO0_9.read (Elt F) (VO0_9.writes (Elt F) VO0_9.junk (kernelRun0_E c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.2.1)

/-- What output 10's staging buffer holds after the body in case E. -/
def out0_E_10 (xs0 : Vec F S512x2048 .bf16) : Vec F S512x1024 .f32 :=
  VO0_10.read (Elt F) (VO0_10.writes (Elt F) VO0_10.junk (kernelRun0_E c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.2.2.1)

/-- In case E the pieces stored into output 11 cover its block. -/
theorem cover0_E_11 (xs0 : Vec F S512x2048 .bf16) (y : S512x1024.Idx) :
    ∃ pc ∈ (kernelRun0_E c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.2.2.2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.2.2.2.1 S512x1024.size (by sl_kernel_rfl) y

/-- What output 11's staging buffer holds after the body in case E. -/
def out0_E_11 (xs0 : Vec F S512x2048 .bf16) : Vec F S512x1024 .bf16 :=
  VO0_11.read (Elt F) (VO0_11.writes (Elt F) VO0_11.junk (kernelRun0_E c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xs0).2.2.2.2.2.1)

/-- What the scratch holds after the body in case E. -/
def sout0_E_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : ¬cond0_1 i) (hc2 : ¬cond0_2 i) (hc3 : ¬cond0_3 i) (hc4 : cond0_4 i) (hc5 : ¬cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xs0 : Vec F S512x2048 .bf16) : Vec F S512x2048 .bf16 := xs0

end CaseE

section CaseF

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole)
  (hc0 : ¬cond0_0 i) (hc1 : ¬cond0_1 i) (hc2 : ¬cond0_2 i) (hc3 : ¬cond0_3 i) (hc4 : ¬cond0_4 i) (hc5 : cond0_5 i)
  (x0 : Vec F S512x2048 .f32) (x1 : Vec F S1x2048 .f32) (x2 : Vec F S2048x1024 .bf16) (x3 : Vec F S1x1x128 .f32) (x4 : Vec F S1x1x128 .f32) (x5 : Vec F S1x128x128 .bf16)

/-- What output 6's staging buffer holds after the body in case F: what it held before. -/
def out0_F_6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : ¬cond0_1 i) (hc2 : ¬cond0_2 i) (hc3 : ¬cond0_3 i) (hc4 : ¬cond0_4 i) (hc5 : cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xo6 : Vec F S512x1024 .f32) (xo7 : Vec F S512x1024 .f32) (xo8 : Vec F S512x1024 .f32) (xo9 : Vec F S512x1024 .f32) (xs0 : Vec F S512x2048 .bf16) : Vec F S512x1024 .f32 := xo6

/-- What output 7's staging buffer holds after the body in case F: what it held before. -/
def out0_F_7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : ¬cond0_1 i) (hc2 : ¬cond0_2 i) (hc3 : ¬cond0_3 i) (hc4 : ¬cond0_4 i) (hc5 : cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xo6 : Vec F S512x1024 .f32) (xo7 : Vec F S512x1024 .f32) (xo8 : Vec F S512x1024 .f32) (xo9 : Vec F S512x1024 .f32) (xs0 : Vec F S512x2048 .bf16) : Vec F S512x1024 .f32 := xo7

/-- What output 8's staging buffer holds after the body in case F: what it held before. -/
def out0_F_8 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : ¬cond0_1 i) (hc2 : ¬cond0_2 i) (hc3 : ¬cond0_3 i) (hc4 : ¬cond0_4 i) (hc5 : cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xo6 : Vec F S512x1024 .f32) (xo7 : Vec F S512x1024 .f32) (xo8 : Vec F S512x1024 .f32) (xo9 : Vec F S512x1024 .f32) (xs0 : Vec F S512x2048 .bf16) : Vec F S512x1024 .f32 := xo8

/-- What output 9's staging buffer holds after the body in case F: what it held before. -/
def out0_F_9 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : ¬cond0_1 i) (hc2 : ¬cond0_2 i) (hc3 : ¬cond0_3 i) (hc4 : ¬cond0_4 i) (hc5 : cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xo6 : Vec F S512x1024 .f32) (xo7 : Vec F S512x1024 .f32) (xo8 : Vec F S512x1024 .f32) (xo9 : Vec F S512x1024 .f32) (xs0 : Vec F S512x2048 .bf16) : Vec F S512x1024 .f32 := xo9

/-- In case F the pieces stored into output 10 cover its block. -/
theorem cover0_F_10 (xo6 : Vec F S512x1024 .f32) (xo7 : Vec F S512x1024 .f32) (xo8 : Vec F S512x1024 .f32) (xo9 : Vec F S512x1024 .f32) (xs0 : Vec F S512x2048 .bf16) (y : S512x1024.Idx) :
    ∃ pc ∈ (kernelRun0_F c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xo6 xo7 xo8 xo9 xs0).2.2.2.2.1, y ∈ pc.1.set :=
  View.cover_of_tiledL (kernelRun0_F c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xo6 xo7 xo8 xo9 xs0).2.2.2.2.1 S512x1024.size (by sl_kernel_rfl) y

/-- What output 10's staging buffer holds after the body in case F. -/
def out0_F_10 (xo6 : Vec F S512x1024 .f32) (xo7 : Vec F S512x1024 .f32) (xo8 : Vec F S512x1024 .f32) (xo9 : Vec F S512x1024 .f32) (xs0 : Vec F S512x2048 .bf16) : Vec F S512x1024 .f32 :=
  VO0_10.read (Elt F) (VO0_10.writes (Elt F) VO0_10.junk (kernelRun0_F c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xo6 xo7 xo8 xo9 xs0).2.2.2.2.1)

/-- In case F the pieces stored into output 11 cover its block. -/
theorem cover0_F_11 (xo6 : Vec F S512x1024 .f32) (xo7 : Vec F S512x1024 .f32) (xo8 : Vec F S512x1024 .f32) (xo9 : Vec F S512x1024 .f32) (xs0 : Vec F S512x2048 .bf16) (y : S512x1024.Idx) :
    ∃ pc ∈ (kernelRun0_F c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xo6 xo7 xo8 xo9 xs0).2.2.2.2.2.1, y ∈ pc.1.set :=
  View.cover_of_tiledL (kernelRun0_F c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xo6 xo7 xo8 xo9 xs0).2.2.2.2.2.1 S512x1024.size (by sl_kernel_rfl) y

/-- What output 11's staging buffer holds after the body in case F. -/
def out0_F_11 (xo6 : Vec F S512x1024 .f32) (xo7 : Vec F S512x1024 .f32) (xo8 : Vec F S512x1024 .f32) (xo9 : Vec F S512x1024 .f32) (xs0 : Vec F S512x2048 .bf16) : Vec F S512x1024 .bf16 :=
  VO0_11.read (Elt F) (VO0_11.writes (Elt F) VO0_11.junk (kernelRun0_F c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 xo6 xo7 xo8 xo9 xs0).2.2.2.2.2.1)

/-- What the scratch holds after the body in case F. -/
def sout0_F_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128x128 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x2048 .bf16) (harg14 : arg14.IsWhole) (hc0 : ¬cond0_0 i) (hc1 : ¬cond0_1 i) (hc2 : ¬cond0_2 i) (hc3 : ¬cond0_3 i) (hc4 : ¬cond0_4 i) (hc5 : cond0_5 i) (x0 : Vec F S512x2048 .f32) (x1 : Vec F S1x2048 .f32) (x2 : Vec F S2048x1024 .bf16) (x3 : Vec F S1x1x128 .f32) (x4 : Vec F S1x1x128 .f32) (x5 : Vec F S1x128x128 .bf16) (xo6 : Vec F S512x1024 .f32) (xo7 : Vec F S512x1024 .f32) (xo8 : Vec F S512x1024 .f32) (xo9 : Vec F S512x1024 .f32) (xs0 : Vec F S512x2048 .bf16) : Vec F S512x2048 .bf16 := xs0

end CaseF

end Cert.ProjIdeal.Gen

end
-- ==== Proof.Proj.Points.lean ====
/-
  The projection kernel: what the output buffers and the scratch hold after each point of the grid, point by point, and
  the invariant that carries the scratch from one point to the next.
-/
module

public import proofs.«01_k».proof.Proof.Proj.Out

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S512x1024 .f32 × Vec F S512x1024 .f32 × Vec F S512x1024 .f32 × Vec F S512x1024 .f32 × Vec F S512x1024 .f32 × Vec F S512x1024 .bf16 × Vec F S512x2048 .bf16
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (fun h => (fun h => by (try dsimp only at h); omega) ((hcond0_5 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) ((VO0_6.read (Elt F) VO0_6.junk, VO0_7.read (Elt F) VO0_7.junk, VO0_8.read (Elt F) VO0_8.junk, VO0_9.read (Elt F) VO0_9.junk, VO0_10.read (Elt F) VO0_10.junk, VO0_11.read (Elt F) VO0_11.junk, VS0_0.read (Elt F) VS0_0.junk) : Vec F S512x1024 .f32 × Vec F S512x1024 .f32 × Vec F S512x1024 .f32 × Vec F S512x1024 .f32 × Vec F S512x1024 .f32 × Vec F S512x1024 .bf16 × Vec F S512x2048 .bf16).1, out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (fun h => (fun h => by (try dsimp only at h); omega) ((hcond0_5 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) ((VO0_6.read (Elt F) VO0_6.junk, VO0_7.read (Elt F) VO0_7.junk, VO0_8.read (Elt F) VO0_8.junk, VO0_9.read (Elt F) VO0_9.junk, VO0_10.read (Elt F) VO0_10.junk, VO0_11.read (Elt F) VO0_11.junk, VS0_0.read (Elt F) VS0_0.junk) : Vec F S512x1024 .f32 × Vec F S512x1024 .f32 × Vec F S512x1024 .f32 × Vec F S512x1024 .f32 × Vec F S512x1024 .f32 × Vec F S512x1024 .bf16 × Vec F S512x2048 .bf16).2.1, out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (fun h => (fun h => by (try dsimp only at h); omega) ((hcond0_5 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) ((VO0_6.read (Elt F) VO0_6.junk, VO0_7.read (Elt F) VO0_7.junk, VO0_8.read (Elt F) VO0_8.junk, VO0_9.read (Elt F) VO0_9.junk, VO0_10.read (Elt F) VO0_10.junk, VO0_11.read (Elt F) VO0_11.junk, VS0_0.read (Elt F) VS0_0.junk) : Vec F S512x1024 .f32 × Vec F S512x1024 .f32 × Vec F S512x1024 .f32 × Vec F S512x1024 .f32 × Vec F S512x1024 .f32 × Vec F S512x1024 .bf16 × Vec F S512x2048 .bf16).2.2.1, out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (fun h => (fun h => by (try dsimp only at h); omega) ((hcond0_5 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) ((VO0_6.read (Elt F) VO0_6.junk, VO0_7.read (Elt F) VO0_7.junk, VO0_8.read (Elt F) VO0_8.junk, VO0_9.read (Elt F) VO0_9.junk, VO0_10.read (Elt F) VO0_10.junk, VO0_11.read (Elt F) VO0_11.junk, VS0_0.read (Elt F) VS0_0.junk) : Vec F S512x1024 .f32 × Vec F S512x1024 .f32 × Vec F S512x1024 .f32 × Vec F S512x1024 .f32 × Vec F S512x1024 .f32 × Vec F S512x1024 .bf16 × Vec F S512x2048 .bf16).2.2.2.1, out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (fun h => (fun h => by (try dsimp only at h); omega) ((hcond0_5 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (fun h => (fun h => by (try dsimp only at h); omega) ((hcond0_5 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (fun h => (fun h => by (try dsimp only at h); omega) ((hcond0_5 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 6 = 0 then
      if h1 : (n + 1) % 6 = 1 then
        False.elim (by have hN : n + 1 < 192 := lt_of_lt_of_eq hn (show cfg0.N = 192 from N_0); omega)
      else
        if h2 : (n + 1) % 6 = 2 then
          False.elim (by have hN : n + 1 < 192 := lt_of_lt_of_eq hn (show cfg0.N = 192 from N_0); omega)
        else
          if h3 : (n + 1) % 6 = 3 then
            False.elim (by have hN : n + 1 < 192 := lt_of_lt_of_eq hn (show cfg0.N = 192 from N_0); omega)
          else
            if h4 : (n + 1) % 6 = 4 then
              False.elim (by have hN : n + 1 < 192 := lt_of_lt_of_eq hn (show cfg0.N = 192 from N_0); omega)
            else
              if h5 : (n + 1) % 6 = 5 then
                False.elim (by have hN : n + 1 < 192 := lt_of_lt_of_eq hn (show cfg0.N = 192 from N_0); omega)
              else
                (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1, out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1, out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1, out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1, out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 6 = 1 then
        if h2 : (n + 1) % 6 = 2 then
          False.elim (by have hN : n + 1 < 192 := lt_of_lt_of_eq hn (show cfg0.N = 192 from N_0); omega)
        else
          if h3 : (n + 1) % 6 = 3 then
            False.elim (by have hN : n + 1 < 192 := lt_of_lt_of_eq hn (show cfg0.N = 192 from N_0); omega)
          else
            if h4 : (n + 1) % 6 = 4 then
              False.elim (by have hN : n + 1 < 192 := lt_of_lt_of_eq hn (show cfg0.N = 192 from N_0); omega)
            else
              if h5 : (n + 1) % 6 = 5 then
                False.elim (by have hN : n + 1 < 192 := lt_of_lt_of_eq hn (show cfg0.N = 192 from N_0); omega)
              else
                (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2 (outsAt0 c n (Nat.lt_of_succ_lt hn)).2.1, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2 (outsAt0 c n (Nat.lt_of_succ_lt hn)).2.2.1, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2 (outsAt0 c n (Nat.lt_of_succ_lt hn)).2.2.2.1, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2)
      else
        if h2 : (n + 1) % 6 = 2 then
          if h3 : (n + 1) % 6 = 3 then
            False.elim (by have hN : n + 1 < 192 := lt_of_lt_of_eq hn (show cfg0.N = 192 from N_0); omega)
          else
            if h4 : (n + 1) % 6 = 4 then
              False.elim (by have hN : n + 1 < 192 := lt_of_lt_of_eq hn (show cfg0.N = 192 from N_0); omega)
            else
              if h5 : (n + 1) % 6 = 5 then
                False.elim (by have hN : n + 1 < 192 := lt_of_lt_of_eq hn (show cfg0.N = 192 from N_0); omega)
              else
                (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2 (outsAt0 c n (Nat.lt_of_succ_lt hn)).1, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2 (outsAt0 c n (Nat.lt_of_succ_lt hn)).2.2.1, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2 (outsAt0 c n (Nat.lt_of_succ_lt hn)).2.2.2.1, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2)
        else
          if h3 : (n + 1) % 6 = 3 then
            if h4 : (n + 1) % 6 = 4 then
              False.elim (by have hN : n + 1 < 192 := lt_of_lt_of_eq hn (show cfg0.N = 192 from N_0); omega)
            else
              if h5 : (n + 1) % 6 = 5 then
                False.elim (by have hN : n + 1 < 192 := lt_of_lt_of_eq hn (show cfg0.N = 192 from N_0); omega)
              else
                (out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2 (outsAt0 c n (Nat.lt_of_succ_lt hn)).1, out0_D_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2 (outsAt0 c n (Nat.lt_of_succ_lt hn)).2.1, out0_D_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2, out0_D_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2 (outsAt0 c n (Nat.lt_of_succ_lt hn)).2.2.2.1, out0_D_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2, out0_D_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2)
          else
            if h4 : (n + 1) % 6 = 4 then
              if h5 : (n + 1) % 6 = 5 then
                False.elim (by have hN : n + 1 < 192 := lt_of_lt_of_eq hn (show cfg0.N = 192 from N_0); omega)
              else
                (out0_E_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2 (outsAt0 c n (Nat.lt_of_succ_lt hn)).1, out0_E_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2 (outsAt0 c n (Nat.lt_of_succ_lt hn)).2.1, out0_E_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2 (outsAt0 c n (Nat.lt_of_succ_lt hn)).2.2.1, out0_E_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2, out0_E_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2, out0_E_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2, sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2)
            else
              if h5 : (n + 1) % 6 = 5 then
                (out0_F_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.2.2, out0_F_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.2.2, out0_F_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.2.2, out0_F_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.2.2, out0_F_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.2.2, out0_F_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.2.2, sout0_F_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.2.2)
              else
                False.elim (by have hN : n + 1 < 192 := lt_of_lt_of_eq hn (show cfg0.N = 192 from N_0); omega)

/-- `outsAt0` at a point of case A: that case's contents, over what the point before left. -/
theorem outsAt0_A (c : Dev nD) (t : Fin cfg0.N) (h0 : t.val % 6 = 0) (h1 : ¬t.val % 6 = 1) (h2 : ¬t.val % 6 = 2) (h3 : ¬t.val % 6 = 3) (h4 : ¬t.val % 6 = 4) (h5 : ¬t.val % 6 = 5) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1, out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1, out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1, out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1, out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans ((dif_neg h2).trans ((dif_neg h3).trans ((dif_neg h4).trans ((dif_neg h5).trans rfl)))))

/-- `outsAt0` at a point of case B: that case's contents, over what the point before left. -/
theorem outsAt0_B (c : Dev nD) (t : Fin cfg0.N) (h0 : ¬t.val % 6 = 0) (h1 : t.val % 6 = 1) (h2 : ¬t.val % 6 = 2) (h3 : ¬t.val % 6 = 3) (h4 : ¬t.val % 6 = 4) (h5 : ¬t.val % 6 = 5) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2 (outsAt0 m c (t.val - 1) (Nat.lt_of_le_of_lt (Nat.sub_le _ _) t.isLt)).2.1, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2 (outsAt0 m c (t.val - 1) (Nat.lt_of_le_of_lt (Nat.sub_le _ _) t.isLt)).2.2.1, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2 (outsAt0 m c (t.val - 1) (Nat.lt_of_le_of_lt (Nat.sub_le _ _) t.isLt)).2.2.2.1, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans ((dif_neg h4).trans ((dif_neg h5).trans rfl)))))

/-- `outsAt0` at a point of case C: that case's contents, over what the point before left. -/
theorem outsAt0_C (c : Dev nD) (t : Fin cfg0.N) (h0 : ¬t.val % 6 = 0) (h1 : ¬t.val % 6 = 1) (h2 : t.val % 6 = 2) (h3 : ¬t.val % 6 = 3) (h4 : ¬t.val % 6 = 4) (h5 : ¬t.val % 6 = 5) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2 (outsAt0 m c (t.val - 1) (Nat.lt_of_le_of_lt (Nat.sub_le _ _) t.isLt)).1, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2 (outsAt0 m c (t.val - 1) (Nat.lt_of_le_of_lt (Nat.sub_le _ _) t.isLt)).2.2.1, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2 (outsAt0 m c (t.val - 1) (Nat.lt_of_le_of_lt (Nat.sub_le _ _) t.isLt)).2.2.2.1, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans ((dif_neg h5).trans rfl)))))

/-- `outsAt0` at a point of case D: that case's contents, over what the point before left. -/
theorem outsAt0_D (c : Dev nD) (t : Fin cfg0.N) (h0 : ¬t.val % 6 = 0) (h1 : ¬t.val % 6 = 1) (h2 : ¬t.val % 6 = 2) (h3 : t.val % 6 = 3) (h4 : ¬t.val % 6 = 4) (h5 : ¬t.val % 6 = 5) :
    outsAt0 m c t.val t.isLt = (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2 (outsAt0 m c (t.val - 1) (Nat.lt_of_le_of_lt (Nat.sub_le _ _) t.isLt)).1, out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2 (outsAt0 m c (t.val - 1) (Nat.lt_of_le_of_lt (Nat.sub_le _ _) t.isLt)).2.1, out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2, out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2 (outsAt0 m c (t.val - 1) (Nat.lt_of_le_of_lt (Nat.sub_le _ _) t.isLt)).2.2.2.1, out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2, out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans ((dif_neg h5).trans rfl)))))

/-- `outsAt0` at a point of case E: that case's contents, over what the point before left. -/
theorem outsAt0_E (c : Dev nD) (t : Fin cfg0.N) (h0 : ¬t.val % 6 = 0) (h1 : ¬t.val % 6 = 1) (h2 : ¬t.val % 6 = 2) (h3 : ¬t.val % 6 = 3) (h4 : t.val % 6 = 4) (h5 : ¬t.val % 6 = 5) :
    outsAt0 m c t.val t.isLt = (out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2 (outsAt0 m c (t.val - 1) (Nat.lt_of_le_of_lt (Nat.sub_le _ _) t.isLt)).1, out0_E_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2 (outsAt0 m c (t.val - 1) (Nat.lt_of_le_of_lt (Nat.sub_le _ _) t.isLt)).2.1, out0_E_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2 (outsAt0 m c (t.val - 1) (Nat.lt_of_le_of_lt (Nat.sub_le _ _) t.isLt)).2.2.1, out0_E_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2, out0_E_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2, out0_E_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_pos h4).trans ((dif_neg h5).trans rfl)))))

/-- `outsAt0` at a point of case F: that case's contents, over what the point before left. -/
theorem outsAt0_F (c : Dev nD) (t : Fin cfg0.N) (h0 : ¬t.val % 6 = 0) (h1 : ¬t.val % 6 = 1) (h2 : ¬t.val % 6 = 2) (h3 : ¬t.val % 6 = 3) (h4 : ¬t.val % 6 = 4) (h5 : t.val % 6 = 5) :
    outsAt0 m c t.val t.isLt = (out0_F_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2, out0_F_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2, out0_F_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2, out0_F_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2, out0_F_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2, out0_F_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2, sout0_F_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_neg h4).trans ((dif_pos h5).trans rfl)))))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2)) ∗ (∃ r, prngReg c r)) := by
  cases n with
  | zero => exact absurd rfl hz
  | succ n => rfl

end Cert.ProjIdeal.Gen

end
-- ==== Proof.Proj.Frame.lean ====
/-
  The projection kernel's frame: the body's triple at every point of the grid, the run of the whole call, and from it
  that the arguments end unchanged and every counter at zero.
-/
module

public import proofs.«01_k».proof.Proof.Proj.Points
public import Idealize.ShloMosaic.Lib.Claim

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
    | ⟨10, _⟩ => (outsAt0 m c t.val t.isLt).2.2.2.2.1
    | ⟨11, _⟩ => (outsAt0 m c t.val t.isLt).2.2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]
theorem after0_10 (c : Dev nD) (t : Fin cfg0.N) : (dats m 0 c).after 10 t = (outsAt0 m c t.val t.isLt).2.2.2.2.1 := by dsimp only [dats]
theorem after0_11 (c : Dev nD) (t : Fin cfg0.N) : (dats m 0 c).after 11 t = (outsAt0 m c t.val t.isLt).2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Output 6's contents CARRY through the points that leave it idle: at such a point, its buffer not fresh, the proof data's
    `after` is the point before's (the case there stores nothing into the window and its term says so; a case that stores
    into it is not idle there by `liveAt0_6_κ`) — the hypothesis of Lib/Pipeline/TableIdle.lean `Dat.before_out_traj`. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 192 := lt_of_lt_of_eq t.isLt (show cfg0.N = 192 from N_0)
  rw [after0_6, after0_6]
  by_cases h0 : t.val % 6 = 0
  · by_cases h1 : t.val % 6 = 1
    · exfalso; omega
    · by_cases h2 : t.val % 6 = 2
      · exfalso; omega
      · by_cases h3 : t.val % 6 = 3
        · exfalso; omega
        · by_cases h4 : t.val % 6 = 4
          · exfalso; omega
          · by_cases h5 : t.val % 6 = 5
            · exfalso; omega
            · rw [outsAt0_A m c t h0 h1 h2 h3 h4 h5]
              dsimp only
              unfold out0_A_6
              rfl
  · by_cases h1 : t.val % 6 = 1
    · by_cases h2 : t.val % 6 = 2
      · exfalso; omega
      · by_cases h3 : t.val % 6 = 3
        · exfalso; omega
        · by_cases h4 : t.val % 6 = 4
          · exfalso; omega
          · by_cases h5 : t.val % 6 = 5
            · exfalso; omega
            · rw [liveAt0_6_B t (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h))] at hi
              exact absurd hi Bool.false_ne_true
    · by_cases h2 : t.val % 6 = 2
      · by_cases h3 : t.val % 6 = 3
        · exfalso; omega
        · by_cases h4 : t.val % 6 = 4
          · exfalso; omega
          · by_cases h5 : t.val % 6 = 5
            · exfalso; omega
            · rw [outsAt0_C m c t h0 h1 h2 h3 h4 h5]
              dsimp only
              unfold out0_C_6
              rfl
      · by_cases h3 : t.val % 6 = 3
        · by_cases h4 : t.val % 6 = 4
          · exfalso; omega
          · by_cases h5 : t.val % 6 = 5
            · exfalso; omega
            · rw [outsAt0_D m c t h0 h1 h2 h3 h4 h5]
              dsimp only
              unfold out0_D_6
              rfl
        · by_cases h4 : t.val % 6 = 4
          · by_cases h5 : t.val % 6 = 5
            · exfalso; omega
            · rw [outsAt0_E m c t h0 h1 h2 h3 h4 h5]
              dsimp only
              unfold out0_E_6
              rfl
          · by_cases h5 : t.val % 6 = 5
            · rw [outsAt0_F m c t h0 h1 h2 h3 h4 h5]
              dsimp only
              unfold out0_F_6
              rfl
            · exfalso; omega

/-- Output 7's contents CARRY through the points that leave it idle: at such a point, its buffer not fresh, the proof data's
    `after` is the point before's (the case there stores nothing into the window and its term says so; a case that stores
    into it is not idle there by `liveAt0_7_κ`) — the hypothesis of Lib/Pipeline/TableIdle.lean `Dat.before_out_traj`. -/
theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  have hN : t.val < 192 := lt_of_lt_of_eq t.isLt (show cfg0.N = 192 from N_0)
  rw [after0_7, after0_7]
  by_cases h0 : t.val % 6 = 0
  · by_cases h1 : t.val % 6 = 1
    · exfalso; omega
    · by_cases h2 : t.val % 6 = 2
      · exfalso; omega
      · by_cases h3 : t.val % 6 = 3
        · exfalso; omega
        · by_cases h4 : t.val % 6 = 4
          · exfalso; omega
          · by_cases h5 : t.val % 6 = 5
            · exfalso; omega
            · rw [outsAt0_A m c t h0 h1 h2 h3 h4 h5]
              dsimp only
              unfold out0_A_7
              rfl
  · by_cases h1 : t.val % 6 = 1
    · by_cases h2 : t.val % 6 = 2
      · exfalso; omega
      · by_cases h3 : t.val % 6 = 3
        · exfalso; omega
        · by_cases h4 : t.val % 6 = 4
          · exfalso; omega
          · by_cases h5 : t.val % 6 = 5
            · exfalso; omega
            · rw [outsAt0_B m c t h0 h1 h2 h3 h4 h5]
              dsimp only
              unfold out0_B_7
              rfl
    · by_cases h2 : t.val % 6 = 2
      · by_cases h3 : t.val % 6 = 3
        · exfalso; omega
        · by_cases h4 : t.val % 6 = 4
          · exfalso; omega
          · by_cases h5 : t.val % 6 = 5
            · exfalso; omega
            · rw [liveAt0_7_C t (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h))] at hi
              exact absurd hi Bool.false_ne_true
      · by_cases h3 : t.val % 6 = 3
        · by_cases h4 : t.val % 6 = 4
          · exfalso; omega
          · by_cases h5 : t.val % 6 = 5
            · exfalso; omega
            · rw [outsAt0_D m c t h0 h1 h2 h3 h4 h5]
              dsimp only
              unfold out0_D_7
              rfl
        · by_cases h4 : t.val % 6 = 4
          · by_cases h5 : t.val % 6 = 5
            · exfalso; omega
            · rw [outsAt0_E m c t h0 h1 h2 h3 h4 h5]
              dsimp only
              unfold out0_E_7
              rfl
          · by_cases h5 : t.val % 6 = 5
            · rw [outsAt0_F m c t h0 h1 h2 h3 h4 h5]
              dsimp only
              unfold out0_F_7
              rfl
            · exfalso; omega

/-- Output 8's contents CARRY through the points that leave it idle: at such a point, its buffer not fresh, the proof data's
    `after` is the point before's (the case there stores nothing into the window and its term says so; a case that stores
    into it is not idle there by `liveAt0_8_κ`) — the hypothesis of Lib/Pipeline/TableIdle.lean `Dat.before_out_traj`. -/
theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  have hN : t.val < 192 := lt_of_lt_of_eq t.isLt (show cfg0.N = 192 from N_0)
  rw [after0_8, after0_8]
  by_cases h0 : t.val % 6 = 0
  · by_cases h1 : t.val % 6 = 1
    · exfalso; omega
    · by_cases h2 : t.val % 6 = 2
      · exfalso; omega
      · by_cases h3 : t.val % 6 = 3
        · exfalso; omega
        · by_cases h4 : t.val % 6 = 4
          · exfalso; omega
          · by_cases h5 : t.val % 6 = 5
            · exfalso; omega
            · rw [outsAt0_A m c t h0 h1 h2 h3 h4 h5]
              dsimp only
              unfold out0_A_8
              rfl
  · by_cases h1 : t.val % 6 = 1
    · by_cases h2 : t.val % 6 = 2
      · exfalso; omega
      · by_cases h3 : t.val % 6 = 3
        · exfalso; omega
        · by_cases h4 : t.val % 6 = 4
          · exfalso; omega
          · by_cases h5 : t.val % 6 = 5
            · exfalso; omega
            · rw [outsAt0_B m c t h0 h1 h2 h3 h4 h5]
              dsimp only
              unfold out0_B_8
              rfl
    · by_cases h2 : t.val % 6 = 2
      · by_cases h3 : t.val % 6 = 3
        · exfalso; omega
        · by_cases h4 : t.val % 6 = 4
          · exfalso; omega
          · by_cases h5 : t.val % 6 = 5
            · exfalso; omega
            · rw [outsAt0_C m c t h0 h1 h2 h3 h4 h5]
              dsimp only
              unfold out0_C_8
              rfl
      · by_cases h3 : t.val % 6 = 3
        · by_cases h4 : t.val % 6 = 4
          · exfalso; omega
          · by_cases h5 : t.val % 6 = 5
            · exfalso; omega
            · rw [liveAt0_8_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h))] at hi
              exact absurd hi Bool.false_ne_true
        · by_cases h4 : t.val % 6 = 4
          · by_cases h5 : t.val % 6 = 5
            · exfalso; omega
            · rw [outsAt0_E m c t h0 h1 h2 h3 h4 h5]
              dsimp only
              unfold out0_E_8
              rfl
          · by_cases h5 : t.val % 6 = 5
            · rw [outsAt0_F m c t h0 h1 h2 h3 h4 h5]
              dsimp only
              unfold out0_F_8
              rfl
            · exfalso; omega

/-- Output 9's contents CARRY through the points that leave it idle: at such a point, its buffer not fresh, the proof data's
    `after` is the point before's (the case there stores nothing into the window and its term says so; a case that stores
    into it is not idle there by `liveAt0_9_κ`) — the hypothesis of Lib/Pipeline/TableIdle.lean `Dat.before_out_traj`. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 192 := lt_of_lt_of_eq t.isLt (show cfg0.N = 192 from N_0)
  rw [after0_9, after0_9]
  by_cases h0 : t.val % 6 = 0
  · by_cases h1 : t.val % 6 = 1
    · exfalso; omega
    · by_cases h2 : t.val % 6 = 2
      · exfalso; omega
      · by_cases h3 : t.val % 6 = 3
        · exfalso; omega
        · by_cases h4 : t.val % 6 = 4
          · exfalso; omega
          · by_cases h5 : t.val % 6 = 5
            · exfalso; omega
            · rw [outsAt0_A m c t h0 h1 h2 h3 h4 h5]
              dsimp only
              unfold out0_A_9
              rfl
  · by_cases h1 : t.val % 6 = 1
    · by_cases h2 : t.val % 6 = 2
      · exfalso; omega
      · by_cases h3 : t.val % 6 = 3
        · exfalso; omega
        · by_cases h4 : t.val % 6 = 4
          · exfalso; omega
          · by_cases h5 : t.val % 6 = 5
            · exfalso; omega
            · rw [outsAt0_B m c t h0 h1 h2 h3 h4 h5]
              dsimp only
              unfold out0_B_9
              rfl
    · by_cases h2 : t.val % 6 = 2
      · by_cases h3 : t.val % 6 = 3
        · exfalso; omega
        · by_cases h4 : t.val % 6 = 4
          · exfalso; omega
          · by_cases h5 : t.val % 6 = 5
            · exfalso; omega
            · rw [outsAt0_C m c t h0 h1 h2 h3 h4 h5]
              dsimp only
              unfold out0_C_9
              rfl
      · by_cases h3 : t.val % 6 = 3
        · by_cases h4 : t.val % 6 = 4
          · exfalso; omega
          · by_cases h5 : t.val % 6 = 5
            · exfalso; omega
            · rw [outsAt0_D m c t h0 h1 h2 h3 h4 h5]
              dsimp only
              unfold out0_D_9
              rfl
        · by_cases h4 : t.val % 6 = 4
          · by_cases h5 : t.val % 6 = 5
            · exfalso; omega
            · rw [liveAt0_9_E t (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h))] at hi
              exact absurd hi Bool.false_ne_true
          · by_cases h5 : t.val % 6 = 5
            · rw [outsAt0_F m c t h0 h1 h2 h3 h4 h5]
              dsimp only
              unfold out0_F_9
              rfl
            · exfalso; omega
/-- At a point of case F output 6's current staging buffer holds what the point before left: the buffer is not fresh
    there (`notFresh0_6_F`: stored into since the region's entry or the last write-back, carried through the points that
    leave it idle by `hcarry0_6`; Lib/Pipeline/TableIdle.lean `Dat.before_out_traj`). -/
theorem before0_6_F (c : Dev nD) (t : Fin cfg0.N) (h0 : ¬t.val % 6 = 0) (h1 : ¬t.val % 6 = 1) (h2 : ¬t.val % 6 = 2) (h3 : ¬t.val % 6 = 3) (h4 : ¬t.val % 6 = 4) (h5 : t.val % 6 = 5) (d) :
    (dats m 0 c).before 6 t d = (outsAt0 m c (t.val - 1) (Nat.lt_of_le_of_lt (Nat.sub_le _ _) t.isLt)).1 := by
  rw [Dat.before_out_traj _ 6 rfl (fun _ _ => rfl) (hcarry0_6 m c) t.val t rfl d,
    if_neg (by rw [notFresh0_6_F t (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5)]; exact Bool.false_ne_true)]
  dsimp only [dats]
/-- At a point of case F output 7's current staging buffer holds what the point before left: the buffer is not fresh
    there (`notFresh0_7_F`: stored into since the region's entry or the last write-back, carried through the points that
    leave it idle by `hcarry0_7`; Lib/Pipeline/TableIdle.lean `Dat.before_out_traj`). -/
theorem before0_7_F (c : Dev nD) (t : Fin cfg0.N) (h0 : ¬t.val % 6 = 0) (h1 : ¬t.val % 6 = 1) (h2 : ¬t.val % 6 = 2) (h3 : ¬t.val % 6 = 3) (h4 : ¬t.val % 6 = 4) (h5 : t.val % 6 = 5) (d) :
    (dats m 0 c).before 7 t d = (outsAt0 m c (t.val - 1) (Nat.lt_of_le_of_lt (Nat.sub_le _ _) t.isLt)).2.1 := by
  rw [Dat.before_out_traj _ 7 rfl (fun _ _ => rfl) (hcarry0_7 m c) t.val t rfl d,
    if_neg (by rw [notFresh0_7_F t (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5)]; exact Bool.false_ne_true)]
  dsimp only [dats]
/-- At a point of case F output 8's current staging buffer holds what the point before left: the buffer is not fresh
    there (`notFresh0_8_F`: stored into since the region's entry or the last write-back, carried through the points that
    leave it idle by `hcarry0_8`; Lib/Pipeline/TableIdle.lean `Dat.before_out_traj`). -/
theorem before0_8_F (c : Dev nD) (t : Fin cfg0.N) (h0 : ¬t.val % 6 = 0) (h1 : ¬t.val % 6 = 1) (h2 : ¬t.val % 6 = 2) (h3 : ¬t.val % 6 = 3) (h4 : ¬t.val % 6 = 4) (h5 : t.val % 6 = 5) (d) :
    (dats m 0 c).before 8 t d = (outsAt0 m c (t.val - 1) (Nat.lt_of_le_of_lt (Nat.sub_le _ _) t.isLt)).2.2.1 := by
  rw [Dat.before_out_traj _ 8 rfl (fun _ _ => rfl) (hcarry0_8 m c) t.val t rfl d,
    if_neg (by rw [notFresh0_8_F t (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5)]; exact Bool.false_ne_true)]
  dsimp only [dats]
/-- At a point of case F output 9's current staging buffer holds what the point before left: the buffer is not fresh
    there (`notFresh0_9_F`: stored into since the region's entry or the last write-back, carried through the points that
    leave it idle by `hcarry0_9`; Lib/Pipeline/TableIdle.lean `Dat.before_out_traj`). -/
theorem before0_9_F (c : Dev nD) (t : Fin cfg0.N) (h0 : ¬t.val % 6 = 0) (h1 : ¬t.val % 6 = 1) (h2 : ¬t.val % 6 = 2) (h3 : ¬t.val % 6 = 3) (h4 : ¬t.val % 6 = 4) (h5 : t.val % 6 = 5) (d) :
    (dats m 0 c).before 9 t d = (outsAt0 m c (t.val - 1) (Nat.lt_of_le_of_lt (Nat.sub_le _ _) t.isLt)).2.2.2.1 := by
  rw [Dat.before_out_traj _ 9 rfl (fun _ _ => rfl) (hcarry0_9 m c) t.val t rfl d,
    if_neg (by rw [notFresh0_9_F t (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 192 := lt_of_lt_of_eq t.isLt (show cfg0.N = 192 from N_0)
  by_cases h0 : t.val % 6 = 0
  · by_cases h1 : t.val % 6 = 1
    · exfalso; omega
    · by_cases h2 : t.val % 6 = 2
      · exfalso; omega
      · by_cases h3 : t.val % 6 = 3
        · exfalso; omega
        · by_cases h4 : t.val % 6 = 4
          · exfalso; omega
          · by_cases h5 : t.val % 6 = 5
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [Dat.leavesExact_idle (dats m 0 c) 6 t (idleAt0_6_A t ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h))) (noFlush0_6_A t ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)))]
              rw [Dat.leavesExact_idle (dats m 0 c) 7 t (idleAt0_7_A t ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h))) (noFlush0_7_A t ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)))]
              rw [Dat.leavesExact_idle (dats m 0 c) 8 t (idleAt0_8_A t ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h))) (noFlush0_8_A t ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)))]
              rw [Dat.leavesExact_idle (dats m 0 c) 9 t (idleAt0_9_A t ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h))) (noFlush0_9_A t ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)))]
              rw [Dat.leavesExact_idle (dats m 0 c) 10 t (idleAt0_10_A t ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h))) (noFlush0_10_A t ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)))]
              rw [show (dats m 0 c).leavesExact 11 t = owns (c : Thread nD τ) (ms0_11 t) fullShare ((dats m 0 c).after 11 t) from by
      unfold Dat.leavesExact; rw [liveAt0_11 t], after0_11]
              by_cases hz : t.val = 0
              · rw [PhiS_castSucc m c t, PhiS_zero m c _ _ hz, PhiA0_eq]
                rw [outsAt0_A m c t h0 h1 h2 h3 h4 h5]
                unfold out0_A_11 sout0_A_0; (try dsimp only)
                iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
                iapply ((kernelRun0_A c (grid0.coords t) _ _ _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t)).2.2.2.2.2.2.2 _ _ _ _ _ Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                isplitl [H9]; · iexact H9
                isplitl [H10]; · iexact H10
                isplitl [H11]; · iexists _; iexact H11
                isplitl [HS0]; · iexact HS0
                iintro ⟨H0, H1, H2, H3, H4, H5, H6, H7, H8, H9, H10, ⟨%e11, H11⟩, ⟨%es0, HS0⟩⟩
                isplitl [HS0 Hg]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _ _ _ _ _ _ _ _ _ _ _ _ _)
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexists _; iexact H6
                isplitl [H7]; · iexists _; iexact H7
                isplitl [H8]; · iexists _; iexact H8
                isplitl [H9]; · iexists _; iexact H9
                isplitl [H10]; · iexists _; iexact H10
                unfold owns; iexists _; isplitr
                swap; · iexact H11
                ipureintro; exact View.read_writes_of_cover _ _ _ _ _ (cover0_A_11 c _ _ _ _ _ _ _ _ _ _ _ _ _ _ _ _ _ _ _ _ _ _ _ _ _ _ _ _ _ _ _ _ _ _ _ _ _ _ _)
              · rw [PhiS_castSucc m c t, PhiS_pos m c _ _ hz]
                rw [outsAt0_A m c t h0 h1 h2 h3 h4 h5]
                unfold out0_A_11 sout0_A_0; (try dsimp only)
                iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
                iapply ((kernelRun0_A c (grid0.coords t) _ _ _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t)).2.2.2.2.2.2.2 _ _ _ _ _ Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                isplitl [H9]; · iexact H9
                isplitl [H10]; · iexact H10
                isplitl [H11]; · iexists _; iexact H11
                isplitl [HS0]; · iexists _; iexact HS0
                iintro ⟨H0, H1, H2, H3, H4, H5, H6, H7, H8, H9, H10, ⟨%e11, H11⟩, ⟨%es0, HS0⟩⟩
                isplitl [HS0 Hg]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _ _ _ _ _ _ _ _ _ _ _ _ _)
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexists _; iexact H6
                isplitl [H7]; · iexists _; iexact H7
                isplitl [H8]; · iexists _; iexact H8
                isplitl [H9]; · iexists _; iexact H9
                isplitl [H10]; · iexists _; iexact H10
                unfold owns; iexists _; isplitr
                swap; · iexact H11
                ipureintro; exact View.read_writes_of_cover _ _ _ _ _ (cover0_A_11 c _ _ _ _ _ _ _ _ _ _ _ _ _ _ _ _ _ _ _ _ _ _ _ _ _ _ _ _ _ _ _ _ _ _ _ _ _ _ _)
  · by_cases h1 : t.val % 6 = 1
    · by_cases h2 : t.val % 6 = 2
      · exfalso; omega
      · by_cases h3 : t.val % 6 = 3
        · exfalso; omega
        · by_cases h4 : t.val % 6 = 4
          · exfalso; omega
          · by_cases h5 : t.val % 6 = 5
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h))], after0_6]
              rw [Dat.leavesExact_idle (dats m 0 c) 7 t (idleAt0_7_B t (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h))) (noFlush0_7_B t (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)))]
              rw [Dat.leavesExact_idle (dats m 0 c) 8 t (idleAt0_8_B t (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h))) (noFlush0_8_B t (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)))]
              rw [Dat.leavesExact_idle (dats m 0 c) 9 t (idleAt0_9_B t (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h))) (noFlush0_9_B t (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)))]
              rw [Dat.leavesExact_idle (dats m 0 c) 10 t (idleAt0_10_B t (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h))) (noFlush0_10_B t (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)))]
              rw [show (dats m 0 c).leavesExact 11 t = owns (c : Thread nD τ) (ms0_11 t) fullShare ((dats m 0 c).after 11 t) from by
      unfold Dat.leavesExact; rw [liveAt0_11 t], after0_11]
              by_cases hz : t.val = 0
              · exfalso; have hN : t.val < 192 := lt_of_lt_of_eq t.isLt (show cfg0.N = 192 from N_0); omega
              · rw [PhiS_castSucc m c t, PhiS_pos m c _ _ hz]
                rw [outsAt0_B m c t h0 h1 h2 h3 h4 h5]
                unfold out0_B_6 out0_B_11 sout0_B_0; (try dsimp only)
                iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
                iapply ((kernelRun0_B c (grid0.coords t) _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) _).2.2.2.2.2.2.2 _ _ _ _ Set.univ _)
                isplitl [H0]; · iexact H0
                isplitl [H1]; · iexact H1
                isplitl [H2]; · iexact H2
                isplitl [H3]; · iexact H3
                isplitl [H4]; · iexact H4
                isplitl [H5]; · iexact H5
                isplitl [H6]; · iexists _; iexact H6
                isplitl [H7]; · iexact H7
                isplitl [H8]; · iexact H8
                isplitl [H9]; · iexact H9
                isplitl [H10]; · iexact H10
                isplitl [H11]; · iexists _; iexact H11
                isplitl [HS0]; · iexact HS0
                iintro ⟨H0, H1, H2, H3, H4, H5, ⟨%e6, H6⟩, H7, H8, H9, H10, ⟨%e11, H11⟩, HS0⟩
                isplitl [HS0 Hg]
                · isplitl [HS0]
                  · iexact HS0
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]
                · unfold owns; iexists _; isplitr
                  swap; · iexact H6
                  ipureintro; exact View.read_writes_of_cover _ _ _ _ _ (cover0_B_6 c _ _ _ _ _ _ _ _ _ _ _ _ _ _ _ _ _ _ _ _ _ _ _ _ _ _ _ _ _ _ _ _ _ _ _ _ _ _ _ _)
                isplitl [H7]; · iexists _; iexact H7
                isplitl [H8]; · iexists _; iexact H8
                isplitl [H9]; · iexists _; iexact H9
                isplitl [H10]; · iexists _; iexact H10
                unfold owns; iexists _; isplitr
                swap; · iexact H11
                ipureintro; exact View.read_writes_of_cover _ _ _ _ _ (cover0_B_11 c _ _ _ _ _ _ _ _ _ _ _ _ _ _ _ _ _ _ _ _ _ _ _ _ _ _ _ _ _ _ _ _ _ _ _ _ _ _ _ _)
    · by_cases h2 : t.val % 6 = 2
      · by_cases h3 : t.val % 6 = 3
        · exfalso; omega
        · by_cases h4 : t.val % 6 = 4
          · exfalso; omega
          · by_cases h5 : t.val % 6 = 5
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [Dat.leavesExact_idle (dats m 0 c) 6 t (idleAt0_6_C t (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h))) (noFlush0_6_C t (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)))]
              rw [show (dats m 0 c).leavesExact 7 t = owns (c : Thread nD τ) (ms0_7 t) fullShare ((dats m 0 c).after 7 t) from by
      unfold Dat.leavesExact; rw [liveAt0_7_C t (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h))], after0_7]
              rw [Dat.leavesExact_idle (dats m 0 c) 8 t (idleAt0_8_C t (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h))) (noFlush0_8_C t (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)))]
              rw [Dat.leavesExact_idle (dats m 0 c) 9 t (idleAt0_9_C t (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h))) (noFlush0_9_C t (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)))]
              rw [Dat.leavesExact_idle (dats m 0 c) 10 t (idleAt0_10_C t (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h))) (noFlush0_10_C t (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)))]
              rw [show (dats m 0 c).leavesExact 11 t = owns (c : Thread nD τ) (ms0_11 t) fullShare ((dats m 0 c).after 11 t) from by
      unfold Dat.leavesExact; rw [liveAt0_11 t], after0_11]
              by_cases hz : t.val = 0
              · exfalso; have hN : t.val < 192 := lt_of_lt_of_eq t.isLt (show cfg0.N = 192 from N_0); omega
              · rw [PhiS_castSucc m c t, PhiS_pos m c _ _ hz]
                rw [outsAt0_C m c t h0 h1 h2 h3 h4 h5]
                unfold out0_C_7 out0_C_11 sout0_C_0; (try dsimp only)
                iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
                iapply ((kernelRun0_C c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (iblk m c 0 t) (iblk m c 1 t) (iblk m c 2 t) (iblk m c 3 t) (iblk m c 4 t) (iblk m c 5 t) _).2.2.2.2.2.2.2 _ _ _ _ Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexists _; iexact H7
                isplitl [H8]; · iexact H8
                isplitl [H9]; · iexact H9
                isplitl [H10]; · iexact H10
                isplitl [H11]; · iexists _; iexact H11
                isplitl [HS0]; · iexact HS0
                iintro ⟨H0, H1, H2, H3, H4, H5, H6, ⟨%e7, H7⟩, H8, H9, H10, ⟨%e11, H11⟩, HS0⟩
                isplitl [HS0 Hg]
                · isplitl [HS0]
                  · iexact HS0
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexists _; iexact H6
                isplitl [H7]
                · unfold owns; iexists _; isplitr
                  swap; · iexact H7
                  ipureintro; exact View.read_writes_of_cover _ _ _ _ _ (cover0_C_7 c _ _ _ _ _ _ _ _ _ _ _ _ _ _ _ _ _ _ _ _ _ _ _ _ _ _ _ _ _ _ _ _ _ _ _ _ _ _ _ _)
                isplitl [H8]; · iexists _; iexact H8
                isplitl [H9]; · iexists _; iexact H9
                isplitl [H10]; · iexists _; iexact H10
                unfold owns; iexists _; isplitr
                swap; · iexact H11
                ipureintro; exact View.read_writes_of_cover _ _ _ _ _ (cover0_C_11 c _ _ _ _ _ _ _ _ _ _ _ _ _ _ _ _ _ _ _ _ _ _ _ _ _ _ _ _ _ _ _ _ _ _ _ _ _ _ _ _)
      · by_cases h3 : t.val % 6 = 3
        · by_cases h4 : t.val % 6 = 4
          · exfalso; omega
          · by_cases h5 : t.val % 6 = 5
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [Dat.leavesExact_idle (dats m 0 c) 6 t (idleAt0_6_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h))) (noFlush0_6_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)))]
              rw [Dat.leavesExact_idle (dats m 0 c) 7 t (idleAt0_7_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h))) (noFlush0_7_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)))]
              rw [show (dats m 0 c).leavesExact 8 t = owns (c : Thread nD τ) (ms0_8 t) fullShare ((dats m 0 c).after 8 t) from by
      unfold Dat.leavesExact; rw [liveAt0_8_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h))], after0_8]
              rw [Dat.leavesExact_idle (dats m 0 c) 9 t (idleAt0_9_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h))) (noFlush0_9_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)))]
              rw [Dat.leavesExact_idle (dats m 0 c) 10 t (idleAt0_10_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h))) (noFlush0_10_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)))]
              rw [show (dats m 0 c).leavesExact 11 t = owns (c : Thread nD τ) (ms0_11 t) fullShare ((dats m 0 c).after 11 t) from by
      unfold Dat.leavesExact; rw [liveAt0_11 t], after0_11]
              by_cases hz : t.val = 0
              · exfalso; have hN : t.val < 192 := lt_of_lt_of_eq t.isLt (show cfg0.N = 192 from N_0); omega
              · rw [PhiS_castSucc m c t, PhiS_pos m c _ _ hz]
                rw [outsAt0_D m c t h0 h1 h2 h3 h4 h5]
                unfold out0_D_8 out0_D_11 sout0_D_0; (try dsimp only)
                iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
                iapply ((kernelRun0_D c (grid0.coords t) _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) _).2.2.2.2.2.2.2 _ _ _ _ Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexists _; iexact H8
                isplitl [H9]; · iexact H9
                isplitl [H10]; · iexact H10
                isplitl [H11]; · iexists _; iexact H11
                isplitl [HS0]; · iexact HS0
                iintro ⟨H0, H1, H2, H3, H4, H5, H6, H7, ⟨%e8, H8⟩, H9, H10, ⟨%e11, H11⟩, HS0⟩
                isplitl [HS0 Hg]
                · isplitl [HS0]
                  · iexact HS0
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexists _; iexact H6
                isplitl [H7]; · iexists _; iexact H7
                isplitl [H8]
                · unfold owns; iexists _; isplitr
                  swap; · iexact H8
                  ipureintro; exact View.read_writes_of_cover _ _ _ _ _ (cover0_D_8 c _ _ _ _ _ _ _ _ _ _ _ _ _ _ _ _ _ _ _ _ _ _ _ _ _ _ _ _ _ _ _ _ _ _ _ _ _ _ _ _)
                isplitl [H9]; · iexists _; iexact H9
                isplitl [H10]; · iexists _; iexact H10
                unfold owns; iexists _; isplitr
                swap; · iexact H11
                ipureintro; exact View.read_writes_of_cover _ _ _ _ _ (cover0_D_11 c _ _ _ _ _ _ _ _ _ _ _ _ _ _ _ _ _ _ _ _ _ _ _ _ _ _ _ _ _ _ _ _ _ _ _ _ _ _ _ _)
        · by_cases h4 : t.val % 6 = 4
          · by_cases h5 : t.val % 6 = 5
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [Dat.leavesExact_idle (dats m 0 c) 6 t (idleAt0_6_E t (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h))) (noFlush0_6_E t (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)))]
              rw [Dat.leavesExact_idle (dats m 0 c) 7 t (idleAt0_7_E t (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h))) (noFlush0_7_E t (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)))]
              rw [Dat.leavesExact_idle (dats m 0 c) 8 t (idleAt0_8_E t (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h))) (noFlush0_8_E t (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)))]
              rw [show (dats m 0 c).leavesExact 9 t = owns (c : Thread nD τ) (ms0_9 t) fullShare ((dats m 0 c).after 9 t) from by
      unfold Dat.leavesExact; rw [liveAt0_9_E t (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h))], after0_9]
              rw [Dat.leavesExact_idle (dats m 0 c) 10 t (idleAt0_10_E t (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h))) (noFlush0_10_E t (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)))]
              rw [show (dats m 0 c).leavesExact 11 t = owns (c : Thread nD τ) (ms0_11 t) fullShare ((dats m 0 c).after 11 t) from by
      unfold Dat.leavesExact; rw [liveAt0_11 t], after0_11]
              by_cases hz : t.val = 0
              · exfalso; have hN : t.val < 192 := lt_of_lt_of_eq t.isLt (show cfg0.N = 192 from N_0); omega
              · rw [PhiS_castSucc m c t, PhiS_pos m c _ _ hz]
                rw [outsAt0_E m c t h0 h1 h2 h3 h4 h5]
                unfold out0_E_9 out0_E_11 sout0_E_0; (try dsimp only)
                iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
                iapply ((kernelRun0_E c (grid0.coords t) _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) _).2.2.2.2.2.2.2 _ _ _ _ Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                isplitl [H9]; · iexists _; iexact H9
                isplitl [H10]; · iexact H10
                isplitl [H11]; · iexists _; iexact H11
                isplitl [HS0]; · iexact HS0
                iintro ⟨H0, H1, H2, H3, H4, H5, H6, H7, H8, ⟨%e9, H9⟩, H10, ⟨%e11, H11⟩, HS0⟩
                isplitl [HS0 Hg]
                · isplitl [HS0]
                  · iexact HS0
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexists _; iexact H6
                isplitl [H7]; · iexists _; iexact H7
                isplitl [H8]; · iexists _; iexact H8
                isplitl [H9]
                · unfold owns; iexists _; isplitr
                  swap; · iexact H9
                  ipureintro; exact View.read_writes_of_cover _ _ _ _ _ (cover0_E_9 c _ _ _ _ _ _ _ _ _ _ _ _ _ _ _ _ _ _ _ _ _ _ _ _ _ _ _ _ _ _ _ _ _ _ _ _ _ _ _ _)
                isplitl [H10]; · iexists _; iexact H10
                unfold owns; iexists _; isplitr
                swap; · iexact H11
                ipureintro; exact View.read_writes_of_cover _ _ _ _ _ (cover0_E_11 c _ _ _ _ _ _ _ _ _ _ _ _ _ _ _ _ _ _ _ _ _ _ _ _ _ _ _ _ _ _ _ _ _ _ _ _ _ _ _ _)
          · by_cases h5 : t.val % 6 = 5
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [idleAt0_6_F t (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5), flushAt0_6_F t (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5)], after0_6]
              rw [show (dats m 0 c).leavesExact 7 t = owns (c : Thread nD τ) (ms0_7 t) fullShare ((dats m 0 c).after 7 t) from by
      unfold Dat.leavesExact; rw [idleAt0_7_F t (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5), flushAt0_7_F t (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5)], after0_7]
              rw [show (dats m 0 c).leavesExact 8 t = owns (c : Thread nD τ) (ms0_8 t) fullShare ((dats m 0 c).after 8 t) from by
      unfold Dat.leavesExact; rw [idleAt0_8_F t (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5), flushAt0_8_F t (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5)], after0_8]
              rw [show (dats m 0 c).leavesExact 9 t = owns (c : Thread nD τ) (ms0_9 t) fullShare ((dats m 0 c).after 9 t) from by
      unfold Dat.leavesExact; rw [idleAt0_9_F t (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5), flushAt0_9_F t (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5)], after0_9]
              rw [show (dats m 0 c).leavesExact 10 t = owns (c : Thread nD τ) (ms0_10 t) fullShare ((dats m 0 c).after 10 t) from by
      unfold Dat.leavesExact; rw [liveAt0_10_F t (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5)], after0_10]
              rw [show (dats m 0 c).leavesExact 11 t = owns (c : Thread nD τ) (ms0_11 t) fullShare ((dats m 0 c).after 11 t) from by
      unfold Dat.leavesExact; rw [liveAt0_11 t], after0_11]
              by_cases hz : t.val = 0
              · exfalso; have hN : t.val < 192 := lt_of_lt_of_eq t.isLt (show cfg0.N = 192 from N_0); omega
              · rw [PhiS_castSucc m c t, PhiS_pos m c _ _ hz]
                rw [outsAt0_F m c t h0 h1 h2 h3 h4 h5]
                simp only [before0_6_F m c t h0 h1 h2 h3 h4 h5, before0_7_F m c t h0 h1 h2 h3 h4 h5, before0_8_F m c t h0 h1 h2 h3 h4 h5, before0_9_F m c t h0 h1 h2 h3 h4 h5]
                unfold out0_F_6 out0_F_7 out0_F_8 out0_F_9 out0_F_10 out0_F_11 sout0_F_0; (try dsimp only)
                iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
                iapply ((kernelRun0_F c (grid0.coords t) _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (iblk m c 0 t) (iblk m c 1 t) (iblk m c 2 t) (iblk m c 3 t) (iblk m c 4 t) (iblk m c 5 t) _ _ _ _ _).2.2.2.2.2.2.2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                isplitl [H9]; · iexact H9
                isplitl [H10]; · iexists _; iexact H10
                isplitl [H11]; · iexists _; iexact H11
                isplitl [HS0]; · iexact HS0
                iintro ⟨H0, H1, H2, H3, H4, H5, H6, H7, H8, H9, ⟨%e10, H10⟩, ⟨%e11, H11⟩, HS0⟩
                isplitl [HS0 Hg]
                · isplitl [HS0]
                  · iexact HS0
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                isplitl [H9]; · iexact H9
                isplitl [H10]
                · unfold owns; iexists _; isplitr
                  swap; · iexact H10
                  ipureintro; exact View.read_writes_of_cover _ _ _ _ _ (cover0_F_10 c _ _ _ _ _ _ _ _ _ _ _ _ _ _ _ _ _ _ _ _ _ _ _ _ _ _ _ _ _ _ _ _ _ _ _ _ _ _ _ _ _ _ _ _)
                unfold owns; iexists _; isplitr
                swap; · iexact H11
                ipureintro; exact View.read_writes_of_cover _ _ _ _ _ (cover0_F_11 c _ _ _ _ _ _ _ _ _ _ _ _ _ _ _ _ _ _ _ _ _ _ _ _ _ _ _ _ _ _ _ _ _ _ _ _ _ _ _ _ _ _ _ _)
            · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 192 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame, over words or over the reals: the arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.ProjIdeal.Gen

end
-- ==== Proof.ProjSame.lean ====
/-
  The projection kernel as printed for words and as printed for the reals are one text: what is shown of either, over
  words, holds of the other.
-/
module

public import proofs.«01_k».proof.Defs
public import proofs.«01_k».proof.Proof.Gen.ProjIdeal
public import Idealize.ShloMosaic.Lib.Claim

@[expose] public section

set_option maxRecDepth 16384
set_option maxHeartbeats 4000000
set_option smartUnfolding false

noncomputable section

namespace Cert.Proof

open Idealize.ShloMosaic Idealize.SL.Sem

/-- If the program printed for the reals, run over words, leaves its arguments unchanged and ends with every counter at
    zero, so does the program printed for words. -/
theorem proj_words [hProj : Cert.Proj.Facts] (h : ∀ (m : (ℓ : Loc Cert.ProjIdeal.nD Cert.ProjIdeal.τ Cert.ProjIdeal.sig) → Buf (Elt Bits) ℓ) (g : Dev Cert.ProjIdeal.nD → PrngReg),
    θ_run (Cert.ProjIdeal.defs (F := Bits)) (onTc (τ := Cert.ProjIdeal.τ) (Cert.ProjIdeal.main (F := Bits))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)) : Cert.quiescent_Proj := fun m g _ => h m g

end Cert.Proof

end
-- ==== Proof.ProjHost.lean ====
/-
  The projection kernel: the arrays its host prepares.

  Before the launch the host lays out six rows of gains, the same six rows times six scales, and two
  matrices that average a row of 128 over its halves or over the whole of it. Here each is read at an entry.
-/
module

public import proofs.«01_k».proof.Proof.Proj.Frame

public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

/-- A gain of 64 lanes, laid twice side by side. -/
def twice (g : FVec Ideal S1x64 .f32) : FVec Ideal S128 .f32 :=
  shapeCast S128 (broadcastInDim S2x64 ![0, 1] bcast_S1x64_S2x64_0_1
    (shapeCast S1x64 (shapeCast S64 g shapeCasts_S1x64_S64) shapeCasts_S64_S1x64)) shapeCasts_S2x64_S128

/-- A row of ones. -/
def onesRow : FVec Ideal S128 .f32 := broadcastInDim S128 ![] bcast_S_S128 (constant S_ .f32 0x3F800000#32)

/-- The six rows of gains. -/
def gains (g3 g4 : FVec Ideal S1x64 .f32) (g5 g6 : FVec Ideal S1x128 .f32) : FVec Ideal S6x1x128 .f32 :=
  shapeCast S6x1x128 (concatenate S6x128 0
    [⟨S1x128, broadcastInDim S1x128 ![1] bcast_S128_S1x128_1 (twice g3)⟩,
     ⟨S1x128, broadcastInDim S1x128 ![1] bcast_S128_S1x128_1 (twice g4)⟩,
     ⟨S1x128, broadcastInDim S1x128 ![1] bcast_S128_S1x128_1 onesRow⟩,
     ⟨S1x128, broadcastInDim S1x128 ![1] bcast_S128_S1x128_1 (shapeCast S128 g5 shapeCasts_S1x128_S128)⟩,
     ⟨S1x128, broadcastInDim S1x128 ![1] bcast_S128_S1x128_1 (shapeCast S128 g6 shapeCasts_S1x128_S128)⟩,
     ⟨S1x128, broadcastInDim S1x128 ![1] bcast_S128_S1x128_1 onesRow⟩]
    concatenates_S1x128_S1x128_S1x128_S1x128_S1x128_S1x128_S6x128_d0) shapeCasts_S6x128_S6x1x128

/-- The six scales, each along its row. -/
def scales : FVec Ideal S6x1x128 .f32 :=
  broadcastInDim S6x1x128 ![0, 1, 2] bcast_S6x1x1_S6x1x128_0_1_2
    (shapeCast S6x1x1 (fun i => FloatOps.ofBits .f32 (lit0 (S6.rowMajor i)) : FVec Ideal S6 .f32) shapeCasts_S6_S6x1x1)

/-- A lane number over 64, rounded down: the numbers down a column. -/
def halfDown : IVec S128x1 32 :=
  let x : IVec S128x1 32 := broadcastInDim S128x1 ![0] bcast_S128_S128x1_0 (iotaInDim S128 32 0)
  let n : IVec S_ 32 := constantI S_ 32 64#32
  select (andi (cmpi .ne (signi x) (broadcastInDim S128x1 ![] bcast_S_S128x1 (signi n)))
      (cmpi .ne (Host.remsi x (broadcastInDim S128x1 ![] bcast_S_S128x1 n))
        (broadcastInDim S128x1 ![] bcast_S_S128x1 (constantI S_ 32 0#32))))
    (subi (Host.divsi x (broadcastInDim S128x1 ![] bcast_S_S128x1 n))
      (broadcastInDim S128x1 ![] bcast_S_S128x1 (constantI S_ 32 1#32)))
    (Host.divsi x (broadcastInDim S128x1 ![] bcast_S_S128x1 n))

/-- A lane number over 64, rounded down: the numbers along a row. -/
def halfAlong : IVec S1x128 32 :=
  let x : IVec S1x128 32 := broadcastInDim S1x128 ![1] bcast_S128_S1x128_1 (iotaInDim S128 32 0)
  let n : IVec S_ 32 := constantI S_ 32 64#32
  select (andi (cmpi .ne (signi x) (broadcastInDim S1x128 ![] bcast_S_S1x128 (signi n)))
      (cmpi .ne (Host.remsi x (broadcastInDim S1x128 ![] bcast_S_S1x128 n))
        (broadcastInDim S1x128 ![] bcast_S_S1x128 (constantI S_ 32 0#32))))
    (subi (Host.divsi x (broadcastInDim S1x128 ![] bcast_S_S1x128 n))
      (broadcastInDim S1x128 ![] bcast_S_S1x128 (constantI S_ 32 1#32)))
    (Host.divsi x (broadcastInDim S1x128 ![] bcast_S_S1x128 n))

theorem halfDown_eq : ∀ k : Fin 128, halfDown (ix2 k (0 : Fin 1)) = BitVec.ofNat 32 (k.val / 64) := by decide +kernel
theorem halfAlong_eq : ∀ k : Fin 128, halfAlong (ix2 (0 : Fin 1) k) = BitVec.ofNat 32 (k.val / 64) := by decide +kernel

/-- The averaging matrices: over the halves, then over the whole. -/
def means : FVec Ideal S2x128x128 .bf16 :=
  truncf .bf16 (concatenate S2x128x128 0
    [⟨S1x128x128, broadcastInDim S1x128x128 ![1, 2] bcast_S128x128_S1x128x128_1_2
        (Host.divf (uitofp .f32 (cmpi .eq (broadcastInDim S128x128 ![0, 1] bcast_S128x1_S128x128_0_1 halfDown)
            (broadcastInDim S128x128 ![0, 1] bcast_S1x128_S128x128_0_1 halfAlong)) : FVec Ideal S128x128 .f32)
          (broadcastInDim S128x128 ![] bcast_S_S128x128 (constant S_ .f32 0x42800000#32)))⟩,
     ⟨S1x128x128, broadcastInDim S1x128x128 ![1, 2] bcast_S128x128_S1x128x128_1_2
        (broadcastInDim S128x128 ![] bcast_S_S128x128 (constant (F := Ideal) S_ .f32 0x3C000000#32))⟩]
    concatenates_S1x128x128_S1x128x128_S2x128x128_d0) bitsLt_bf16_f32

set_option maxHeartbeats 4000000 in
/-! What the host hands the kernel: each array, of the arguments. -/

theorem V_gains (c : Dev nD) : V m c main_v22 = gains (m (c.tc.loc main_arg3)) (m (c.tc.loc main_arg4))
    (m (c.tc.loc main_arg5)) (m (c.tc.loc main_arg6)) := by
  simp only [V, hostOps0, hostOps0_1, hostOps0_2, hostOps0_3, hostOps0_4, List.flatten_cons, List.flatten_nil, List.cons_append, List.nil_append, List.append_nil]
  after_results_simp <;> (try dsimp only [Matrix.cons_val]) <;> (try after_results_simp) <;> rfl

set_option maxHeartbeats 4000000 in
theorem V_scaled (c : Dev nD) : V m c main_v25 = mulf (gains (m (c.tc.loc main_arg3)) (m (c.tc.loc main_arg4))
    (m (c.tc.loc main_arg5)) (m (c.tc.loc main_arg6))) scales := by
  simp only [V, hostOps0, hostOps0_1, hostOps0_2, hostOps0_3, hostOps0_4, List.flatten_cons, List.flatten_nil, List.cons_append, List.nil_append, List.append_nil]
  after_results_simp <;> (try dsimp only [Matrix.cons_val]) <;> (try after_results_simp) <;> rfl

set_option maxHeartbeats 4000000 in
theorem V_x (c : Dev nD) : V m c main_v42 = shapeCast S16384x2048 (m (c.tc.loc main_arg0)) shapeCasts_S2x8192x2048_S16384x2048 := by
  simp only [V, hostOps0, hostOps0_1, hostOps0_2, hostOps0_3, hostOps0_4, List.flatten_cons, List.flatten_nil, List.cons_append, List.nil_append, List.append_nil]
  after_results_simp <;> (try dsimp only [Matrix.cons_val]) <;> (try after_results_simp) <;> rfl

set_option maxHeartbeats 4000000 in
theorem V_g (c : Dev nD) : V m c main_v3 = shapeCast S1x2048 (shapeCast S2048 (m (c.tc.loc main_arg1)) shapeCasts_S1x2048_S2048) shapeCasts_S2048_S1x2048 := by
  simp only [V, hostOps0, hostOps0_1, hostOps0_2, hostOps0_3, hostOps0_4, List.flatten_cons, List.flatten_nil, List.cons_append, List.nil_append, List.append_nil]
  after_results_simp <;> (try dsimp only [Matrix.cons_val]) <;> (try after_results_simp) <;> rfl

set_option maxHeartbeats 4000000 in
theorem V_w (c : Dev nD) : V m c main_v1 = (truncf .bf16 (shapeCast S2048x6144 (m (c.tc.loc main_arg2)) shapeCasts_S1x2048x6144_S2048x6144 : FVec Ideal S2048x6144 .f32) bitsLt_bf16_f32 : FVec Ideal S2048x6144 .bf16) := by
  simp only [V, hostOps0, hostOps0_1, hostOps0_2, hostOps0_3, hostOps0_4, List.flatten_cons, List.flatten_nil, List.cons_append, List.nil_append, List.append_nil]
  after_results_simp <;> (try dsimp only [Matrix.cons_val]) <;> (try after_results_simp) <;> rfl

set_option maxHeartbeats 4000000 in
theorem V_means (c : Dev nD) : V m c main_v41 = means := by
  simp only [V, hostOps0, hostOps0_1, hostOps0_2, hostOps0_3, hostOps0_4, List.flatten_cons, List.flatten_nil, List.cons_append, List.nil_append, List.append_nil]
  after_results_simp <;> (try dsimp only [Matrix.cons_val]) <;> (try after_results_simp) <;> rfl

variable (g3 g4 : FVec Ideal S1x64 .f32) (g5 g6 : FVec Ideal S1x128 .f32)

/-! The six rows of gains, lane by lane. -/

theorem gains_0 (l : Fin 128) : gains g3 g4 g5 g6 (ix3 (0 : Fin 6) (0 : Fin 1) l) = g3 (ix2 (0 : Fin 1) (⟨l.val % 64, by omega⟩ : Fin 64)) := by
  pointwise [gains, twice]

theorem gains_1 (l : Fin 128) : gains g3 g4 g5 g6 (ix3 (1 : Fin 6) (0 : Fin 1) l) = g4 (ix2 (0 : Fin 1) (⟨l.val % 64, by omega⟩ : Fin 64)) := by
  pointwise [gains, twice]

theorem gains_2 (l : Fin 128) : gains g3 g4 g5 g6 (ix3 (2 : Fin 6) (0 : Fin 1) l) = 1 := by
  pointwise [gains, onesRow]

theorem gains_3 (l : Fin 128) : gains g3 g4 g5 g6 (ix3 (3 : Fin 6) (0 : Fin 1) l) = g5 (ix2 (0 : Fin 1) l) := by
  pointwise [gains, twice]

theorem gains_4 (l : Fin 128) : gains g3 g4 g5 g6 (ix3 (4 : Fin 6) (0 : Fin 1) l) = g6 (ix2 (0 : Fin 1) l) := by
  pointwise [gains, twice]

theorem gains_5 (l : Fin 128) : gains g3 g4 g5 g6 (ix3 (5 : Fin 6) (0 : Fin 1) l) = 1 := by
  pointwise [gains, onesRow]

/-- The scale of row `n`. -/
def scale (n : Fin 6) : EReal := Ideal.ofBits .f32 (lit0 n)

theorem scales_at (n : Fin 6) (l : Fin 128) : scales (ix3 n (0 : Fin 1) l) = scale n := by
  pointwise [scales, scale]
  exact congrArg (fun i => Ideal.ofBits .f32 (lit0 i)) (by fin_cases n <;> rfl)

theorem same_half : ∀ a b : Fin 2, IntOp.cmpi .eq (BitVec.ofNat 32 a.val) (BitVec.ofNat 32 b.val) = if a.val = b.val then 1#1 else 0#1 := by
  decide +kernel

/-- The first averaging matrix: a 64th where both lanes lie in one half, zero elsewhere. -/
theorem means_0 (k l : Fin 128) : means (ix3 (0 : Fin 2) k l)
    = Ideal.div (if k.val / 64 = l.val / 64 then 1 else 0) (Ideal.ofBits .f32 0x42800000#32) := by
  pointwise [means]
  rw [halfDown_eq, halfAlong_eq, same_half ⟨k.val / 64, by omega⟩ ⟨l.val / 64, by omega⟩]
  split_ifs <;> simp [FloatOps.uitofp]

/-- The second averaging matrix: a 128th everywhere. -/
theorem means_1 (k l : Fin 128) : means (ix3 (1 : Fin 2) k l) = Ideal.ofBits .f32 0x3C000000#32 := by
  pointwise [means]

/-- Which block of each input a grid point sees. -/
theorem idx : ∀ t : Fin cfg0.N, win0_0.index t = ![t.val / 6, 0] ∧ win0_1.index t = ![0, 0]
    ∧ win0_2.index t = ![0, t.val % 6] ∧ win0_3.index t = ![t.val % 6, 0, 0] ∧ win0_4.index t = ![t.val % 6, 0, 0]
    ∧ win0_5.index t = ![t.val % 6 / 3, 0, 0] :=
  (by decide +kernel : ∀ t : Fin grid0.N, _)

theorem lt_N (t : Fin cfg0.N) : t.val < 192 := t.isLt

/-! At grid point `t` the kernel sees row block `t / 6` and column block `t % 6`. -/

theorem blk0 (c : Dev nD) (t : Fin cfg0.N) (r : Fin 512) (k : Fin 2048) :
    iblk m c 0 t (ix2 r k) = V m c main_v42 (ix2 (⟨512 * (t.val / 6) + r.val, by have := lt_N t; omega⟩ : Fin 16384) k) := by
  blk_ext [iblk, idx t]

theorem blk1 (c : Dev nD) (t : Fin cfg0.N) (k : Fin 2048) :
    iblk m c 1 t (ix2 (0 : Fin 1) k) = V m c main_v3 (ix2 (0 : Fin 1) k) := by
  blk_ext [iblk, idx t]

theorem blk2 (c : Dev nD) (t : Fin cfg0.N) (k : Fin 2048) (l : Fin 1024) :
    iblk m c 2 t (ix2 k l) = V m c main_v1 (ix2 k (⟨1024 * (t.val % 6) + l.val, by omega⟩ : Fin 6144)) := by
  blk_ext [iblk, idx t]

theorem blk3 (c : Dev nD) (t : Fin cfg0.N) (l : Fin 128) :
    iblk m c 3 t (ix3 (0 : Fin 1) (0 : Fin 1) l) = V m c main_v22 (ix3 (⟨t.val % 6, by omega⟩ : Fin 6) (0 : Fin 1) l) := by
  blk_ext [iblk, idx t]

theorem blk4 (c : Dev nD) (t : Fin cfg0.N) (l : Fin 128) :
    iblk m c 4 t (ix3 (0 : Fin 1) (0 : Fin 1) l) = V m c main_v25 (ix3 (⟨t.val % 6, by omega⟩ : Fin 6) (0 : Fin 1) l) := by
  blk_ext [iblk, idx t]

theorem blk5 (c : Dev nD) (t : Fin cfg0.N) (k l : Fin 128) :
    iblk m c 5 t (ix3 (0 : Fin 1) k l) = V m c main_v41 (ix3 (⟨t.val % 6 / 3, by omega⟩ : Fin 2) k l) := by
  blk_ext [iblk, idx t]

/-! The host's reshapes, read at an entry. -/

theorem cast_x (x : FVec Ideal S2x8192x2048 .f32) (R : Fin 16384) (k : Fin 2048) :
    shapeCast S16384x2048 x shapeCasts_S2x8192x2048_S16384x2048 (ix2 R k)
      = x (ix3 (⟨R.val / 8192, by omega⟩ : Fin 2) (⟨R.val % 8192, by omega⟩ : Fin 8192) k) := by
  pointwise

theorem cast_g (g : FVec Ideal S1x2048 .f32) (k : Fin 2048) :
    shapeCast S1x2048 (shapeCast S2048 g shapeCasts_S1x2048_S2048) shapeCasts_S2048_S1x2048 (ix2 (0 : Fin 1) k)
      = g (ix2 (0 : Fin 1) k) := by
  pointwise

theorem cast_w (w : FVec Ideal S1x2048x6144 .f32) (k : Fin 2048) (l : Fin 6144) :
    (truncf .bf16 (shapeCast S2048x6144 w shapeCasts_S1x2048x6144_S2048x6144 : FVec Ideal S2048x6144 .f32) bitsLt_bf16_f32 : FVec Ideal S2048x6144 .bf16)
      (ix2 k l) = w (ix3 (0 : Fin 1) k l) := by
  pointwise

end Cert.ProjIdeal.Value

end
-- ==== Proof.ProjHead.lean ====
/-
  The projection kernel: its payloads at an entry.

  A block of the product has 512 rows of 1024 columns, eight runs of 128. Each run is divided by its root mean square, the
  mean square being the squares times a 128 by 128 matrix of means, or is left as it is.
-/
module

public import proofs.«01_k».proof.Proof.Gen.ProjIdeal.Skeleton
public import proofs.«01_k».proof.Proof.Num
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.ProjIdeal.Value

open Cert.ProjIdeal Cert.ProjIdeal.Gen

/-- Whether a column block is left as it is: its number is 2 modulo 3. -/
def plainBlock (i : grid0.Coords) : BitVec 1 :=
  let arg1 : BitVec 32 := BitVec.ofNat 32 (i 1).val
  let v8 : BitVec 32 := Scalar.select (Scalar.cmpi .eq 3#32 0#32) 1#32 3#32
  let v9 : BitVec 32 := Scalar.remsi arg1 v8
  let v14 : BitVec 1 := Scalar.andi (Scalar.xori (Scalar.cmpi .slt v9 0#32) (Scalar.cmpi .slt v8 0#32)) (Scalar.cmpi .ne v9 0#32)
  Scalar.cmpi .eq (Scalar.select v14 (Scalar.addi v9 v8) v9) 2#32

theorem plainBlock_eq : ∀ t : Fin cfg0.N, plainBlock (grid0.coords t) = if t.val % 3 = 2 then 1#1 else 0#1 :=
  (by decide +kernel : ∀ t : Fin grid0.N, _)

/-- Lane `l` of run `h` of a row, over the run's root mean square, or as it is where `s` is set. -/
def lane (s : BitVec 1) (z : FVec Ideal S512x1024 .f32) (b : FVec Ideal S128x128 .bf16) (h : Fin 8) (r : Fin 512) (l : Fin 128) : EReal :=
  z (ix2 r (⟨128 * h.val + l.val, by omega⟩ : Fin 1024)) * if s = 1#1 then 1 else
    Ideal.rsqrt (∑ k : Fin 128, z (ix2 r (⟨128 * h.val + k.val, by omega⟩ : Fin 1024)) * z (ix2 r (⟨128 * h.val + k.val, by omega⟩ : Fin 1024))
      * b (ix2 k l) + Ideal.ofBits .f32 0x358637BD#32)

/-- An entry of the normalised rows the first point of a row block stores. -/
theorem pay1_at (x : Vec Ideal S512x2048 .f32) (g : Vec Ideal S1x2048 .f32) (j : S512x2048.Idx) :
    k0_pay1 x g j = x j * Ideal.rsqrt (Ideal.div (∑ i : Fin 2048, x (ix2 (j 0) i) * x (ix2 (j 0) i)) (Ideal.ofBits .f32 0x45000000#32)
      + Ideal.ofBits .f32 0x358637BD#32) * g (ix2 (0 : Fin 1) (j 1)) := by
  pointwise [k0_pay1]

/-- An entry of the product of a row block with a column block. -/
theorem pay2_at (x : Vec Ideal S512x2048 .bf16) (w : Vec Ideal S2048x1024 .bf16) (j : S512x1024.Idx) :
    k0_pay2 x w j = ∑ k : Fin 2048, x (ix2 (j 0) k) * w (ix2 k (j 1)) := by
  pointwise [k0_pay2]

theorem pay3_at (b : Vec Ideal S1x128x128 .bf16) (j : S128x128.Idx) : k0_pay3 b j = b (ix3 (0 : Fin 1) (j 0) (j 1)) := by
  pointwise [k0_pay3]

/-- Choosing between two arrays, read at an index. -/
theorem select_at (s : BitVec 1) (a b : FVec Ideal S512x128 .f32) (j : S512x128.Idx) :
    (Scalar.select s a b) j = if s = 1#1 then a j else b j := by
  change (if s = 1#1 then a else b) j = _
  split_ifs <;> rfl

/-- The first run of a block, as the payload computes it. -/
def run0 (s : BitVec 1) (z : FVec Ideal S512x1024 .f32) (b : FVec Ideal S128x128 .bf16) : FVec Ideal S512x128 .f32 :=
  mulf (extractStridedSlice S512x128 ![0, 0] z slices_S512x1024_o0_0_S512x128)
    (Scalar.select s (broadcast S512x128 (Scalar.ofBits .f32 0x3F800000#32)) (rsqrt (addf
      (matmul dot_S512x128_S128x128_S512x128_1_0_0_1_n_n none
        (truncf .bf16 (mulf (extractStridedSlice S512x128 ![0, 0] z slices_S512x1024_o0_0_S512x128)
          (extractStridedSlice S512x128 ![0, 0] z slices_S512x1024_o0_0_S512x128)) bitsLt_bf16_f32)
        b (constant S512x128 .f32 0x00000000#32))
      (broadcast S512x128 (Scalar.ofBits .f32 0x358637BD#32)))))

theorem pay4_run (i : grid0.Coords) (x : Vec Ideal S512x2048 .bf16) (w : Vec Ideal S2048x1024 .bf16) (b : Vec Ideal S1x128x128 .bf16) :
    k0_pay4 i x w b = run0 (plainBlock i) (k0_pay2 x w) (k0_pay3 b) := rfl

theorem run0_at (s : BitVec 1) (z : FVec Ideal S512x1024 .f32) (b : FVec Ideal S128x128 .bf16) (j : S512x128.Idx) :
    run0 s z b j = lane s z b 0 (j 0) (j 1) := by
  unfold lane
  pointwise [run0, select_at]

/-- The first run, read at an entry. -/
theorem pay4_at (i : grid0.Coords) (x : Vec Ideal S512x2048 .bf16) (w : Vec Ideal S2048x1024 .bf16) (b : Vec Ideal S1x128x128 .bf16)
    (j : S512x128.Idx) : k0_pay4 i x w b j = lane (plainBlock i) (k0_pay2 x w) (k0_pay3 b) 0 (j 0) (j 1) := by
  rw [pay4_run, run0_at]

/-! The next runs, each read at an entry. -/

theorem pay7_at (s : BitVec 1) (z : FVec Ideal S512x1024 .f32) (b : FVec Ideal S128x128 .bf16) (j : S512x128.Idx) :
    k0_pay7 z s b j = lane s z b 1 (j 0) (j 1) := by
  unfold lane
  pointwise [k0_pay7, select_at]

theorem pay10_at (s : BitVec 1) (z : FVec Ideal S512x1024 .f32) (b : FVec Ideal S128x128 .bf16) (j : S512x128.Idx) :
    k0_pay10 z s b j = lane s z b 2 (j 0) (j 1) := by
  unfold lane
  pointwise [k0_pay10, select_at]

theorem pay13_at (s : BitVec 1) (z : FVec Ideal S512x1024 .f32) (b : FVec Ideal S128x128 .bf16) (j : S512x128.Idx) :
    k0_pay13 z s b j = lane s z b 3 (j 0) (j 1) := by
  unfold lane
  pointwise [k0_pay13, select_at]

theorem pay16_at (s : BitVec 1) (z : FVec Ideal S512x1024 .f32) (b : FVec Ideal S128x128 .bf16) (j : S512x128.Idx) :
    k0_pay16 z s b j = lane s z b 4 (j 0) (j 1) := by
  unfold lane
  pointwise [k0_pay16, select_at]

theorem pay19_at (s : BitVec 1) (z : FVec Ideal S512x1024 .f32) (b : FVec Ideal S128x128 .bf16) (j : S512x128.Idx) :
    k0_pay19 z s b j = lane s z b 5 (j 0) (j 1) := by
  unfold lane
  pointwise [k0_pay19, select_at]

theorem pay22_at (s : BitVec 1) (z : FVec Ideal S512x1024 .f32) (b : FVec Ideal S128x128 .bf16) (j : S512x128.Idx) :
    k0_pay22 z s b j = lane s z b 6 (j 0) (j 1) := by
  unfold lane
  pointwise [k0_pay22, select_at]

theorem pay27_at (s : BitVec 1) (z : FVec Ideal S512x1024 .f32) (b : FVec Ideal S128x128 .bf16) (j : S512x128.Idx) :
    k0_pay27 s b (k0_pay25 z) (k0_pay26 z) (constant S512x128 .f32 0x00000000#32) j = lane s z b 7 (j 0) (j 1) := by
  unfold lane
  pointwise [k0_pay27, k0_pay25, k0_pay26, select_at]

/-! The runs times the gain, and times the scaled gain. -/

theorem pay5_at (i : grid0.Coords) (x : Vec Ideal S512x2048 .bf16) (w : Vec Ideal S2048x1024 .bf16) (b : Vec Ideal S1x128x128 .bf16)
    (g : Vec Ideal S1x1x128 .f32) (j : S512x128.Idx) :
    k0_pay5 i x w b g j = lane (plainBlock i) (k0_pay2 x w) (k0_pay3 b) 0 (j 0) (j 1) * g (ix3 (0 : Fin 1) (0 : Fin 1) (j 1)) := by
  rw [← pay4_at]
  pointwise [k0_pay5]

theorem pay8_at (s : BitVec 1) (z : FVec Ideal S512x1024 .f32) (b : FVec Ideal S128x128 .bf16) (g : Vec Ideal S1x1x128 .f32)
    (j : S512x128.Idx) : k0_pay8 z s b g j = lane s z b 1 (j 0) (j 1) * g (ix3 (0 : Fin 1) (0 : Fin 1) (j 1)) := by
  rw [← pay7_at]
  pointwise [k0_pay8]

theorem pay11_at (s : BitVec 1) (z : FVec Ideal S512x1024 .f32) (b : FVec Ideal S128x128 .bf16) (g : Vec Ideal S1x1x128 .f32)
    (j : S512x128.Idx) : k0_pay11 z s b g j = lane s z b 2 (j 0) (j 1) * g (ix3 (0 : Fin 1) (0 : Fin 1) (j 1)) := by
  rw [← pay10_at]
  pointwise [k0_pay11]

theorem pay14_at (s : BitVec 1) (z : FVec Ideal S512x1024 .f32) (b : FVec Ideal S128x128 .bf16) (g : Vec Ideal S1x1x128 .f32)
    (j : S512x128.Idx) : k0_pay14 z s b g j = lane s z b 3 (j 0) (j 1) * g (ix3 (0 : Fin 1) (0 : Fin 1) (j 1)) := by
  rw [← pay13_at]
  pointwise [k0_pay14]

theorem pay17_at (s : BitVec 1) (z : FVec Ideal S512x1024 .f32) (b : FVec Ideal S128x128 .bf16) (g : Vec Ideal S1x1x128 .f32)
    (j : S512x128.Idx) : k0_pay17 z s b g j = lane s z b 4 (j 0) (j 1) * g (ix3 (0 : Fin 1) (0 : Fin 1) (j 1)) := by
  rw [← pay16_at]
  pointwise [k0_pay17]

theorem pay20_at (s : BitVec 1) (z : FVec Ideal S512x1024 .f32) (b : FVec Ideal S128x128 .bf16) (g : Vec Ideal S1x1x128 .f32)
    (j : S512x128.Idx) : k0_pay20 z s b g j = lane s z b 5 (j 0) (j 1) * g (ix3 (0 : Fin 1) (0 : Fin 1) (j 1)) := by
  rw [← pay19_at]
  pointwise [k0_pay20]

theorem pay23_at (s : BitVec 1) (z : FVec Ideal S512x1024 .f32) (b : FVec Ideal S128x128 .bf16) (g : Vec Ideal S1x1x128 .f32)
    (j : S512x128.Idx) : k0_pay23 z s b g j = lane s z b 6 (j 0) (j 1) * g (ix3 (0 : Fin 1) (0 : Fin 1) (j 1)) := by
  rw [← pay22_at]
  pointwise [k0_pay23]

theorem pay9_at (s : BitVec 1) (z : FVec Ideal S512x1024 .f32) (b : FVec Ideal S128x128 .bf16) (g : Vec Ideal S1x1x128 .f32)
    (j : S512x128.Idx) : k0_pay9 z s b g j = lane s z b 1 (j 0) (j 1) * g (ix3 (0 : Fin 1) (0 : Fin 1) (j 1)) := by
  rw [← pay7_at]
  pointwise [k0_pay9]

theorem pay15_at (s : BitVec 1) (z : FVec Ideal S512x1024 .f32) (b : FVec Ideal S128x128 .bf16) (g : Vec Ideal S1x1x128 .f32)
    (j : S512x128.Idx) : k0_pay15 z s b g j = lane s z b 3 (j 0) (j 1) * g (ix3 (0 : Fin 1) (0 : Fin 1) (j 1)) := by
  rw [← pay13_at]
  pointwise [k0_pay15]

theorem pay18_at (s : BitVec 1) (z : FVec Ideal S512x1024 .f32) (b : FVec Ideal S128x128 .bf16) (g : Vec Ideal S1x1x128 .f32)
    (j : S512x128.Idx) : k0_pay18 z s b g j = lane s z b 4 (j 0) (j 1) * g (ix3 (0 : Fin 1) (0 : Fin 1) (j 1)) := by
  rw [← pay16_at]
  pointwise [k0_pay18]

theorem pay21_at (s : BitVec 1) (z : FVec Ideal S512x1024 .f32) (b : FVec Ideal S128x128 .bf16) (g : Vec Ideal S1x1x128 .f32)
    (j : S512x128.Idx) : k0_pay21 z s b g j = lane s z b 5 (j 0) (j 1) * g (ix3 (0 : Fin 1) (0 : Fin 1) (j 1)) := by
  rw [← pay19_at]
  pointwise [k0_pay21]

theorem pay24_at (s : BitVec 1) (z : FVec Ideal S512x1024 .f32) (b : FVec Ideal S128x128 .bf16) (g : Vec Ideal S1x1x128 .f32)
    (j : S512x128.Idx) : k0_pay24 z s b g j = lane s z b 6 (j 0) (j 1) * g (ix3 (0 : Fin 1) (0 : Fin 1) (j 1)) := by
  rw [← pay22_at]
  pointwise [k0_pay24]

theorem pay6_at (a : FVec Ideal S512x128 .f32) (g : Vec Ideal S1x1x128 .f32) (j : S512x128.Idx) :
    k0_pay6 a g j = a j * g (ix3 (0 : Fin 1) (0 : Fin 1) (j 1)) := by
  pointwise [k0_pay6]

theorem pay12_at (a : FVec Ideal S512x128 .f32) (g : Vec Ideal S1x1x128 .f32) (j : S512x128.Idx) :
    k0_pay12 a g j = a j * g (ix3 (0 : Fin 1) (0 : Fin 1) (j 1)) := by
  pointwise [k0_pay12]

/-- Eight runs side by side, read at an entry: run `l / 128`, lane `l % 128`. -/
theorem pay28_at (s : BitVec 1) (z : FVec Ideal S512x1024 .f32) (b : FVec Ideal S128x128 .bf16) (a0 a1 a2 a3 a4 a5 a6 : FVec Ideal S512x128 .f32)
    (g : Vec Ideal S1x1x128 .f32) (f : Fin 8 → Fin 512 → Fin 128 → EReal) (h0 : ∀ j, a0 j = f 0 (j 0) (j 1))
    (h1 : ∀ j, a1 j = f 1 (j 0) (j 1))
    (h2 : ∀ j, a2 j = f 2 (j 0) (j 1))
    (h3 : ∀ j, a3 j = f 3 (j 0) (j 1))
    (h4 : ∀ j, a4 j = f 4 (j 0) (j 1))
    (h5 : ∀ j, a5 j = f 5 (j 0) (j 1))
    (h6 : ∀ j, a6 j = f 6 (j 0) (j 1))
    (h7 : ∀ r l, lane s z b 7 r l * g (ix3 (0 : Fin 1) (0 : Fin 1) l) = f 7 r l) (r : Fin 512) (l : Fin 1024) :
    k0_pay28 s b a0 a1 a2 a3 a4 a5 a6 (k0_pay25 z) (k0_pay26 z) (constant S512x128 .f32 0x00000000#32) g (ix2 r l)
      = f ⟨l.val / 128, by omega⟩ r ⟨l.val % 128, by omega⟩ := by
  obtain ⟨l, hl⟩ := l
  pointwise [k0_pay28]
  simp only [h0, h1, h2, h3, h4, h5, h6, pay27_at]
  have key : ∀ (h h' : Fin 8) (l l' : Fin 128), h = h' → l = l' → f h r l = f h' r l' := fun _ _ _ _ e e' => by rw [e, e']
  split_ifs <;> first
    | (refine key _ _ _ _ (Fin.ext ?_) (Fin.ext ?_) <;> simp <;> omega)
    | (refine (h7 _ _).trans (key _ _ _ _ (Fin.ext ?_) (Fin.ext ?_)) <;> simp <;> omega)

/-- Eight runs side by side, read at an entry: run `l / 128`, lane `l % 128`. -/
theorem pay29_at (s : BitVec 1) (z : FVec Ideal S512x1024 .f32) (b : FVec Ideal S128x128 .bf16) (a0 a1 a2 a3 a4 a5 a6 : FVec Ideal S512x128 .bf16)
    (g : Vec Ideal S1x1x128 .f32) (f : Fin 8 → Fin 512 → Fin 128 → EReal) (h0 : ∀ j, a0 j = f 0 (j 0) (j 1))
    (h1 : ∀ j, a1 j = f 1 (j 0) (j 1))
    (h2 : ∀ j, a2 j = f 2 (j 0) (j 1))
    (h3 : ∀ j, a3 j = f 3 (j 0) (j 1))
    (h4 : ∀ j, a4 j = f 4 (j 0) (j 1))
    (h5 : ∀ j, a5 j = f 5 (j 0) (j 1))
    (h6 : ∀ j, a6 j = f 6 (j 0) (j 1))
    (h7 : ∀ r l, lane s z b 7 r l * g (ix3 (0 : Fin 1) (0 : Fin 1) l) = f 7 r l) (r : Fin 512) (l : Fin 1024) :
    k0_pay29 s b a0 a1 a2 a3 a4 a5 a6 (k0_pay25 z) (k0_pay26 z) (constant S512x128 .f32 0x00000000#32) g (ix2 r l)
      = f ⟨l.val / 128, by omega⟩ r ⟨l.val % 128, by omega⟩ := by
  obtain ⟨l, hl⟩ := l
  pointwise [k0_pay29]
  simp only [h0, h1, h2, h3, h4, h5, h6, pay27_at]
  have key : ∀ (h h' : Fin 8) (l l' : Fin 128), h = h' → l = l' → f h r l = f h' r l' := fun _ _ _ _ e e' => by rw [e, e']
  split_ifs <;> first
    | (refine key _ _ _ _ (Fin.ext ?_) (Fin.ext ?_) <;> simp <;> omega)
    | (refine (h7 _ _).trans (key _ _ _ _ (Fin.ext ?_) (Fin.ext ?_)) <;> simp <;> omega)

end Cert.ProjIdeal.Value

end
-- ==== Proof.ProjRef.lean ====
/-
  The projection's reference: its steps by name, and each result at an index.

  The rows are normalised, multiplied by the weight's 6144 columns and split in six parts of 1024 columns. In parts 0 and 1
  each run of 64 columns, in parts 3 and 4 each run of 128, is divided by its root mean square and multiplied by its gain;
  parts 2 and 5 stay as they are. The sixth result lays all six parts side by side, part 0 times 1/8 and part 3 times the
  f32 nearest to the reciprocal of the root of 128.
-/
module

public import proofs.«01_k».proof.Proof.Gen.ProjRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ProjRefIdeal.Value

open Cert.ProjRefIdeal Cert.ProjRefIdeal.Gen

/-! ## The steps -/

/-- The normalised rows times the weight. -/
def zV (x : FVec Ideal S2x8192x2048 .f32) (g : FVec Ideal S1x2048 .f32) (w : FVec Ideal S1x2048x6144 .f32) :
    FVec Ideal S2x8192x6144 .f32 :=
  Host.dotGeneral dot_S2x8192x2048_S2048x6144_S2x8192x6144_2_0_01_1_n_n none
    (mulf (mulf x (broadcastInDim S2x8192x2048 ![0, 1, 2] bcast_S2x8192x1_S2x8192x2048_0_1_2
      (Host.rsqrt (addf (Host.divf (broadcastInDim S2x8192x1 ![0, 1] bcast_S2x8192_S2x8192x1_0_1
          (Host.reduceAdd (mulf x x) (constant S_ .f32 0x00000000#32) reducesTo_S2x8192x2048_S2x8192_d2 h_S_))
        (broadcastInDim S2x8192x1 ![] bcast_S_S2x8192x1 (constant S_ .f32 0x45000000#32)))
        (broadcastInDim S2x8192x1 ![] bcast_S_S2x8192x1 (constant S_ .f32 0x358637BD#32))))))
      (broadcastInDim S2x8192x2048 ![0, 1, 2] bcast_S1x1x2048_S2x8192x2048_0_1_2
        (broadcastInDim S1x1x2048 ![2] bcast_S2048_S1x1x2048_2 (shapeCast _ g shapeCasts_S1x2048_S2048))))
    (shapeCast _ w shapeCasts_S1x2048x6144_S2048x6144)

/-- Runs of 64 over their root mean squares, times the gain, laid flat. -/
def n64 (p : FVec Ideal S2x8192x1024 .f32) (g : FVec Ideal S1x64 .f32) : FVec Ideal S16384x1024 .f32 :=
  shapeCast S16384x1024 (mulf (mulf (shapeCast S2x8192x8x2x64 p shapeCasts_S2x8192x1024_S2x8192x8x2x64)
      (broadcastInDim S2x8192x8x2x64 ![0, 1, 2, 3, 4] bcast_S2x8192x8x2x1_S2x8192x8x2x64_0_1_2_3_4
        (Host.rsqrt (addf (Host.divf (broadcastInDim S2x8192x8x2x1 ![0, 1, 2, 3] bcast_S2x8192x8x2_S2x8192x8x2x1_0_1_2_3
            (Host.reduceAdd (mulf (shapeCast S2x8192x8x2x64 p shapeCasts_S2x8192x1024_S2x8192x8x2x64)
                (shapeCast S2x8192x8x2x64 p shapeCasts_S2x8192x1024_S2x8192x8x2x64))
              (constant S_ .f32 0x00000000#32) reducesTo_S2x8192x8x2x64_S2x8192x8x2_d4 h_S_))
          (broadcastInDim S2x8192x8x2x1 ![] bcast_S_S2x8192x8x2x1 (constant S_ .f32 0x42800000#32)))
          (broadcastInDim S2x8192x8x2x1 ![] bcast_S_S2x8192x8x2x1 (constant S_ .f32 0x358637BD#32))))))
    (broadcastInDim S2x8192x8x2x64 ![0, 1, 2, 3, 4] bcast_S1x1x1x1x64_S2x8192x8x2x64_0_1_2_3_4
      (broadcastInDim S1x1x1x1x64 ![4] bcast_S64_S1x1x1x1x64_4 (shapeCast S64 g shapeCasts_S1x64_S64))))
    shapeCasts_S2x8192x8x2x64_S16384x1024

/-- Runs of 128 over their root mean squares, times the gain, laid flat. -/
def n128 (p : FVec Ideal S2x8192x1024 .f32) (g : FVec Ideal S1x128 .f32) : FVec Ideal S16384x1024 .f32 :=
  shapeCast S16384x1024 (mulf (mulf (shapeCast S2x8192x8x128 p shapeCasts_S2x8192x1024_S2x8192x8x128)
      (broadcastInDim S2x8192x8x128 ![0, 1, 2, 3] bcast_S2x8192x8x1_S2x8192x8x128_0_1_2_3
        (Host.rsqrt (addf (Host.divf (broadcastInDim S2x8192x8x1 ![0, 1, 2] bcast_S2x8192x8_S2x8192x8x1_0_1_2
            (Host.reduceAdd (mulf (shapeCast S2x8192x8x128 p shapeCasts_S2x8192x1024_S2x8192x8x128)
                (shapeCast S2x8192x8x128 p shapeCasts_S2x8192x1024_S2x8192x8x128))
              (constant S_ .f32 0x00000000#32) reducesTo_S2x8192x8x128_S2x8192x8_d3 h_S_))
          (broadcastInDim S2x8192x8x1 ![] bcast_S_S2x8192x8x1 (constant S_ .f32 0x43000000#32)))
          (broadcastInDim S2x8192x8x1 ![] bcast_S_S2x8192x8x1 (constant S_ .f32 0x358637BD#32))))))
    (broadcastInDim S2x8192x8x128 ![0, 1, 2, 3] bcast_S1x1x1x128_S2x8192x8x128_0_1_2_3
      (broadcastInDim S1x1x1x128 ![3] bcast_S128_S1x1x1x128_3 (shapeCast S128 g shapeCasts_S1x128_S128))))
    shapeCasts_S2x8192x8x128_S16384x1024

/-- A part laid flat. -/
def flat (p : FVec Ideal S2x8192x1024 .f32) : FVec Ideal S16384x1024 .f32 :=
  shapeCast S16384x1024 p shapeCasts_S2x8192x1024_S16384x1024

/-! The six parts of the product. -/

def part0 (z : FVec Ideal S2x8192x6144 .f32) : FVec Ideal S2x8192x1024 .f32 :=
  extractStridedSlice S2x8192x1024 ![0, 0, 0] z slices_S2x8192x6144_S2x8192x1024_0_0_0
def part1 (z : FVec Ideal S2x8192x6144 .f32) : FVec Ideal S2x8192x1024 .f32 :=
  extractStridedSlice S2x8192x1024 ![0, 0, 1024] z slices_S2x8192x6144_S2x8192x1024_0_0_1024
def part2 (z : FVec Ideal S2x8192x6144 .f32) : FVec Ideal S2x8192x1024 .f32 :=
  extractStridedSlice S2x8192x1024 ![0, 0, 2048] z slices_S2x8192x6144_S2x8192x1024_0_0_2048
def part3 (z : FVec Ideal S2x8192x6144 .f32) : FVec Ideal S2x8192x1024 .f32 :=
  extractStridedSlice S2x8192x1024 ![0, 0, 3072] z slices_S2x8192x6144_S2x8192x1024_0_0_3072
def part4 (z : FVec Ideal S2x8192x6144 .f32) : FVec Ideal S2x8192x1024 .f32 :=
  extractStridedSlice S2x8192x1024 ![0, 0, 4096] z slices_S2x8192x6144_S2x8192x1024_0_0_4096
def part5 (z : FVec Ideal S2x8192x6144 .f32) : FVec Ideal S2x8192x1024 .f32 :=
  extractStridedSlice S2x8192x1024 ![0, 0, 5120] z slices_S2x8192x6144_S2x8192x1024_0_0_5120

/-- All six parts side by side. -/
def side (a b c d e f : FVec Ideal S16384x1024 .f32) : FVec Ideal S16384x6144 .bf16 :=
  truncf .bf16 ((concatenate S16384x6144 1 [⟨S16384x1024, (mulf a (broadcastInDim S16384x1024 ![] bcast_S_S16384x1024 (constant S_ .f32 0x3E000000#32)))⟩,
    ⟨S16384x1024, b⟩, ⟨S16384x1024, c⟩,
    ⟨S16384x1024, (mulf d (broadcastInDim S16384x1024 ![] bcast_S_S16384x1024 (constant S_ .f32 0x3DB504F3#32)))⟩, ⟨S16384x1024, e⟩, ⟨S16384x1024, f⟩]
    concatenates_S16384x1024_S16384x1024_S16384x1024_S16384x1024_S16384x1024_S16384x1024_S16384x6144_d1 : FVec Ideal S16384x6144 .f32)) bitsLt_bf16_f32

variable (m : (ℓ : Loc nD τ sig) → Buf (Elt Ideal) ℓ) (c : Dev nD)

/-- The product, of the arguments. -/
def zA : FVec Ideal S2x8192x6144 .f32 :=
  zV (m ((c.tc : Thread nD τ).loc main_arg0)) (m ((c.tc : Thread nD τ).loc main_arg1)) (m ((c.tc : Thread nD τ).loc main_arg2))

/-! The reference's results, by these steps. -/

theorem res0_eq : res_out0 m c = n64 (part1 (zA m c)) (m ((c.tc : Thread nD τ).loc main_arg4)) := by
  unfold res_out0 res_main_v82; rfl

theorem res2_eq : res_out2 m c = n128 (part3 (zA m c)) (m ((c.tc : Thread nD τ).loc main_arg5)) := by
  unfold res_out2 res_main_v84; rfl

theorem res3_eq : res_out3 m c = n128 (part4 (zA m c)) (m ((c.tc : Thread nD τ).loc main_arg6)) := by
  unfold res_out3 res_main_v85; rfl

theorem res5_eq : res_out5 m c = side (n64 (part0 (zA m c)) (m ((c.tc : Thread nD τ).loc main_arg3)))
    (n64 (part1 (zA m c)) (m ((c.tc : Thread nD τ).loc main_arg4))) (flat (part2 (zA m c)))
    (n128 (part3 (zA m c)) (m ((c.tc : Thread nD τ).loc main_arg5)))
    (n128 (part4 (zA m c)) (m ((c.tc : Thread nD τ).loc main_arg6))) (flat (part5 (zA m c))) := by
  unfold res_out5 res_main_v93; rfl

/-! ## Each step at an index -/

/-- Entry `k` of row `q` of sequence `b`, normalised. -/
def xn (x : FVec Ideal S2x8192x2048 .f32) (g : FVec Ideal S1x2048 .f32) (b : Fin 2) (q : Fin 8192) (k : Fin 2048) : EReal :=
  x (ix3 b q k) * Ideal.rsqrt (Ideal.div (∑ i : Fin 2048, x (ix3 b q i) * x (ix3 b q i)) (Ideal.ofBits .f32 0x45000000#32)
    + Ideal.ofBits .f32 0x358637BD#32) * g (ix2 (0 : Fin 1) k)

theorem zV_at (x : FVec Ideal S2x8192x2048 .f32) (g : FVec Ideal S1x2048 .f32) (w : FVec Ideal S1x2048x6144 .f32)
    (b : Fin 2) (q : Fin 8192) (e : Fin 6144) :
    zV x g w (ix3 b q e) = ∑ k : Fin 2048, xn x g b q k * w (ix3 (0 : Fin 1) k e) := by
  unfold xn
  pointwise [zV]

theorem part0_at (z : FVec Ideal S2x8192x6144 .f32) (b : Fin 2) (q : Fin 8192) (l : Fin 1024) :
    part0 z (ix3 b q l) = z (ix3 b q (⟨0 + l.val, by omega⟩ : Fin 6144)) := by
  pointwise [part0]

theorem part1_at (z : FVec Ideal S2x8192x6144 .f32) (b : Fin 2) (q : Fin 8192) (l : Fin 1024) :
    part1 z (ix3 b q l) = z (ix3 b q (⟨1024 + l.val, by omega⟩ : Fin 6144)) := by
  pointwise [part1]

theorem part2_at (z : FVec Ideal S2x8192x6144 .f32) (b : Fin 2) (q : Fin 8192) (l : Fin 1024) :
    part2 z (ix3 b q l) = z (ix3 b q (⟨2048 + l.val, by omega⟩ : Fin 6144)) := by
  pointwise [part2]

theorem part3_at (z : FVec Ideal S2x8192x6144 .f32) (b : Fin 2) (q : Fin 8192) (l : Fin 1024) :
    part3 z (ix3 b q l) = z (ix3 b q (⟨3072 + l.val, by omega⟩ : Fin 6144)) := by
  pointwise [part3]

theorem part4_at (z : FVec Ideal S2x8192x6144 .f32) (b : Fin 2) (q : Fin 8192) (l : Fin 1024) :
    part4 z (ix3 b q l) = z (ix3 b q (⟨4096 + l.val, by omega⟩ : Fin 6144)) := by
  pointwise [part4]

theorem part5_at (z : FVec Ideal S2x8192x6144 .f32) (b : Fin 2) (q : Fin 8192) (l : Fin 1024) :
    part5 z (ix3 b q l) = z (ix3 b q (⟨5120 + l.val, by omega⟩ : Fin 6144)) := by
  pointwise [part5]

theorem n64_at (p : FVec Ideal S2x8192x1024 .f32) (g : FVec Ideal S1x64 .f32) (b : Fin 2) (q : Fin 8192) (l : Fin 1024)
    (j : S16384x1024.Idx) (h0 : (j 0).val = b.val * 8192 + q.val) (h1 : j 1 = l) :
    n64 p g j = p (ix3 b q l) * Ideal.rsqrt (Ideal.div (∑ i : Fin 64, p (ix3 b q (⟨64 * (l.val / 64) + i.val, by omega⟩ : Fin 1024))
        * p (ix3 b q (⟨64 * (l.val / 64) + i.val, by omega⟩ : Fin 1024))) (Ideal.ofBits .f32 0x42800000#32)
      + Ideal.ofBits .f32 0x358637BD#32) * g (ix2 (0 : Fin 1) (⟨l.val % 64, by omega⟩ : Fin 64)) := by
  pointwise [n64]
  subst h1
  have eb : ∀ h, (⟨(j 0).val / 8192, h⟩ : Fin 2) = b := fun _ => Fin.ext (by simp only; omega)
  have eq : ∀ h, (⟨(j 0).val % 8192, h⟩ : Fin 8192) = q := fun _ => Fin.ext (by simp only; omega)
  have es : ∀ (i : Fin 64) (h : _), (⟨(j 1).val / 128 * 128 + (j 1).val / 64 % 2 * 64 + i.val, h⟩ : Fin 1024)
      = ⟨64 * ((j 1).val / 64) + i.val, by have := (j 1).isLt; have := i.isLt; simp only [Matrix.cons_val] at *; omega⟩ := fun i _ => Fin.ext (by simp only; omega)
  simp only [eb, eq, es]

theorem n128_at (p : FVec Ideal S2x8192x1024 .f32) (g : FVec Ideal S1x128 .f32) (b : Fin 2) (q : Fin 8192) (l : Fin 1024)
    (j : S16384x1024.Idx) (h0 : (j 0).val = b.val * 8192 + q.val) (h1 : j 1 = l) :
    n128 p g j = p (ix3 b q l) * Ideal.rsqrt (Ideal.div (∑ i : Fin 128, p (ix3 b q (⟨128 * (l.val / 128) + i.val, by omega⟩ : Fin 1024))
        * p (ix3 b q (⟨128 * (l.val / 128) + i.val, by omega⟩ : Fin 1024))) (Ideal.ofBits .f32 0x43000000#32)
      + Ideal.ofBits .f32 0x358637BD#32) * g (ix2 (0 : Fin 1) (⟨l.val % 128, by omega⟩ : Fin 128)) := by
  pointwise [n128]
  subst h1
  have eb : ∀ h, (⟨(j 0).val / 8192, h⟩ : Fin 2) = b := fun _ => Fin.ext (by simp only; omega)
  have eq : ∀ h, (⟨(j 0).val % 8192, h⟩ : Fin 8192) = q := fun _ => Fin.ext (by simp only; omega)
  have es : ∀ (i : Fin 128) (h : _), (⟨(j 1).val / 128 * 128 + i.val, h⟩ : Fin 1024)
      = ⟨128 * ((j 1).val / 128) + i.val, by have := (j 1).isLt; have := i.isLt; simp only [Matrix.cons_val] at *; omega⟩ := fun i _ => Fin.ext (by simp only; omega)
  simp only [eb, eq, es]

theorem flat_at (p : FVec Ideal S2x8192x1024 .f32) (b : Fin 2) (q : Fin 8192) (l : Fin 1024)
    (j : S16384x1024.Idx) (h0 : (j 0).val = b.val * 8192 + q.val) (h1 : j 1 = l) : flat p j = p (ix3 b q l) := by
  pointwise [flat]
  subst h1
  have eb : ∀ h, (⟨(j 0).val / 8192, h⟩ : Fin 2) = b := fun _ => Fin.ext (by simp only; omega)
  have eq : ∀ h, (⟨(j 0).val % 8192, h⟩ : Fin 8192) = q := fun _ => Fin.ext (by simp only; omega)
  simp only [eb, eq]

theorem side0_at (a b c d e f : FVec Ideal S16384x1024 .f32) (j : S16384x6144.Idx) (l : Fin 1024) (h : (j 1).val = 0 + l.val) :
    side a b c d e f j = a (ix2 (j 0) l) * Ideal.ofBits .f32 0x3E000000#32 := by
  have hl := l.isLt
  pointwise [side]
  rw [dif_pos (by omega)]
  exact congrArg (fun i => a (ix2 (j 0) i) * Ideal.ofBits .f32 0x3E000000#32) (Fin.ext (by simp only; omega))

theorem side1_at (a b c d e f : FVec Ideal S16384x1024 .f32) (j : S16384x6144.Idx) (l : Fin 1024) (h : (j 1).val = 1024 + l.val) :
    side a b c d e f j = b (ix2 (j 0) l) := by
  have hl := l.isLt
  pointwise [side]
  rw [dif_neg (by omega), dif_pos (by omega)]
  exact congrArg (fun i => b (ix2 (j 0) i)) (Fin.ext (by simp only; omega))

theorem side2_at (a b c d e f : FVec Ideal S16384x1024 .f32) (j : S16384x6144.Idx) (l : Fin 1024) (h : (j 1).val = 2048 + l.val) :
    side a b c d e f j = c (ix2 (j 0) l) := by
  have hl := l.isLt
  pointwise [side]
  rw [dif_neg (by omega), dif_neg (by omega), dif_pos (by omega)]
  exact congrArg (fun i => c (ix2 (j 0) i)) (Fin.ext (by simp only; omega))

theorem side3_at (a b c d e f : FVec Ideal S16384x1024 .f32) (j : S16384x6144.Idx) (l : Fin 1024) (h : (j 1).val = 3072 + l.val) :
    side a b c d e f j = d (ix2 (j 0) l) * Ideal.ofBits .f32 0x3DB504F3#32 := by
  have hl := l.isLt
  pointwise [side]
  rw [dif_neg (by omega), dif_neg (by omega), dif_neg (by omega), dif_pos (by omega)]
  exact congrArg (fun i => d (ix2 (j 0) i) * Ideal.ofBits .f32 0x3DB504F3#32) (Fin.ext (by simp only; omega))

theorem side4_at (a b c d e f : FVec Ideal S16384x1024 .f32) (j : S16384x6144.Idx) (l : Fin 1024) (h : (j 1).val = 4096 + l.val) :
    side a b c d e f j = e (ix2 (j 0) l) := by
  have hl := l.isLt
  pointwise [side]
  rw [dif_neg (by omega), dif_neg (by omega), dif_neg (by omega), dif_neg (by omega), dif_pos (by omega)]
  exact congrArg (fun i => e (ix2 (j 0) i)) (Fin.ext (by simp only; omega))

theorem side5_at (a b c d e f : FVec Ideal S16384x1024 .f32) (j : S16384x6144.Idx) (l : Fin 1024) (h : (j 1).val = 5120 + l.val) :
    side a b c d e f j = f (ix2 (j 0) l) := by
  have hl := l.isLt
  pointwise [side]
  rw [dif_neg (by omega), dif_neg (by omega), dif_neg (by omega), dif_neg (by omega), dif_neg (by omega)]
  exact congrArg (fun i => f (ix2 (j 0) i)) (Fin.ext (by simp only; omega))

end Cert.ProjRefIdeal.Value

end
-- ==== Proof.ProjRows.lean ====
/-
  The projection kernel: its scratch holds, at every point of a row block, the block's normalised rows.
-/
module

public import proofs.«01_k».proof.Proof.ProjHost
public import proofs.«01_k».proof.Proof.ProjHead
public import proofs.«01_k».proof.Proof.ProjRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

/-- Which block of each output a grid point sees. -/
theorem idx' : ∀ t : Fin cfg0.N, win0_6.index t = ![t.val / 6, 0] ∧ win0_7.index t = ![t.val / 6, 0]
    ∧ win0_8.index t = ![t.val / 6, 0] ∧ win0_9.index t = ![t.val / 6, 0] ∧ win0_10.index t = ![t.val / 6, 0]
    ∧ win0_11.index t = ![t.val / 6, t.val % 6] :=
  (by decide +kernel : ∀ t : Fin grid0.N, _)

open Cert.ProjRefIdeal.Value (xn)

abbrev argX (c : Dev nD) : FVec Ideal Cert.ProjRefIdeal.S2x8192x2048 .f32 := m ((c : Thread nD τ).loc main_arg0)
abbrev argG (c : Dev nD) : FVec Ideal Cert.ProjRefIdeal.S1x2048 .f32 := m ((c : Thread nD τ).loc main_arg1)
abbrev argW (c : Dev nD) : FVec Ideal Cert.ProjRefIdeal.S1x2048x6144 .f32 := m ((c : Thread nD τ).loc main_arg2)

/-- The normalised rows of row block `i`. -/
def rows (c : Dev nD) (i : ℕ) : FVec Ideal S512x2048 .bf16 := fun j =>
  xn (argX m c) (argG m c) (⟨(512 * i + (j 0).val) / 8192 % 2, by omega⟩ : Fin 2) (⟨(512 * i + (j 0).val) % 8192, by omega⟩ : Fin 8192) (j 1)

/-- The first point of a row block computes the normalised rows. -/
theorem rows_first (c : Dev nD) (t : Fin cfg0.N) :
    k0_pay1 (F := Ideal) (iblk m c 0 t) (iblk m c 1 t) = rows m c (t.val / 6) := by
  funext j
  rw [pay1_at]
  obtain ⟨r, k, rfl⟩ : ∃ r k, j = ix2 r k := ⟨j 0, j 1, eq_ix2 j⟩
  have hx : ∀ k, iblk m c 0 t (ix2 r k) = argX m c (ix3 (⟨(512 * (t.val / 6) + r.val) / 8192 % 2, by omega⟩ : Fin 2)
      (⟨(512 * (t.val / 6) + r.val) % 8192, by omega⟩ : Fin 8192) k) := fun k => by
    rw [blk0, V_x, cast_x]
    have := lt_N t
    exact congrArg (fun b => argX m c (ix3 b _ k)) (Fin.ext (by simp only; omega))
  have hg : iblk m c 1 t (ix2 (0 : Fin 1) k) = argG m c (ix2 (0 : Fin 1) k) := by rw [blk1, V_g, cast_g]
  have key : ∀ (x : Vec Ideal S512x2048 .f32) (g : Vec Ideal S1x2048 .f32) (y : Fin 2048 → EReal) (v : EReal),
      (∀ k, x (ix2 r k) = y k) → g (ix2 (0 : Fin 1) k) = v →
      x (ix2 r k) * Ideal.rsqrt (Ideal.div (∑ i : Fin 2048, x (ix2 r i) * x (ix2 r i)) (Ideal.ofBits .f32 0x45000000#32)
        + Ideal.ofBits .f32 0x358637BD#32) * g (ix2 (0 : Fin 1) k)
      = y k * Ideal.rsqrt (Ideal.div (∑ i : Fin 2048, y i * y i) (Ideal.ofBits .f32 0x45000000#32)
        + Ideal.ofBits .f32 0x358637BD#32) * v := fun x g y v hy hv => by simp only [hy, hv]
  exact key _ _ _ _ hx hg

/-- The first point of a row block stores them in the scratch. -/
theorem scratch_first (c : Dev nD) (t : Fin cfg0.N) (h : t.val % 6 = 0) :
    (outsAt0 m c t.val t.isLt).2.2.2.2.2.2 = rows m c (t.val / 6) := by
  rw [outsAt0_A m c t h (by omega) (by omega) (by omega) (by omega) (by omega)]
  frame_out
  exact rows_first m c t

/-- The later points leave the scratch as it is. -/
theorem scratch_next (c : Dev nD) (t : Fin cfg0.N) (h : ¬ t.val % 6 = 0) :
    (outsAt0 m c t.val t.isLt).2.2.2.2.2.2 = (outsAt0 m c (t.val - 1) (by have := t.isLt; omega)).2.2.2.2.2.2 := by
  rcases (by omega : t.val % 6 = 1 ∨ t.val % 6 = 2 ∨ t.val % 6 = 3 ∨ t.val % 6 = 4 ∨ t.val % 6 = 5) with h1 | h1 | h1 | h1 | h1
  · rw [outsAt0_B m c t (by omega) (by omega) (by omega) (by omega) (by omega) (by omega)]
    rfl
  · rw [outsAt0_C m c t (by omega) (by omega) (by omega) (by omega) (by omega) (by omega)]
    rfl
  · rw [outsAt0_D m c t (by omega) (by omega) (by omega) (by omega) (by omega) (by omega)]
    rfl
  · rw [outsAt0_E m c t (by omega) (by omega) (by omega) (by omega) (by omega) (by omega)]
    rfl
  · rw [outsAt0_F m c t (by omega) (by omega) (by omega) (by omega) (by omega) (by omega)]
    rfl

/-- After any point the scratch holds its row block's normalised rows. -/
theorem scratch (c : Dev nD) : ∀ (n : ℕ) (hn : n < cfg0.N), (outsAt0 m c n hn).2.2.2.2.2.2 = rows m c (n / 6) := by
  intro n
  induction n with
  | zero => intro hn; exact scratch_first m c ⟨0, hn⟩ rfl
  | succ n ih =>
    intro hn
    by_cases h : (n + 1) % 6 = 0
    · exact scratch_first m c ⟨n + 1, hn⟩ h
    · rw [scratch_next m c ⟨n + 1, hn⟩ h]
      show (outsAt0 m c n _).2.2.2.2.2.2 = _
      rw [ih (by omega)]
      exact congrArg (rows m c) (by omega)

end Cert.ProjIdeal.Value

end
-- ==== Proof.ProjMean.lean ====
/-
  Averages of 128 numbers taken by multiplying with a fixed row: over each half, or over the whole.

  A kernel that wants the mean of 64 or 128 squares can take the sum of each square times 1/64 (or times zero
  outside the half) or 1/128. The squares are at least zero, so dividing the sum gives the same number, infinite
  entries included.
-/
module

public import proofs.«01_k».proof.Proof.Num
public import proofs.«01_k».proof.Proof.Tile

@[expose] public section

noncomputable section

open Idealize.ShloMosaic

namespace Cert.Mean

theorem c64 : Ideal.ofBits .f32 0x42800000#32 = ((64 : ℝ) : EReal) := by
  simp [Ideal.ofBits, Ideal.ieee, -EReal.coe_mul]; norm_num

theorem c128th : Ideal.ofBits .f32 0x3C000000#32 = ((128⁻¹ : ℝ) : EReal) := by
  simp [Ideal.ofBits, Ideal.ieee, -EReal.coe_mul]; norm_num

/-- A factor comes out of a sum of numbers that are at least zero. -/
theorem sum_mul {ι : Type} [Fintype ι] (f : ι → EReal) (hf : ∀ i, 0 ≤ f i) (c : EReal) : ∑ i, f i * c = (∑ i, f i) * c := by
  classical
  suffices H : ∀ s : Finset ι, ∑ i ∈ s, f i * c = (∑ i ∈ s, f i) * c from H Finset.univ
  intro s
  induction s using Finset.induction_on with
  | empty => simp
  | insert a s ha ih =>
    rw [Finset.sum_insert ha, Finset.sum_insert ha, ih,
      EReal.right_distrib_of_nonneg (hf a) (Finset.sum_nonneg fun i _ => hf i)]

theorem div_real (x : EReal) (d : ℝ) (hd : d ≠ 0) : Ideal.div x ((d : ℝ) : EReal) = x * ((d⁻¹ : ℝ) : EReal) := by
  have hd' : ((d : ℝ) : EReal) ≠ 0 := by exact_mod_cast hd
  rw [Ideal.div, if_neg hd', ← EReal.coe_inv]

/-- The mean of all 128. -/
theorem mean128 (f : Fin 128 → EReal) (hf : ∀ i, 0 ≤ f i) :
    ∑ k, f k * Ideal.ofBits .f32 0x3C000000#32 = Ideal.div (∑ k, f k) (Ideal.ofBits .f32 0x43000000#32) := by
  rw [sum_mul f hf, Cert.Num.c128, c128th, div_real _ _ (by norm_num)]

/-- The mean of the half that lane `l` lies in. -/
theorem mean64 (f : Fin 128 → EReal) (hf : ∀ i, 0 ≤ f i) (l : Fin 128) :
    ∑ k, f k * Ideal.div (if k.val / 64 = l.val / 64 then 1 else 0) (Ideal.ofBits .f32 0x42800000#32)
      = Ideal.div (∑ i : Fin 64, f (⟨64 * (l.val / 64) + i.val, by omega⟩ : Fin 128)) (Ideal.ofBits .f32 0x42800000#32) := by
  rw [c64]
  simp only [div_real _ _ (show (64 : ℝ) ≠ 0 by norm_num)]
  rw [Flash.sum_split]
  rcases (by omega : l.val / 64 = 0 ∨ l.val / 64 = 1) with h | h
  · have e : ∀ i : Fin 64, (64 + i.val) / 64 = 1 := fun i => by omega
    have e' : ∀ i : Fin 64, i.val / 64 = 0 := fun i => by omega
    simp only [h, e, e', if_true, if_false, one_mul, zero_mul, mul_zero, one_ne_zero, Finset.sum_const_zero, add_zero]
    rw [sum_mul _ fun i => hf _]
    simp only [mul_zero, zero_add]
  · have e : ∀ i : Fin 64, (64 + i.val) / 64 = 1 := fun i => by omega
    have e' : ∀ i : Fin 64, i.val / 64 = 0 := fun i => by omega
    simp only [h, e, e', if_true, if_false, one_mul, zero_mul, mul_zero, zero_ne_one, Finset.sum_const_zero, zero_add]
    rw [sum_mul _ fun i => hf _]

end Cert.Mean

end
-- ==== Proof.ProjBlock.lean ====
/-
  The projection kernel: one column block's product, its runs of 128 over their root mean squares, and the part of
  the reference's result it equals.
-/
module

public import proofs.«01_k».proof.Proof.ProjRows
public import proofs.«01_k».proof.Proof.ProjMean
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen
open Cert.ProjRefIdeal.Value (zV zV_at n64 n128 flat part0 part1 part2 part3 part4 part5 n64_at n128_at flat_at part0_at part1_at
  part2_at part3_at part4_at part5_at)

/-! ### One lane of one run -/

/-- A run averaged over its halves is the reference's norm over 64 lanes. -/
theorem unit64 (p : FVec Ideal Cert.ProjRefIdeal.S2x8192x1024 .f32) (g : FVec Ideal Cert.ProjRefIdeal.S1x64 .f32) (b : Fin 2) (q : Fin 8192)
    (z : FVec Ideal S512x1024 .f32) (B : FVec Ideal S128x128 .bf16) (r : Fin 512) (hz : ∀ l : Fin 1024, z (ix2 r l) = p (ix3 b q l))
    (hB : ∀ k l : Fin 128, B (ix2 k l) = Ideal.div (if k.val / 64 = l.val / 64 then 1 else 0) (Ideal.ofBits .f32 0x42800000#32))
    (h : Fin 8) (l : Fin 128) (j : Cert.ProjRefIdeal.S16384x1024.Idx) (h0 : (j 0).val = b.val * 8192 + q.val)
    (h1 : (j 1).val = 128 * h.val + l.val) :
    lane 0#1 z B h r l * g (ix2 (0 : Fin 1) (⟨l.val % 64, by omega⟩ : Fin 64)) = n64 p g j := by
  rw [n64_at p g b q (⟨128 * h.val + l.val, by omega⟩ : Fin 1024) j h0 (Fin.ext h1)]
  unfold lane
  rw [if_neg (by decide)]
  simp only [hz, hB]
  rw [Cert.Mean.mean64 (fun k : Fin 128 => p (ix3 b q (⟨128 * h.val + k.val, by omega⟩ : Fin 1024))
    * p (ix3 b q (⟨128 * h.val + k.val, by omega⟩ : Fin 1024))) (fun k => Cert.Flash.mul_self_nonneg' _) l]
  have e : ∀ i : Fin 64, (⟨128 * h.val + (64 * (l.val / 64) + i.val), by omega⟩ : Fin 1024)
      = ⟨64 * ((128 * h.val + l.val) / 64) + i.val, by omega⟩ := fun i => Fin.ext (by simp only; omega)
  have e' : (⟨l.val % 64, by omega⟩ : Fin 64) = ⟨(128 * h.val + l.val) % 64, by omega⟩ := Fin.ext (by simp only; omega)
  simp only [e, e']

/-- A run averaged over all of it is the reference's norm over 128 lanes. -/
theorem unit128 (p : FVec Ideal Cert.ProjRefIdeal.S2x8192x1024 .f32) (g : FVec Ideal Cert.ProjRefIdeal.S1x128 .f32) (b : Fin 2) (q : Fin 8192)
    (z : FVec Ideal S512x1024 .f32) (B : FVec Ideal S128x128 .bf16) (r : Fin 512) (hz : ∀ l : Fin 1024, z (ix2 r l) = p (ix3 b q l))
    (hB : ∀ k l : Fin 128, B (ix2 k l) = Ideal.ofBits .f32 0x3C000000#32)
    (h : Fin 8) (l : Fin 128) (j : Cert.ProjRefIdeal.S16384x1024.Idx) (h0 : (j 0).val = b.val * 8192 + q.val)
    (h1 : (j 1).val = 128 * h.val + l.val) :
    lane 0#1 z B h r l * g (ix2 (0 : Fin 1) l) = n128 p g j := by
  rw [n128_at p g b q (⟨128 * h.val + l.val, by omega⟩ : Fin 1024) j h0 (Fin.ext h1)]
  unfold lane
  rw [if_neg (by decide)]
  simp only [hz, hB]
  rw [Cert.Mean.mean128 (fun k : Fin 128 => p (ix3 b q (⟨128 * h.val + k.val, by omega⟩ : Fin 1024))
    * p (ix3 b q (⟨128 * h.val + k.val, by omega⟩ : Fin 1024))) (fun k => Cert.Flash.mul_self_nonneg' _)]
  have e : ∀ i : Fin 128, (⟨128 * h.val + i.val, by omega⟩ : Fin 1024)
      = ⟨128 * ((128 * h.val + l.val) / 128) + i.val, by omega⟩ := fun i => Fin.ext (by simp only; omega)
  have e' : l = ⟨(128 * h.val + l.val) % 128, by omega⟩ := Fin.ext (by simp only; omega)
  simp only [← e, ← e']

/-- A run left as it is. -/
theorem unitPlain (p : FVec Ideal Cert.ProjRefIdeal.S2x8192x1024 .f32) (b : Fin 2) (q : Fin 8192)
    (z : FVec Ideal S512x1024 .f32) (B : FVec Ideal S128x128 .bf16) (r : Fin 512) (hz : ∀ l : Fin 1024, z (ix2 r l) = p (ix3 b q l))
    (h : Fin 8) (l : Fin 128) (j : Cert.ProjRefIdeal.S16384x1024.Idx) (h0 : (j 0).val = b.val * 8192 + q.val)
    (h1 : (j 1).val = 128 * h.val + l.val) : lane 1#1 z B h r l * 1 = flat p j := by
  rw [flat_at p b q (⟨128 * h.val + l.val, by omega⟩ : Fin 1024) j h0 (Fin.ext h1)]
  unfold lane
  rw [if_pos rfl, mul_one, mul_one, hz]

/-! ### One grid point -/

variable (m : (ℓ : Loc nD τ sig) → Buf (Elt Ideal) ℓ)

abbrev arg3 (c : Dev nD) : FVec Ideal Cert.ProjRefIdeal.S1x64 .f32 := m ((c : Thread nD τ).loc main_arg3)
abbrev arg4 (c : Dev nD) : FVec Ideal Cert.ProjRefIdeal.S1x64 .f32 := m ((c : Thread nD τ).loc main_arg4)
abbrev arg5 (c : Dev nD) : FVec Ideal Cert.ProjRefIdeal.S1x128 .f32 := m ((c : Thread nD τ).loc main_arg5)
abbrev arg6 (c : Dev nD) : FVec Ideal Cert.ProjRefIdeal.S1x128 .f32 := m ((c : Thread nD τ).loc main_arg6)

/-- The reference's whole product. -/
def prod (c : Dev nD) : FVec Ideal Cert.ProjRefIdeal.S2x8192x6144 .f32 := zV (argX m c) (argG m c) (argW m c)

/-- The six parts of the reference's result. -/
def part (c : Dev nD) (n : ℕ) : FVec Ideal Cert.ProjRefIdeal.S16384x1024 .f32 :=
  match n with
  | 0 => n64 (part0 (prod m c)) (arg3 m c)
  | 1 => n64 (part1 (prod m c)) (arg4 m c)
  | 2 => flat (part2 (prod m c))
  | 3 => n128 (part3 (prod m c)) (arg5 m c)
  | 4 => n128 (part4 (prod m c)) (arg6 m c)
  | _ => flat (part5 (prod m c))

/-- The kernel's product at point `t`. -/
def block (c : Dev nD) (t : Fin cfg0.N) : FVec Ideal S512x1024 .f32 := k0_pay2 (rows m c (t.val / 6)) (iblk m c 2 t)

/-- The kernel's product at a point, read at an entry. -/
theorem block_at (c : Dev nD) (t : Fin cfg0.N) (r : Fin 512) (l : Fin 1024) : block m c t (ix2 r l)
    = prod m c (ix3 (⟨(512 * (t.val / 6) + r.val) / 8192 % 2, by omega⟩ : Fin 2) (⟨(512 * (t.val / 6) + r.val) % 8192, by omega⟩ : Fin 8192)
        (⟨1024 * (t.val % 6) + l.val, by omega⟩ : Fin 6144)) := by
  unfold block prod
  rw [pay2_at, zV_at]
  refine Finset.sum_congr rfl fun k _ => congrArg₂ (· * ·) rfl ?_
  show iblk m c 2 t (ix2 k l) = _
  rw [blk2, V_w, cast_w]

/-- The averaging matrix at point `t`. -/
def avg (c : Dev nD) (t : Fin cfg0.N) : FVec Ideal S128x128 .bf16 := k0_pay3 (iblk m c 5 t)

/-- The averaging matrix at a point, read at an entry. -/
theorem avg_at (c : Dev nD) (t : Fin cfg0.N) (k l : Fin 128) :
    avg m c t (ix2 k l) = means (ix3 (⟨t.val % 6 / 3, by omega⟩ : Fin 2) k l) := by
  unfold avg
  rw [pay3_at]
  show iblk m c 5 t (ix3 (0 : Fin 1) k l) = _
  rw [blk5, V_means]

/-- A lane of a run, times its gain, is the reference's entry of the point's column block. -/
theorem point (c : Dev nD) (t : Fin cfg0.N) (h : Fin 8) (r : Fin 512) (l : Fin 128) :
    lane (plainBlock (grid0.coords t)) (block m c t) (avg m c t) h r l
        * gains (arg3 m c) (arg4 m c) (arg5 m c) (arg6 m c) (ix3 (⟨t.val % 6, by omega⟩ : Fin 6) (0 : Fin 1) l)
      = part m c (t.val % 6) (ix2 (⟨512 * (t.val / 6) + r.val, by have := lt_N t; omega⟩ : Fin 16384)
          (⟨128 * h.val + l.val, by omega⟩ : Fin 1024)) := by
  have ht := lt_N t
  rw [plainBlock_eq]
  have e0 : (512 * (t.val / 6) + r.val) = (512 * (t.val / 6) + r.val) / 8192 % 2 * 8192 + (512 * (t.val / 6) + r.val) % 8192 := by omega
  have hm : ∀ n, t.val % 6 = n → n < 6 → t.val % 6 / 3 = n / 3 := fun n e _ => by rw [e]
  rcases (by omega : t.val % 6 = 0 ∨ t.val % 6 = 1 ∨ t.val % 6 = 2 ∨ t.val % 6 = 3 ∨ t.val % 6 = 4 ∨ t.val % 6 = 5)
    with n | n | n | n | n | n
  · have ef : (⟨t.val % 6, by omega⟩ : Fin 6) = 0 := Fin.ext n
    have ea : (⟨t.val % 6 / 3, by omega⟩ : Fin 2) = 0 := Fin.ext (by simp only [n]; rfl)
    rw [if_neg (by omega), ef, gains_0, n]
    refine unit64 _ _ ⟨(512 * (t.val / 6) + r.val) / 8192 % 2, by omega⟩ ⟨(512 * (t.val / 6) + r.val) % 8192, by omega⟩ _ _ r (fun l => ?_) (fun k l => ?_) h l _ e0 rfl
    · rw [block_at, part0_at]; simp only [n]
    · rw [avg_at, ea, means_0]
  · have ef : (⟨t.val % 6, by omega⟩ : Fin 6) = 1 := Fin.ext n
    have ea : (⟨t.val % 6 / 3, by omega⟩ : Fin 2) = 0 := Fin.ext (by simp only [n]; rfl)
    rw [if_neg (by omega), ef, gains_1, n]
    refine unit64 _ _ ⟨(512 * (t.val / 6) + r.val) / 8192 % 2, by omega⟩ ⟨(512 * (t.val / 6) + r.val) % 8192, by omega⟩ _ _ r (fun l => ?_) (fun k l => ?_) h l _ e0 rfl
    · rw [block_at, part1_at]; simp only [n]
    · rw [avg_at, ea, means_0]
  · have ef : (⟨t.val % 6, by omega⟩ : Fin 6) = 2 := Fin.ext n
    rw [if_pos (by omega), ef, gains_2, n]
    refine unitPlain _ ⟨(512 * (t.val / 6) + r.val) / 8192 % 2, by omega⟩ ⟨(512 * (t.val / 6) + r.val) % 8192, by omega⟩ _ _ r (fun l => ?_) h l _ e0 rfl
    rw [block_at, part2_at]; simp only [n]
  · have ef : (⟨t.val % 6, by omega⟩ : Fin 6) = 3 := Fin.ext n
    have ea : (⟨t.val % 6 / 3, by omega⟩ : Fin 2) = 1 := Fin.ext (by simp only [n]; rfl)
    rw [if_neg (by omega), ef, gains_3, n]
    refine unit128 _ _ ⟨(512 * (t.val / 6) + r.val) / 8192 % 2, by omega⟩ ⟨(512 * (t.val / 6) + r.val) % 8192, by omega⟩ _ _ r (fun l => ?_) (fun k l => ?_) h l _ e0 rfl
    · rw [block_at, part3_at]; simp only [n]
    · rw [avg_at, ea, means_1]
  · have ef : (⟨t.val % 6, by omega⟩ : Fin 6) = 4 := Fin.ext n
    have ea : (⟨t.val % 6 / 3, by omega⟩ : Fin 2) = 1 := Fin.ext (by simp only [n]; rfl)
    rw [if_neg (by omega), ef, gains_4, n]
    refine unit128 _ _ ⟨(512 * (t.val / 6) + r.val) / 8192 % 2, by omega⟩ ⟨(512 * (t.val / 6) + r.val) % 8192, by omega⟩ _ _ r (fun l => ?_) (fun k l => ?_) h l _ e0 rfl
    · rw [block_at, part4_at]; simp only [n]
    · rw [avg_at, ea, means_1]
  · have ef : (⟨t.val % 6, by omega⟩ : Fin 6) = 5 := Fin.ext n
    rw [if_pos (by omega), ef, gains_5, n]
    refine unitPlain _ ⟨(512 * (t.val / 6) + r.val) / 8192 % 2, by omega⟩ ⟨(512 * (t.val / 6) + r.val) % 8192, by omega⟩ _ _ r (fun l => ?_) h l _ e0 rfl
    rw [block_at, part5_at]; simp only [n]

/-- A lane times the gain the kernel reads. -/
theorem point_gain (c : Dev nD) (t : Fin cfg0.N) (h : Fin 8) (r : Fin 512) (l : Fin 128) :
    lane (plainBlock (grid0.coords t)) (block m c t) (avg m c t) h r l * (show Vec Ideal S1x1x128 .f32 from iblk m c 3 t) (ix3 (0 : Fin 1) (0 : Fin 1) l)
      = part m c (t.val % 6) (ix2 (⟨512 * (t.val / 6) + r.val, by have := lt_N t; omega⟩ : Fin 16384)
          (⟨128 * h.val + l.val, by omega⟩ : Fin 1024)) := by
  rw [← point m c t h r l]
  refine congrArg₂ (· * ·) rfl ?_
  show iblk m c 3 t (ix3 (0 : Fin 1) (0 : Fin 1) l) = _
  rw [blk3, V_gains]

/-- A lane times the scaled gain the kernel reads. -/
theorem point_scaled (c : Dev nD) (t : Fin cfg0.N) (h : Fin 8) (r : Fin 512) (l : Fin 128) :
    lane (plainBlock (grid0.coords t)) (block m c t) (avg m c t) h r l * (show Vec Ideal S1x1x128 .f32 from iblk m c 4 t) (ix3 (0 : Fin 1) (0 : Fin 1) l)
      = part m c (t.val % 6) (ix2 (⟨512 * (t.val / 6) + r.val, by have := lt_N t; omega⟩ : Fin 16384)
          (⟨128 * h.val + l.val, by omega⟩ : Fin 1024)) * scale ⟨t.val % 6, by omega⟩ := by
  rw [← point m c t h r l, mul_assoc]
  refine congrArg₂ (· * ·) rfl ?_
  show iblk m c 4 t (ix3 (0 : Fin 1) (0 : Fin 1) l) = _
  rw [blk4, V_scaled]
  show _ * scales _ = _
  rw [scales_at]

end Cert.ProjIdeal.Value

end
-- ==== Proof.ProjStore.lean ====
/-
  The projection kernel: what each grid point stores.
-/
module

public import proofs.«01_k».proof.Proof.ProjBlock
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen
open Cert.ProjIdeal Cert.ProjIdeal.Gen

variable (m : (ℓ : Loc nD τ sig) → Buf (Elt Ideal) ℓ)

/-- The row of the whole array that row `r` of point `t` is. -/
def rowOf (t : Fin cfg0.N) (r : Fin 512) : Fin 16384 := ⟨512 * (t.val / 6) + r.val, by have := lt_N t; omega⟩

/-- Eight runs, each times the gain: what the kernel stores as one column block. -/
def stored (i : grid0.Coords) (x : Vec Ideal S512x2048 .bf16) (w : Vec Ideal S2048x1024 .bf16) (b : Vec Ideal S1x128x128 .bf16)
    (g : Vec Ideal S1x1x128 .f32) : FVec Ideal S512x1024 .f32 :=
  k0_pay28 (plainBlock i) (k0_pay3 b) (k0_pay5 i x w b g) (k0_pay8 (k0_pay2 x w) (plainBlock i) (k0_pay3 b) g)
    (k0_pay11 (k0_pay2 x w) (plainBlock i) (k0_pay3 b) g) (k0_pay14 (k0_pay2 x w) (plainBlock i) (k0_pay3 b) g)
    (k0_pay17 (k0_pay2 x w) (plainBlock i) (k0_pay3 b) g) (k0_pay20 (k0_pay2 x w) (plainBlock i) (k0_pay3 b) g)
    (k0_pay23 (k0_pay2 x w) (plainBlock i) (k0_pay3 b) g) (k0_pay25 (k0_pay2 x w)) (k0_pay26 (k0_pay2 x w))
    (constant S512x128 .f32 0x00000000#32) g

/-- Eight runs, each times the scaled gain: the same block in the array that holds all six. -/
def storedAll (i : grid0.Coords) (x : Vec Ideal S512x2048 .bf16) (w : Vec Ideal S2048x1024 .bf16) (b : Vec Ideal S1x128x128 .bf16)
    (g : Vec Ideal S1x1x128 .f32) : FVec Ideal S512x1024 .bf16 :=
  k0_pay29 (plainBlock i) (k0_pay3 b) (k0_pay6 (k0_pay4 i x w b) g) (k0_pay9 (k0_pay2 x w) (plainBlock i) (k0_pay3 b) g)
    (k0_pay12 (k0_pay10 (k0_pay2 x w) (plainBlock i) (k0_pay3 b)) g) (k0_pay15 (k0_pay2 x w) (plainBlock i) (k0_pay3 b) g)
    (k0_pay18 (k0_pay2 x w) (plainBlock i) (k0_pay3 b) g) (k0_pay21 (k0_pay2 x w) (plainBlock i) (k0_pay3 b) g)
    (k0_pay24 (k0_pay2 x w) (plainBlock i) (k0_pay3 b) g) (k0_pay25 (k0_pay2 x w)) (k0_pay26 (k0_pay2 x w))
    (constant S512x128 .f32 0x00000000#32) g

/-- A stored column block is the reference's part at the block's rows. -/
theorem stored_at (c : Dev nD) (t : Fin cfg0.N) (j : S512x1024.Idx) :
    stored (grid0.coords t) (rows m c (t.val / 6)) (iblk m c 2 t) (iblk m c 5 t) (iblk m c 3 t) j
      = part m c (t.val % 6) (ix2 (rowOf t (j 0)) (j 1)) := by
  obtain ⟨r, l, rfl⟩ : ∃ r l, j = ix2 r l := ⟨j 0, j 1, eq_ix2 j⟩
  unfold stored
  have key : ∀ (h : Fin 8) (r : Fin 512) (l : Fin 128), _ = _ := fun h r l => point_gain m c t h r l
  refine (pay28_at (plainBlock (grid0.coords t)) (block m c t) (avg m c t) _ _ _ _ _ _ _ (iblk m c 3 t)
    (fun h r l => part m c (t.val % 6) (ix2 (rowOf t r) (⟨128 * h.val + l.val, by omega⟩ : Fin 1024)))
    (fun j => (pay5_at _ _ _ _ _ j).trans (key 0 (j 0) (j 1)))
    (fun j => (pay8_at _ _ _ _ j).trans (key 1 (j 0) (j 1)))
    (fun j => (pay11_at _ _ _ _ j).trans (key 2 (j 0) (j 1)))
    (fun j => (pay14_at _ _ _ _ j).trans (key 3 (j 0) (j 1)))
    (fun j => (pay17_at _ _ _ _ j).trans (key 4 (j 0) (j 1)))
    (fun j => (pay20_at _ _ _ _ j).trans (key 5 (j 0) (j 1)))
    (fun j => (pay23_at _ _ _ _ j).trans (key 6 (j 0) (j 1)))
    (fun r l => key 7 r l) r l).trans ?_
  exact congrArg (fun l => part m c (t.val % 6) (ix2 (rowOf t r) l)) (Fin.ext (by show 128 * (l.val / 128) + l.val % 128 = l.val; omega))

/-- So is the block in the array that holds all six, times its scale. -/
theorem storedAll_at (c : Dev nD) (t : Fin cfg0.N) (j : S512x1024.Idx) :
    storedAll (grid0.coords t) (rows m c (t.val / 6)) (iblk m c 2 t) (iblk m c 5 t) (iblk m c 4 t) j
      = part m c (t.val % 6) (ix2 (rowOf t (j 0)) (j 1)) * scale ⟨t.val % 6, by omega⟩ := by
  obtain ⟨r, l, rfl⟩ : ∃ r l, j = ix2 r l := ⟨j 0, j 1, eq_ix2 j⟩
  unfold storedAll
  have key : ∀ (h : Fin 8) (r : Fin 512) (l : Fin 128), _ = _ := fun h r l => point_scaled m c t h r l
  refine (pay29_at (plainBlock (grid0.coords t)) (block m c t) (avg m c t) _ _ _ _ _ _ _ (iblk m c 4 t)
    (fun h r l => part m c (t.val % 6) (ix2 (rowOf t r) (⟨128 * h.val + l.val, by omega⟩ : Fin 1024)) * scale ⟨t.val % 6, by omega⟩)
    (fun j => (pay6_at _ _ j).trans ((congrArg (· * _) (pay4_at _ _ _ _ j)).trans (key 0 (j 0) (j 1))))
    (fun j => (pay9_at _ _ _ _ j).trans (key 1 (j 0) (j 1)))
    (fun j => (pay12_at _ _ j).trans ((congrArg (· * _) (pay10_at _ _ _ j)).trans (key 2 (j 0) (j 1))))
    (fun j => (pay15_at _ _ _ _ j).trans (key 3 (j 0) (j 1)))
    (fun j => (pay18_at _ _ _ _ j).trans (key 4 (j 0) (j 1)))
    (fun j => (pay21_at _ _ _ _ j).trans (key 5 (j 0) (j 1)))
    (fun j => (pay24_at _ _ _ _ j).trans (key 6 (j 0) (j 1)))
    (fun r l => key 7 r l) r l).trans ?_
  exact congrArg (fun l => part m c (t.val % 6) (ix2 (rowOf t r) l) * scale ⟨t.val % 6, by omega⟩) (Fin.ext (by show 128 * (l.val / 128) + l.val % 128 = l.val; omega))

/-- The rows a later point of a row block reads back are those its first point left. -/
theorem read_scratch (c : Dev nD) (t : Fin cfg0.N) (h : ¬ t.val % 6 = 0) (hw : (Memref.whole cc0_scratch0).IsWhole)
    (hlt : t.val - 1 < cfg0.N) :
    View.read (Elt Ideal) (View.whole cc0_scratch0) (hw.unread (outsAt0 m c (t.val - 1) hlt).2.2.2.2.2.2) = rows m c (t.val / 6) := by
  refine (Memref.IsWhole.read_unread hw _).trans ?_
  rw [scratch]
  exact congrArg (rows m c) (by omega)

/-! What each point leaves in the output it stores into. -/

theorem after_B (c : Dev nD) (t : Fin cfg0.N) (h : t.val % 6 = 1) : (outsAt0 m c t.val t.isLt).1
    = stored (grid0.coords t) (rows m c (t.val / 6)) (iblk m c 2 t) (iblk m c 5 t) (iblk m c 3 t) := by
  rw [outsAt0_B m c t (by omega) (by omega) (by omega) (by omega) (by omega) (by omega)]
  frame_out
  rw [read_scratch m c t (by omega)]
  rfl

theorem after_C (c : Dev nD) (t : Fin cfg0.N) (h : t.val % 6 = 2) : (outsAt0 m c t.val t.isLt).2.1
    = stored (grid0.coords t) (rows m c (t.val / 6)) (iblk m c 2 t) (iblk m c 5 t) (iblk m c 3 t) := by
  rw [outsAt0_C m c t (by omega) (by omega) (by omega) (by omega) (by omega) (by omega)]
  frame_out
  rw [read_scratch m c t (by omega)]
  rfl

theorem after_D (c : Dev nD) (t : Fin cfg0.N) (h : t.val % 6 = 3) : (outsAt0 m c t.val t.isLt).2.2.1
    = stored (grid0.coords t) (rows m c (t.val / 6)) (iblk m c 2 t) (iblk m c 5 t) (iblk m c 3 t) := by
  rw [outsAt0_D m c t (by omega) (by omega) (by omega) (by omega) (by omega) (by omega)]
  frame_out
  rw [read_scratch m c t (by omega)]
  rfl

theorem after_E (c : Dev nD) (t : Fin cfg0.N) (h : t.val % 6 = 4) : (outsAt0 m c t.val t.isLt).2.2.2.1
    = stored (grid0.coords t) (rows m c (t.val / 6)) (iblk m c 2 t) (iblk m c 5 t) (iblk m c 3 t) := by
  rw [outsAt0_E m c t (by omega) (by omega) (by omega) (by omega) (by omega) (by omega)]
  frame_out
  rw [read_scratch m c t (by omega)]
  rfl

theorem after_F (c : Dev nD) (t : Fin cfg0.N) (h : t.val % 6 = 5) : (outsAt0 m c t.val t.isLt).2.2.2.2.1
    = stored (grid0.coords t) (rows m c (t.val / 6)) (iblk m c 2 t) (iblk m c 5 t) (iblk m c 3 t) := by
  rw [outsAt0_F m c t (by omega) (by omega) (by omega) (by omega) (by omega) (by omega)]
  frame_out
  rw [read_scratch m c t (by omega)]
  rfl

theorem after_all (c : Dev nD) (t : Fin cfg0.N) : (outsAt0 m c t.val t.isLt).2.2.2.2.2.1
    = storedAll (grid0.coords t) (rows m c (t.val / 6)) (iblk m c 2 t) (iblk m c 5 t) (iblk m c 4 t) := by
  rcases (by omega : t.val % 6 = 0 ∨ t.val % 6 = 1 ∨ t.val % 6 = 2 ∨ t.val % 6 = 3 ∨ t.val % 6 = 4 ∨ t.val % 6 = 5)
    with h | h | h | h | h | h
  · rw [outsAt0_A m c t (by omega) (by omega) (by omega) (by omega) (by omega) (by omega)]
    frame_out
    rw [← rows_first m c t]
    rfl
  · rw [outsAt0_B m c t (by omega) (by omega) (by omega) (by omega) (by omega) (by omega)]
    frame_out
    rw [read_scratch m c t (by omega)]
    rfl
  · rw [outsAt0_C m c t (by omega) (by omega) (by omega) (by omega) (by omega) (by omega)]
    frame_out
    rw [read_scratch m c t (by omega)]
    rfl
  · rw [outsAt0_D m c t (by omega) (by omega) (by omega) (by omega) (by omega) (by omega)]
    frame_out
    rw [read_scratch m c t (by omega)]
    rfl
  · rw [outsAt0_E m c t (by omega) (by omega) (by omega) (by omega) (by omega) (by omega)]
    frame_out
    rw [read_scratch m c t (by omega)]
    rfl
  · rw [outsAt0_F m c t (by omega) (by omega) (by omega) (by omega) (by omega) (by omega)]
    frame_out
    rw [read_scratch m c t (by omega)]
    rfl

/-! A block stored at one point of a row block is carried to the row block's last point. -/

theorem carry_B (c : Dev nD) (t : Fin cfg0.N) (h : 2 ≤ t.val % 6) :
    (outsAt0 m c t.val t.isLt).1 = (outsAt0 m c (t.val - 1) (by have := t.isLt; omega)).1 := by
  rcases (by omega : t.val % 6 = 2 ∨ t.val % 6 = 3 ∨ t.val % 6 = 4 ∨ t.val % 6 = 5) with h | h | h | h
  · rw [outsAt0_C m c t (by omega) (by omega) (by omega) (by omega) (by omega) (by omega)]; rfl
  · rw [outsAt0_D m c t (by omega) (by omega) (by omega) (by omega) (by omega) (by omega)]; rfl
  · rw [outsAt0_E m c t (by omega) (by omega) (by omega) (by omega) (by omega) (by omega)]; rfl
  · rw [outsAt0_F m c t (by omega) (by omega) (by omega) (by omega) (by omega) (by omega)]; rfl

theorem carry_C (c : Dev nD) (t : Fin cfg0.N) (h : 3 ≤ t.val % 6) :
    (outsAt0 m c t.val t.isLt).2.1 = (outsAt0 m c (t.val - 1) (by have := t.isLt; omega)).2.1 := by
  rcases (by omega : t.val % 6 = 3 ∨ t.val % 6 = 4 ∨ t.val % 6 = 5) with h | h | h
  · rw [outsAt0_D m c t (by omega) (by omega) (by omega) (by omega) (by omega) (by omega)]; rfl
  · rw [outsAt0_E m c t (by omega) (by omega) (by omega) (by omega) (by omega) (by omega)]; rfl
  · rw [outsAt0_F m c t (by omega) (by omega) (by omega) (by omega) (by omega) (by omega)]; rfl

theorem carry_D (c : Dev nD) (t : Fin cfg0.N) (h : 4 ≤ t.val % 6) :
    (outsAt0 m c t.val t.isLt).2.2.1 = (outsAt0 m c (t.val - 1) (by have := t.isLt; omega)).2.2.1 := by
  rcases (by omega : t.val % 6 = 4 ∨ t.val % 6 = 5) with h | h
  · rw [outsAt0_E m c t (by omega) (by omega) (by omega) (by omega) (by omega) (by omega)]; rfl
  · rw [outsAt0_F m c t (by omega) (by omega) (by omega) (by omega) (by omega) (by omega)]; rfl

theorem carry_E (c : Dev nD) (t : Fin cfg0.N) (h : 5 ≤ t.val % 6) :
    (outsAt0 m c t.val t.isLt).2.2.2.1 = (outsAt0 m c (t.val - 1) (by have := t.isLt; omega)).2.2.2.1 := by
  rw [outsAt0_F m c t (by omega) (by omega) (by omega) (by omega) (by omega) (by omega)]; rfl

/-- What a row block's last point leaves for each part: the part's rows. -/
theorem last_1 (c : Dev nD) (t : Fin cfg0.N) (h : t.val % 6 = 5) (j : S512x1024.Idx) :
    (outsAt0 m c t.val t.isLt).1 j = part m c 1 (ix2 (rowOf t (j 0)) (j 1)) := by
  have ht := t.isLt
  rw [carry_B m c t (by omega), carry_B m c ⟨t.val - 1, by omega⟩ (by simp only; omega),
    carry_B m c ⟨t.val - 1 - 1, by omega⟩ (by simp only; omega), carry_B m c ⟨t.val - 1 - 1 - 1, by omega⟩ (by simp only; omega),
    after_B m c ⟨t.val - 1 - 1 - 1 - 1, by omega⟩ (by simp only; omega), stored_at]
  have e : (t.val - 1 - 1 - 1 - 1) % 6 = 1 := by omega
  have er : rowOf ⟨t.val - 1 - 1 - 1 - 1, by omega⟩ (j 0) = rowOf t (j 0) := Fin.ext (by simp only [rowOf]; omega)
  simp only [e, er]

theorem last_2 (c : Dev nD) (t : Fin cfg0.N) (h : t.val % 6 = 5) (j : S512x1024.Idx) :
    (outsAt0 m c t.val t.isLt).2.1 j = part m c 2 (ix2 (rowOf t (j 0)) (j 1)) := by
  have ht := t.isLt
  rw [carry_C m c t (by omega), carry_C m c ⟨t.val - 1, by omega⟩ (by simp only; omega),
    carry_C m c ⟨t.val - 1 - 1, by omega⟩ (by simp only; omega),
    after_C m c ⟨t.val - 1 - 1 - 1, by omega⟩ (by simp only; omega), stored_at]
  have e : (t.val - 1 - 1 - 1) % 6 = 2 := by omega
  have er : rowOf ⟨t.val - 1 - 1 - 1, by omega⟩ (j 0) = rowOf t (j 0) := Fin.ext (by simp only [rowOf]; omega)
  simp only [e, er]

theorem last_3 (c : Dev nD) (t : Fin cfg0.N) (h : t.val % 6 = 5) (j : S512x1024.Idx) :
    (outsAt0 m c t.val t.isLt).2.2.1 j = part m c 3 (ix2 (rowOf t (j 0)) (j 1)) := by
  have ht := t.isLt
  rw [carry_D m c t (by omega), carry_D m c ⟨t.val - 1, by omega⟩ (by simp only; omega),
    after_D m c ⟨t.val - 1 - 1, by omega⟩ (by simp only; omega), stored_at]
  have e : (t.val - 1 - 1) % 6 = 3 := by omega
  have er : rowOf ⟨t.val - 1 - 1, by omega⟩ (j 0) = rowOf t (j 0) := Fin.ext (by simp only [rowOf]; omega)
  simp only [e, er]

theorem last_4 (c : Dev nD) (t : Fin cfg0.N) (h : t.val % 6 = 5) (j : S512x1024.Idx) :
    (outsAt0 m c t.val t.isLt).2.2.2.1 j = part m c 4 (ix2 (rowOf t (j 0)) (j 1)) := by
  have ht := t.isLt
  rw [carry_E m c t (by omega), after_E m c ⟨t.val - 1, by omega⟩ (by simp only; omega), stored_at]
  have e : (t.val - 1) % 6 = 4 := by omega
  have er : rowOf ⟨t.val - 1, by omega⟩ (j 0) = rowOf t (j 0) := Fin.ext (by simp only [rowOf]; omega)
  simp only [e, er]

theorem last_5 (c : Dev nD) (t : Fin cfg0.N) (h : t.val % 6 = 5) (j : S512x1024.Idx) :
    (outsAt0 m c t.val t.isLt).2.2.2.2.1 j = part m c 5 (ix2 (rowOf t (j 0)) (j 1)) := by
  rw [after_F m c t h, stored_at, h]

end Cert.ProjIdeal.Value

end
-- ==== Proof.ProjValue.lean ====
/-
  The projection kernel: its six results are the reference's.
-/
module

public import proofs.«01_k».proof.Proof.ProjStore
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen
open Cert.ProjRefIdeal.Value (side side0_at side1_at side2_at side3_at side4_at side5_at)

variable (m : (ℓ : Loc nD τ sig) → Buf (Elt Ideal) ℓ)

/-! Each result is assembled from the blocks written back; their rows cover the array. -/

theorem final_1 (c : Dev nD) : (dats m 0 c).arrAt 6 (cfgs 0).N = part m c 1 := by
  refine (dats m 0 c).arrAt_eq_of_covers 6 _ (by decide +kernel) fun t hf y => ?_
  have ht := (flush0_6 t).mp hf
  blk_simp
  rw [after0_6]
  refine (last_1 m c t ht _).trans ?_
  blk_ext [idx' t, rowOf]

theorem final_2 (c : Dev nD) : (dats m 0 c).arrAt 7 (cfgs 0).N = part m c 2 := by
  refine (dats m 0 c).arrAt_eq_of_covers 7 _ (by decide +kernel) fun t hf y => ?_
  have ht := (flush0_7 t).mp hf
  blk_simp
  rw [after0_7]
  refine (last_2 m c t ht _).trans ?_
  blk_ext [idx' t, rowOf]

theorem final_3 (c : Dev nD) : (dats m 0 c).arrAt 8 (cfgs 0).N = part m c 3 := by
  refine (dats m 0 c).arrAt_eq_of_covers 8 _ (by decide +kernel) fun t hf y => ?_
  have ht := (flush0_8 t).mp hf
  blk_simp
  rw [after0_8]
  refine (last_3 m c t ht _).trans ?_
  blk_ext [idx' t, rowOf]

theorem final_4 (c : Dev nD) : (dats m 0 c).arrAt 9 (cfgs 0).N = part m c 4 := by
  refine (dats m 0 c).arrAt_eq_of_covers 9 _ (by decide +kernel) fun t hf y => ?_
  have ht := (flush0_9 t).mp hf
  blk_simp
  rw [after0_9]
  refine (last_4 m c t ht _).trans ?_
  blk_ext [idx' t, rowOf]

theorem final_5 (c : Dev nD) : (dats m 0 c).arrAt 10 (cfgs 0).N = part m c 5 := by
  refine (dats m 0 c).arrAt_eq_of_covers 10 _ (by decide +kernel) fun t hf y => ?_
  have ht := (flush0_10 t).mp hf
  blk_simp
  rw [after0_10]
  refine (last_5 m c t ht _).trans ?_
  blk_ext [idx' t, rowOf]

/-- The array that holds all six parts, read at an entry of part `n`. -/
theorem side_at (c : Dev nD) (n : Fin 6) (R : Fin 16384) (l : Fin 1024) (j : Cert.ProjRefIdeal.S16384x6144.Idx) (h0 : j 0 = R)
    (h1 : (j 1).val = 1024 * n.val + l.val) :
    side (part m c 0) (part m c 1) (part m c 2) (part m c 3) (part m c 4) (part m c 5) j = part m c n.val (ix2 R l) * scale n := by
  subst h0
  have one : Ideal.ofBits .f32 0x3F800000#32 = (1 : EReal) := by
    refine Eq.trans ?_ (EReal.coe_one)
    simp [Ideal.ofBits, Ideal.ieee, -EReal.coe_mul, -EReal.coe_one]
    norm_num
  fin_cases n
  · exact side0_at _ _ _ _ _ _ j l h1
  · exact (side1_at _ _ _ _ _ _ j l h1).trans (((mul_one _).symm.trans (congrArg _ one.symm)))
  · exact (side2_at _ _ _ _ _ _ j l h1).trans (((mul_one _).symm.trans (congrArg _ one.symm)))
  · exact side3_at _ _ _ _ _ _ j l h1
  · exact (side4_at _ _ _ _ _ _ j l h1).trans (((mul_one _).symm.trans (congrArg _ one.symm)))
  · exact (side5_at _ _ _ _ _ _ j l h1).trans (((mul_one _).symm.trans (congrArg _ one.symm)))

/-- The array that holds all six parts. -/
theorem final_all (c : Dev nD) : (dats m 0 c).arrAt 11 (cfgs 0).N
    = side (part m c 0) (part m c 1) (part m c 2) (part m c 3) (part m c 4) (part m c 5) := by
  refine (dats m 0 c).arrAt_eq_of_covers 11 _ (by decide +kernel) fun t hf y => ?_
  blk_simp
  rw [after0_11]
  refine (congrFun (after_all m c t) _).trans ((storedAll_at m c t _).trans (Eq.symm ?_))
  refine side_at m c ⟨t.val % 6, by omega⟩ _ _ _ ?_ ?_
  · refine Fin.ext ?_
    blk_simp [idx' t, rowOf]
    show t.val / 6 * 512 + (y 0).val = 512 * (t.val / 6) + (y 0).val
    omega
  · blk_simp [idx' t, rowOf]
    show t.val % 6 * 1024 + (y 1).val = 1024 * (t.val % 6) + (y 1).val
    omega

/-! What the end of a run holds, one result at a time. -/

theorem read_1 (r : PUnit × MemSt nD τ sig (Elt Ideal)) (h : Pipeline.FramePost cfgs (dats m) 0 (V m) r) (c : Dev nD) :
    r.2.mem ((c.tc : Thread nD τ).loc main_v43_0) = part m c 1 := ((h c).1 6).trans (final_1 m c)

theorem read_2 (r : PUnit × MemSt nD τ sig (Elt Ideal)) (h : Pipeline.FramePost cfgs (dats m) 0 (V m) r) (c : Dev nD) :
    r.2.mem ((c.tc : Thread nD τ).loc main_v43_1) = part m c 2 := ((h c).1 7).trans (final_2 m c)

theorem read_3 (r : PUnit × MemSt nD τ sig (Elt Ideal)) (h : Pipeline.FramePost cfgs (dats m) 0 (V m) r) (c : Dev nD) :
    r.2.mem ((c.tc : Thread nD τ).loc main_v43_2) = part m c 3 := ((h c).1 8).trans (final_3 m c)

theorem read_4 (r : PUnit × MemSt nD τ sig (Elt Ideal)) (h : Pipeline.FramePost cfgs (dats m) 0 (V m) r) (c : Dev nD) :
    r.2.mem ((c.tc : Thread nD τ).loc main_v43_3) = part m c 4 := ((h c).1 9).trans (final_4 m c)

theorem read_5 (r : PUnit × MemSt nD τ sig (Elt Ideal)) (h : Pipeline.FramePost cfgs (dats m) 0 (V m) r) (c : Dev nD) :
    r.2.mem ((c.tc : Thread nD τ).loc main_v43_4) = part m c 5 := ((h c).1 10).trans (final_5 m c)

theorem read_all (r : PUnit × MemSt nD τ sig (Elt Ideal)) (h : Pipeline.FramePost cfgs (dats m) 0 (V m) r) (c : Dev nD) :
    r.2.mem ((c.tc : Thread nD τ).loc main_v43_5) = side (part m c 0) (part m c 1) (part m c 2) (part m c 3) (part m c 4) (part m c 5) := ((h c).1 11).trans (final_all m c)

/-- The kernel ends with the reference's parts in its six results and its arguments unchanged. -/
theorem run_parts (g : Dev nD → PrngReg) : θ_run (defs (F := Ideal)) (onTc (τ := τ) (main (F := Ideal))) ⟨m, fun _ => 0, g⟩ (fun r => ∀ c : Dev nD,
      r.2.mem ((c.tc : Thread nD τ).loc main_v43_0) = part m c 1
      ∧ r.2.mem ((c.tc : Thread nD τ).loc main_v43_1) = part m c 2
      ∧ r.2.mem ((c.tc : Thread nD τ).loc main_v43_2) = part m c 3
      ∧ r.2.mem ((c.tc : Thread nD τ).loc main_v43_3) = part m c 4
      ∧ r.2.mem ((c.tc : Thread nD τ).loc main_v43_4) = part m c 5
      ∧ r.2.mem ((c.tc : Thread nD τ).loc main_v43_5)
          = side (part m c 0) (part m c 1) (part m c 2) (part m c 3) (part m c 4) (part m c 5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun r h c => ⟨read_1 m r h.1 c, read_2 m r h.1 c, read_3 m r h.1 c, read_4 m r h.1 c, read_5 m r h.1 c,
    read_all m r h.1 c, h.2 c⟩) (θ_run_and (run_main m g) (unchanged m g))

end Cert.ProjIdeal.Value
-- ==== Proof.KmeanValue.lean ====
/-
  The block means: the kernel multiplies the sum of a block's 256 rows by a 256th, the reference divides it by 256.
-/
module

public import proofs.«01_k».proof.Proof.Gen.KmeanIdeal.Frame
public import proofs.«01_k».proof.Proof.Gen.KmeanRefIdeal.Run
public import proofs.«01_k».proof.Proof.ProjMean
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KmeanIdeal.Value

open Cert.KmeanIdeal Cert.KmeanIdeal.Gen

variable (m : (ℓ : Loc nD τ sig) → Buf (Elt Ideal) ℓ)

/-- The reference's result. -/
def meanRef (k : FVec Ideal Cert.KmeanRefIdeal.S16384x1024 .f32) : FVec Ideal Cert.KmeanRefIdeal.S64x1024 .f32 :=
  shapeCast _ (Host.divf (Host.reduceAdd (shapeCast _ k Cert.KmeanRefIdeal.Gen.shapeCasts_S16384x1024_S2x32x256x1024)
      (constant Cert.KmeanRefIdeal.S_ .f32 0x00000000#32) Cert.KmeanRefIdeal.Gen.reducesTo_S2x32x256x1024_S2x32x1024_d2 Cert.KmeanRefIdeal.Gen.h_S_)
    (broadcastInDim Cert.KmeanRefIdeal.S2x32x1024 ![] Cert.KmeanRefIdeal.Gen.bcast_S_S2x32x1024 (constant Cert.KmeanRefIdeal.S_ .f32 0x43800000#32)))
    Cert.KmeanRefIdeal.Gen.shapeCasts_S2x32x1024_S64x1024

theorem c256 : Ideal.ofBits .f32 0x43800000#32 = ((256 : ℝ) : EReal) := by
  simp [Ideal.ofBits, Ideal.ieee, -EReal.coe_mul]; norm_num

theorem c256th : Ideal.ofBits .f32 0x3B800000#32 = ((256⁻¹ : ℝ) : EReal) := by
  simp [Ideal.ofBits, Ideal.ieee, -EReal.coe_mul]; norm_num

/-- One entry of the reference's result: a block's rows over 256. -/
theorem meanRef_at (k : FVec Ideal Cert.KmeanRefIdeal.S16384x1024 .f32) (j : Cert.KmeanRefIdeal.S64x1024.Idx) :
    meanRef k j = (∑ i : Fin 256, k (ix2 (⟨(j 0).val * 256 + i.val, by have := (j 0).isLt; have := i.isLt; simp only [Matrix.cons_val] at *; omega⟩ : Fin 16384) (j 1)))
      * ((256⁻¹ : ℝ) : EReal) := by
  rw [← Cert.Mean.div_real _ _ (by norm_num), ← c256]
  pointwise [meanRef]
  refine congrArg (Ideal.div · _) (Finset.sum_congr rfl fun i _ => congrArg (fun r => k (ix2 r (j 1))) (Fin.ext ?_))
  show (j 0).val / 32 * 8192 + (j 0).val % 32 * 256 + i.val = (j 0).val * 256 + i.val
  omega

/-- One entry of what a point stores. -/
theorem pay1_at (v : Vec Ideal S2048x1024 .f32) (j : S8x1024.Idx) :
    k0_pay1 v j = (∑ i : Fin 256, v (ix2 (⟨(j 0).val * 256 + i.val, by have := (j 0).isLt; have := i.isLt; simp only [Matrix.cons_val] at *; omega⟩ : Fin 2048) (j 1)))
      * ((256⁻¹ : ℝ) : EReal) := by
  rw [← c256th]
  pointwise [k0_pay1]

/-- Where each window's block stands at point `t`. -/
theorem idx : ∀ t : Fin cfg0.N, win0_0.index t = ![t.val, 0] ∧ win0_1.index t = ![t.val, 0] :=
  (by decide +kernel : ∀ t : Fin grid0.N, _)

/-- The result array is the reference's value, of the argument. -/
theorem final (c : Dev nD) : (dats m 0 c).arrAt 1 (cfgs 0).N = meanRef (m ((c : Thread nD τ).loc main_arg0)) := by
  refine (dats m 0 c).arrAt_eq_of_covers 1 _ (by decide +kernel) fun t hf y => ?_
  blk_simp
  rw [after0_1]; frame_out
  rw [meanRef_at, pay1_at]
  blk_point [iblk, V, idx t]

end Cert.KmeanIdeal.Value

end
-- ==== Proof.Pick.lean ====
/-
  The three largest of 64 numbers. The kernel takes the largest, and of those equal to it the first; it puts −∞ in that
  place and begins again. The reference sorts, larger first and of two equals the earlier one first, and takes
  three. Where no number is −∞ both choose the same places in the same order.
-/
module

public import Idealize.ShloMosaic.PureOps
public import Idealize.ShloMosaic.PureOps.Ideal
public import Idealize.ShloMosaic.Lib.SortFacts
public import Idealize.ShloMosaic.Lib.SortPrefix

@[expose] public section

noncomputable section

namespace Cert.Pick

open Idealize.ShloMosaic

/-- A place as an extended real. -/
def num (i : Fin 64) : EReal := ((i.val : ℝ) : EReal)

theorem num_le (i k : Fin 64) : num i ≤ num k ↔ i ≤ k := by
  rw [num, num, EReal.coe_le_coe_iff, Nat.cast_le, Fin.le_def]

theorem num_inj (i k : Fin 64) : num i = num k ↔ i = k := by
  rw [le_antisymm_iff, num_le, num_le, le_antisymm_iff]

/-- The largest. -/
def top (g : Fin 64 → EReal) : EReal := Finset.univ.fold max ⊥ g

/-- The first place that has the largest, as the kernel finds it. -/
def fst (g : Fin 64 → EReal) : EReal :=
  Finset.univ.fold min ⊤ fun i => if g i = top g then num i else ((64 : ℝ) : EReal)

/-- The numbers with −∞ at the place `x`. -/
def mask (x : EReal) (g : Fin 64 → EReal) (i : Fin 64) : EReal := if num i = x then ⊥ else g i

/-- `fst` is a place; no number is larger than the one there, and every earlier one is smaller. -/
theorem fst_spec (g : Fin 64 → EReal) :
    ∃ p : Fin 64, fst g = num p ∧ (∀ i, g i ≤ g p) ∧ ∀ i, i < p → g i < g p := by
  classical
  have htop : ∀ i, g i ≤ top g := fun i => Finset.le_sup (f := g) (Finset.mem_univ i)
  obtain ⟨q, -, hq⟩ := Finset.exists_mem_eq_sup (Finset.univ : Finset (Fin 64)) ⟨0, Finset.mem_univ _⟩ g
  have hq : g q = top g := hq.symm
  obtain ⟨p, hp, hmin⟩ := Finset.exists_min_image (Finset.univ.filter fun i => g i = top g) id
    ⟨q, Finset.mem_filter.mpr ⟨Finset.mem_univ _, hq⟩⟩
  have hp : g p = top g := (Finset.mem_filter.mp hp).2
  have hmin : ∀ i, g i = top g → p ≤ i := fun i h => hmin i (Finset.mem_filter.mpr ⟨Finset.mem_univ _, h⟩)
  refine ⟨p, le_antisymm ?_ ?_, fun i => hp ▸ htop i, fun i hi => ?_⟩
  · refine (Finset.inf_le (f := fun i => if g i = top g then num i else ((64 : ℝ) : EReal)) (Finset.mem_univ p)).trans ?_
    simp only [if_pos hp, le_refl]
  · refine Finset.le_inf (f := fun i => if g i = top g then num i else ((64 : ℝ) : EReal)) fun i _ => ?_
    by_cases h : g i = top g
    · simp only [if_pos h]; exact (num_le _ _).mpr (hmin i h)
    · simp only [if_neg h]
      rw [num, EReal.coe_le_coe_iff]
      exact_mod_cast p.isLt.le
  · exact lt_of_le_of_ne (hp ▸ htop i) fun h => absurd (hmin i (h.trans hp)) (not_le.mpr hi)

/-- A number the kernel turns into an integer is the place. -/
theorem toInt_num (p : Fin 64) : Ideal.fptosi 32 (num p) = BitVec.ofNat 32 p.val := by
  have h : Ideal.toIntClamped (-(2 ^ (32 - 1) : Nat)) ((2 ^ (32 - 1) : Nat) - 1) (num p) = (p.val : Int) := by
    show max _ (min _ (if (0 : ℝ) ≤ (p.val : ℝ) then ⌊(p.val : ℝ)⌋ else ⌈(p.val : ℝ)⌉)) = _
    rw [if_pos (Nat.cast_nonneg _), Int.floor_natCast]
    have := p.isLt
    omega
  rw [Ideal.fptosi, h]
  exact BitVec.ofInt_natCast ..

/-! ## The stable sort -/

/-- A stable sort asks its comparator only whether a later entry is before an earlier one. -/
theorem stableSort_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Larger first, and of two equals the earlier one. -/
def before (g : Fin 64 → EReal) (k k' : Fin 64) : Bool :=
  decide (g k' < g k) || (decide (g k = g k') && decide (k < k'))

theorem before_total (g : Fin 64 → EReal) : StrictTotalBefore (before g) :=
  StrictTotalBefore.of_key_then_position (fun a b : EReal => decide (b < a)) g (fun a => by simp)
    (fun a b c h₁ h₂ => by simp only [decide_eq_true_eq] at *; exact h₂.trans h₁)
    (fun a b => by simp only [decide_eq_true_eq]; rcases lt_trichotomy a b with h | h | h <;> simp [h])

theorem sortedFrom_of_positions {n : ℕ} (R R' : Fin n → Fin n → Bool) (e : sortPositions n R = sortPositions n R') (k : Fin n) :
    sortedFrom R k = sortedFrom R' k := by
  unfold sortedFrom
  rw [List.get_of_eq e]
  rfl

theorem sortedFrom_before (g : Fin 64 → EReal) (k : Fin 64) :
    sortedFrom (fun a b => decide (g b < g a)) k = sortedFrom (before g) k := by
  have e : sortPositions 64 (fun a b => decide (g b < g a)) = sortPositions 64 (before g) := by
    refine stableSort_later _ _ _ ((List.pairwise_lt_finRange 64).imp fun {a b} h => ?_)
    rw [before, decide_eq_false (not_lt.mpr h.le), Bool.and_false, Bool.or_false]
  exact sortedFrom_of_positions _ _ e k

/-- `before` fails at a place whose number is no larger and, if equal, later. -/
theorem before_false (g : Fin 64 → EReal) (a b : Fin 64) (h : g a ≤ g b) (h' : a < b → g a < g b) : before g a b = false := by
  rw [before, decide_eq_false (not_lt.mpr h), Bool.false_or, Bool.and_eq_false_iff]
  by_cases hab : a < b
  · exact Or.inl (decide_eq_false (h' hab).ne)
  · exact Or.inr (decide_eq_false hab)

/-! ## The three rounds -/

/-- What the kernel stores in round `r`. -/
def pick (g : Fin 64 → EReal) : Fin 3 → EReal :=
  let x₁ := fst g
  let g₁ := mask x₁ g
  let x₂ := fst g₁
  let g₂ := mask x₂ g₁
  ![x₁, x₂, fst g₂]

theorem pick_0 (g : Fin 64 → EReal) : pick g 0 = fst g := rfl
theorem pick_1 (g : Fin 64 → EReal) : pick g 1 = fst (mask (fst g) g) := rfl
theorem pick_2 (g : Fin 64 → EReal) : pick g 2 = fst (mask (fst (mask (fst g) g)) (mask (fst g) g)) := rfl

/-- The three rounds choose what the stable sort puts first. -/
theorem pick_eq (g : Fin 64 → EReal) (hg : ∀ i, g i ≠ ⊥) (r : Fin 3) :
    pick g r = num (sortedFrom (fun a b => decide (g b < g a)) (r.castLE (by norm_num))) := by
  obtain ⟨p, hp, hpm, hpf⟩ := fst_spec g
  have m₁ : ∀ i, mask (fst g) g i = if i = p then ⊥ else g i := fun i => by
    rw [mask, hp]; exact if_congr (num_inj i p) rfl rfl
  obtain ⟨q, hq, hqm, hqf⟩ := fst_spec (mask (fst g) g)
  have m₂ : ∀ i, mask (fst (mask (fst g) g)) (mask (fst g) g) i = if i = q then ⊥ else if i = p then ⊥ else g i := fun i => by
    rw [mask, hq]; exact if_congr (num_inj i q) rfl (m₁ i)
  obtain ⟨s, hs, hsm, hsf⟩ := fst_spec (mask (fst (mask (fst g) g)) (mask (fst g) g))
  simp only [m₁] at hqm hqf
  simp only [m₂] at hsm hsf
  -- a place that holds −∞ is never the largest, for a third place holds more
  have hqp : q ≠ p := by
    rintro rfl
    obtain ⟨i, hi⟩ : ∃ i : Fin 64, i ≠ q := exists_ne q
    have := hqm i
    rw [if_neg hi, if_pos rfl] at this
    exact hg i (le_bot_iff.mp this)
  have h3 : s ≠ q ∧ s ≠ p := by
    obtain ⟨i, hi⟩ : ∃ i : Fin 64, i ∉ ({p, q} : Finset (Fin 64)) := by
      refine Finset.exists_mem_notMem_of_card_lt_card (s := {p, q}) (t := Finset.univ) ?_ |>.imp fun i h => h.2
      exact (Finset.card_le_two).trans_lt (by rw [Finset.card_univ, Fintype.card_fin]; norm_num)
    have hip : i ≠ p := fun h => hi (by simp [h])
    have hiq : i ≠ q := fun h => hi (by simp [h])
    have := hsm i
    rw [if_neg hiq, if_neg hip] at this
    constructor <;> rintro rfl
    · rw [if_pos rfl] at this; exact hg i (le_bot_iff.mp this)
    · rw [if_pos rfl, ite_self] at this; exact hg i (le_bot_iff.mp this)
  have hqm' : ∀ i, i ≠ p → g i ≤ g q := fun i hi => by have := hqm i; rwa [if_neg hi, if_neg hqp] at this
  have hqf' : ∀ i, i ≠ p → i < q → g i < g q := fun i hi hl => by have := hqf i hl; rwa [if_neg hi, if_neg hqp] at this
  have hsm' : ∀ i, i ≠ p → i ≠ q → g i ≤ g s := fun i hi hi' => by
    have := hsm i; rwa [if_neg hi', if_neg hi, if_neg h3.1, if_neg h3.2] at this
  have hsf' : ∀ i, i ≠ p → i ≠ q → i < s → g i < g s := fun i hi hi' hl => by
    have := hsf i hl; rwa [if_neg hi', if_neg hi, if_neg h3.1, if_neg h3.2] at this
  have bp : ∀ i, before g i p = false := fun i => before_false g i p (hpm i) (hpf i)
  have bq : ∀ i, i ≠ p → before g i q = false := fun i hi => before_false g i q (hqm' i hi) (hqf' i hi)
  have bs : ∀ i, i ≠ p → i ≠ q → before g i s = false := fun i hi hi' => before_false g i s (hsm' i hi hi') (hsf' i hi hi')
  rw [sortedFrom_before, (before_total g).sortedFrom_eq_of_prefix (by norm_num) ![p, q, s] ?_ ?_ ?_ r]
  · fin_cases r
    · exact hp
    · exact hq
    · exact hs
  · intro a b h
    fin_cases a <;> fin_cases b <;> first | rfl | exact absurd h hqp | exact absurd h.symm hqp | exact absurd h h3.1 | exact absurd h.symm h3.1 | exact absurd h h3.2 | exact absurd h.symm h3.2
  · intro a b h
    fin_cases a <;> fin_cases b <;> first | exact absurd h (by decide) | exact bp _ | exact bq _ h3.2
  · intro a i h
    fin_cases a
    · exact bp i
    · exact bq i (h 0).symm
    · exact bs i (h 0).symm (h 1).symm

end Cert.Pick

end
-- ==== Proof.GateValue.lean ====
/-
  The routing of the new tokens: for each head the kernel takes three of the 64 blocks by their score against the query;
  the reference takes the three largest scores.
-/
module

public import proofs.«01_k».proof.Proof.Gen.GateIdeal.Frame
public import proofs.«01_k».proof.Proof.Gen.GateRefIdeal.Run
public import proofs.«01_k».proof.Pre_finite_inputs
public import proofs.«01_k».proof.Proof.ProjMean
public import proofs.«01_k».proof.Proof.KmeanValue
public import proofs.«01_k».proof.Proof.Flash
public import proofs.«01_k».proof.Proof.Pick
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateIdeal.Value

open Cert.GateIdeal Cert.GateIdeal.Gen

variable (m : (ℓ : Loc nD τ sig) → Buf (Elt Ideal) ℓ)

/-- The reference's scores. -/
def scores (q : FVec Ideal Cert.GateRefIdeal.S32x8x128 .f32) (s : FVec Ideal Cert.GateRefIdeal.S32x64x8x128 .f32) :
    FVec Ideal Cert.GateRefIdeal.S32x8x64 .f32 :=
  Host.dotGeneral Cert.GateRefIdeal.dot_S32x8x128_S32x8x64x128_S32x8x64_2_3_n_2_01_01 none q
    (Host.divf (transpose Cert.GateRefIdeal.S32x8x64x128 [0, 2, 1, 3] s Cert.GateRefIdeal.Gen.transposes_S32x64x8x128_S32x8x64x128_0_2_1_3)
      (broadcastInDim Cert.GateRefIdeal.S32x8x64x128 ![] Cert.GateRefIdeal.Gen.bcast_S_S32x8x64x128 (constant Cert.GateRefIdeal.S_ .f32 0x43800000#32)))

/-- The reference's result. -/
def selRef (q : FVec Ideal Cert.GateRefIdeal.S32x8x128 .f32) (s : FVec Ideal Cert.GateRefIdeal.S32x64x8x128 .f32) :
    IVec Cert.GateRefIdeal.S32x3x8x1 32 :=
  shapeCast _ (transpose Cert.GateRefIdeal.S32x3x8 [0, 2, 1]
    (Host.topK Cert.GateRefIdeal.S32x8x3 2 (FloatOps.cmpfTotal .gt) (scores q s) Cert.GateRefIdeal.Gen.sliceFits_S32x8x64_S32x8x3).2
    Cert.GateRefIdeal.Gen.transposes_S32x8x3_S32x3x8_0_2_1) Cert.GateRefIdeal.Gen.shapeCasts_S32x3x8_S32x3x8x1

theorem posInf : Ideal.ofBits .f32 0x7F800000#32 = ⊤ := by
  simp [Ideal.ofBits, Ideal.ieee]

theorem c64 : Ideal.ofBits .f32 0x42800000#32 = ((64 : ℝ) : EReal) := by
  simp [Ideal.ofBits, Ideal.ieee, -EReal.coe_mul]; norm_num

/-- One score: the block's mean against the query. -/
theorem scores_at (q : FVec Ideal Cert.GateRefIdeal.S32x8x128 .f32) (s : FVec Ideal Cert.GateRefIdeal.S32x64x8x128 .f32)
    (b : Fin 32) (h : Fin 8) (n : Fin 64) :
    scores q s (ix3 b h n) = ∑ d : Fin 128, s (ix4 b n h d) * ((256⁻¹ : ℝ) : EReal) * q (ix3 b h d) := by
  pointwise [scores]
  refine Finset.sum_congr rfl fun d _ => ?_
  rw [show Ideal.ofBits FTy.f32 1132462080#32 = ((256 : ℝ) : EReal) from Cert.KmeanIdeal.Value.c256, Cert.Mean.div_real _ _ (by norm_num)]
  exact mul_comm _ _

/-- One score of the kernel. -/
theorem pay3_at (v0 : Vec Ideal S1x64x8x128 .f32) (v4 : Vec Ideal S1x8x128 .f32) (j : S64x8x1.Idx) :
    k0_pay3 v0 v4 j = ∑ d : Fin 128, v0 (ix4 0 (j 0) (j 1) d) * ((256⁻¹ : ℝ) : EReal) * v4 (ix3 0 (j 1) d) := by
  rw [← Cert.KmeanIdeal.Value.c256th]
  pointwise [k0_pay3]

/-- The block numbers. -/
theorem pay4_at (n : Fin 64) (h : Fin 8) (u : Fin 1) : k0_pay4 (F := Ideal) (ix3 n h u) = Pick.num n := by
  pointwise [k0_pay4]
  show (((BitVec.ofNat 32 n.val).toInt : ℝ) : EReal) = _
  rw [show (BitVec.ofNat 32 n.val).toInt = (n.val : ℤ) from (by decide : ∀ n : Fin 64, (BitVec.ofNat 32 n.val).toInt = (n.val : ℤ)) n]
  rfl

/-- The first round's block. -/
theorem pay5_at (v0 : Vec Ideal S1x64x8x128 .f32) (v4 : Vec Ideal S1x8x128 .f32) (h : Fin 8) :
    k0_pay5 v0 v4 (ix3 0 h 0) = Pick.fst fun n => k0_pay3 v0 v4 (ix3 n h 0) := by
  pointwise [k0_pay5]
  simp only [pay4_at]
  rw [Pick.fst, Pick.top, ← posInf, ← Flash.negInf, ← c64]

/-- The scores without the first round's block. -/
theorem pay7_at (v0 : Vec Ideal S1x64x8x128 .f32) (v4 : Vec Ideal S1x8x128 .f32) (n : Fin 64) (h : Fin 8) (u : Fin 1) :
    k0_pay7 v0 v4 (ix3 n h u) = Pick.mask (k0_pay5 v0 v4 (ix3 0 h 0)) (fun n => k0_pay3 v0 v4 (ix3 n h 0)) n := by
  obtain rfl : u = 0 := Subsingleton.elim _ _
  pointwise [k0_pay7]
  simp only [pay4_at]
  rw [Pick.mask, ← Flash.negInf]

/-- The second round's block. -/
theorem pay8_at (v0 : Vec Ideal S1x64x8x128 .f32) (v4 : Vec Ideal S1x8x128 .f32) (h : Fin 8) :
    k0_pay8 v0 v4 (ix3 0 h 0) = Pick.fst fun n => k0_pay7 v0 v4 (ix3 n h 0) := by
  pointwise [k0_pay8]
  simp only [pay4_at]
  rw [Pick.fst, Pick.top, ← posInf, ← Flash.negInf, ← c64]

/-- The block numbers that the first, the second and the third round store. -/
theorem pay6_at (v0 : Vec Ideal S1x64x8x128 .f32) (v4 : Vec Ideal S1x8x128 .f32) (h : Fin 8) :
    k0_pay6 v0 v4 (ix4 0 0 h 0) = Ideal.fptosi 32 (k0_pay5 v0 v4 (ix3 0 h 0)) := by
  pointwise [k0_pay6]
  rfl

theorem pay1_at (v : FVec Ideal S1x8x1 .f32) (h : Fin 8) : k0_pay1 v (ix4 0 0 h 0) = Ideal.fptosi 32 (v (ix3 0 h 0)) := by
  pointwise [k0_pay1]
  rfl

theorem pay2_at (g : FVec Ideal S64x8x1 .f32) (v : FVec Ideal S1x8x1 .f32) (h : Fin 8) :
    k0_pay2 (k0_pay4 (F := Ideal)) g v (ix4 0 0 h 0)
      = Ideal.fptosi 32 (Pick.fst (Pick.mask (v (ix3 0 h 0)) fun n => g (ix3 n h 0))) := by
  pointwise [k0_pay2]
  simp only [pay4_at, Pick.fst, Pick.top, Pick.mask, ← posInf, ← Flash.negInf, ← c64]
  rfl

/-- The places that the reference's `top_k` gives, along the last of three axes. -/
theorem topK_at {a b n k : ℕ} (x : FVec Ideal ⟨3, ![a, b, n]⟩ .f32) (h : (⟨3, ![a, b, n]⟩ : Shape).Slices (fun _ => 0) ⟨3, ![a, b, k]⟩)
    (hk : k ≤ n) (j : (⟨3, ![a, b, k]⟩ : Shape).Idx) :
    (Host.topK ⟨3, ![a, b, k]⟩ 2 (FloatOps.cmpfTotal .gt) x h).2 j
      = BitVec.ofNat 32 (sortedFrom (fun p q : Fin n => decide (x (ix3 (j 0) (j 1) q) < x (ix3 (j 0) (j 1) p))) ((j 2).castLE hk)).val := by
  have hJ : ∀ p : Fin n, (Shape.Idx.along (s := ⟨3, ![a, b, n]⟩)
      (fun c => ⟨0 + (j (c.cast h.1.symm)).val, Nat.lt_of_lt_of_le (Nat.add_lt_add_left (j _).isLt _) (h.2 c)⟩) 2 p)
        = ix3 (j 0) (j 1) p := fun p => by
    funext c
    fin_cases c
    · exact Fin.ext (Nat.zero_add _)
    · exact Fin.ext (Nat.zero_add _)
    · rfl
  have hB : ∀ p q : EReal, (FloatOps.cmpfTotal (F := Ideal) (φ := .f32) .gt p q == 1#1) = decide (q < p) := fun p q => by
    show (BitVec.ofBool (decide (q < p)) == 1#1) = _
    by_cases h : q < p <;> simp [h]
  unfold Host.topK Host.sort2 extractStridedSlice
  simp only [dif_pos (show 2 < (⟨3, ![a, b, n]⟩ : Shape).rank from (by decide : 2 < 3))]
  refine (congrArg (iotaInDim ⟨3, ![a, b, n]⟩ 32 2) (hJ _)).trans ?_
  refine congrArg (fun p : Fin n => BitVec.ofNat 32 p.val) (congr (congrArg sortedFrom ?_) (Fin.ext (Nat.zero_add _)))
  funext p q
  exact (congr (congrArg (fun u v => FloatOps.cmpfTotal (F := Ideal) (φ := .f32) .gt u v == 1#1) (congrArg x (hJ p))) (congrArg x (hJ q))).trans (hB _ _)

/-- The same at three coordinates. -/
theorem topK_at3 {a b n k : ℕ} (x : FVec Ideal ⟨3, ![a, b, n]⟩ .f32) (hx : (⟨3, ![a, b, n]⟩ : Shape).Slices (fun _ => 0) ⟨3, ![a, b, k]⟩)
    (hk : k ≤ n) (i : Fin a) (h : Fin b) (r : Fin k) :
    (Host.topK ⟨3, ![a, b, k]⟩ 2 (FloatOps.cmpfTotal .gt) x hx).2 (ix3 i h r)
      = BitVec.ofNat 32 (sortedFrom (fun p q : Fin n => decide (x (ix3 i h q) < x (ix3 i h p))) (r.castLE hk)).val :=
  topK_at x hx hk (ix3 i h r)

/-- The reference's result for one head of one token: the place of the block that comes at that rank. -/
theorem selRef_at (q : FVec Ideal Cert.GateRefIdeal.S32x8x128 .f32) (s : FVec Ideal Cert.GateRefIdeal.S32x64x8x128 .f32)
    (b : Fin 32) (r : Fin 3) (h : Fin 8) :
    selRef q s (ix4 b r h 0)
      = BitVec.ofNat 32 (sortedFrom (fun p p' : Fin 64 => decide (scores q s (ix3 b h p') < scores q s (ix3 b h p))) (r.castLE (by decide))).val := by
  pointwise [selRef]
  exact topK_at3 _ _ (by decide) b h r

/-- Where each window's block stands at point `t`. -/
theorem idx : ∀ t : Fin cfg0.N, win0_0.index t = ![t.val, 0, 0] ∧ win0_1.index t = ![t.val, 0, 0, 0] ∧ win0_2.index t = ![t.val, 0, 0, 0] :=
  (by decide +kernel : ∀ t : Fin grid0.N, _)

/-- A place outside the last store holds what the earlier ones left. -/
theorem skip (r : Rect S1x3x8x1) (w : r.shape.Idx → Elt Ideal .i32) (L : List (View.Piece (Elt Ideal) S1x3x8x1 .i32)) (y : S1x3x8x1.Idx)
    (h : y ∉ r.set) : View.canon (⟨r, w⟩ :: L) y = View.canon L y :=
  View.canon_cons_of_not_mem ⟨r, w⟩ L h

/-- What a point stores, by round and head. -/
theorem out_at (v0 : Vec Ideal S1x8x128 .f32) (v1 : Vec Ideal S1x64x8x128 .f32) (r : Fin 3) (h : Fin 8) :
    out0_2 v0 v1 (ix4 0 r h 0) = Ideal.fptosi 32 (Pick.pick (fun n => k0_pay3 v1 v0 (ix3 n h 0)) r) := by
  have h9 : k0_pay9 v0 v1 = k0_pay8 v1 v0 := by
    unfold k0_pay9
    rw [View.ld_unit_lit _ v1 (by decide), View.ld_unit_lit _ v0 (by decide)]
  have e4 : (ix4 0 2 h 0 : S1x3x8x1.Idx) = r0_4.emb (ix4 0 0 h 0) := by
    funext a; fin_cases a <;> exact Fin.ext (by simp [r0_4])
  have e3 : (ix4 0 1 h 0 : S1x3x8x1.Idx) = r0_3.emb (ix4 0 0 h 0) := by
    funext a; fin_cases a <;> exact Fin.ext (by simp [r0_3])
  have e2 : (ix4 0 0 h 0 : S1x3x8x1.Idx) = r0_2.emb (ix4 0 0 h 0) := by
    funext a; fin_cases a <;> exact Fin.ext (by simp [r0_2])
  have n4 : ∀ k : Fin 3, k.val < 2 → (ix4 0 k h 0 : S1x3x8x1.Idx) ∉ r0_4.set := fun k hk hm => by
    have := (Rect.mem_set_unit.mp hm 1).1
    exact absurd this (not_le.mpr hk)
  have n3 : ∀ k : Fin 3, k.val < 1 → (ix4 0 k h 0 : S1x3x8x1.Idx) ∉ r0_3.set := fun k hk hm => by
    have := (Rect.mem_set_unit.mp hm 1).1
    exact absurd this (not_le.mpr hk)
  have h7 : (fun n : Fin 64 => k0_pay7 v1 v0 (ix3 n h 0))
      = Pick.mask (Pick.fst fun n => k0_pay3 v1 v0 (ix3 n h 0)) fun n => k0_pay3 v1 v0 (ix3 n h 0) := by
    funext n
    rw [pay7_at, pay5_at]
  match r with
  | 0 =>
    frame_out
    rw [skip _ _ _ _ (n4 0 (by decide)), skip _ _ _ _ (n3 0 (by decide)), e2, View.canon_cons_emb,
      pay6_at, pay5_at, Pick.pick_0]
  | 1 =>
    frame_out
    rw [skip _ _ _ _ (n4 1 (by decide)), e3, View.canon_cons_emb, h9, pay1_at, pay8_at, h7, Pick.pick_1]
  | 2 =>
    frame_out
    rw [e4, View.canon_cons_emb, h9, pay2_at, pay8_at, h7, Pick.pick_2]

theorem sum_real {n : ℕ} (f : Fin n → EReal) (h : ∀ d, ∃ r : ℝ, f d = (r : EReal)) : ∃ r : ℝ, ∑ d, f d = (r : EReal) := by
  classical
  refine Finset.sum_induction f (fun x => ∃ r : ℝ, x = (r : EReal)) ?_ ⟨0, rfl⟩ fun d _ => h d
  rintro _ _ ⟨a, rfl⟩ ⟨b, rfl⟩
  exact ⟨a + b, (EReal.coe_add _ _).symm⟩

/-- The scores of finite entries are finite. -/
theorem scores_ne_bot (q : FVec Ideal Cert.GateRefIdeal.S32x8x128 .f32) (s : FVec Ideal Cert.GateRefIdeal.S32x64x8x128 .f32)
    (hq : ∀ i, ∃ r : ℝ, q i = (r : EReal)) (hs : ∀ i, ∃ r : ℝ, s i = (r : EReal)) (b : Fin 32) (h : Fin 8) (n : Fin 64) :
    scores q s (ix3 b h n) ≠ ⊥ := by
  rw [scores_at]
  obtain ⟨r, hr⟩ := sum_real (fun d : Fin 128 => s (ix4 b n h d) * ((256⁻¹ : ℝ) : EReal) * q (ix3 b h d)) fun d => by
    obtain ⟨x, hx⟩ := hs (ix4 b n h d)
    obtain ⟨y, hy⟩ := hq (ix3 b h d)
    exact ⟨x * 256⁻¹ * y, by rw [hx, hy, EReal.coe_mul, EReal.coe_mul]⟩
  rw [hr]
  exact EReal.coe_ne_bot r

/-- A point's scores are its token's. -/
theorem point_scores (c : Dev nD) (t : Fin cfg0.grid.N) (h : Fin 8) (n : Fin 64) :
    k0_pay3 (iblk m c 1 t) (iblk m c 0 t) (ix3 n h 0)
      = scores (m ((c : Thread nD τ).loc main_arg0)) (m ((c : Thread nD τ).loc main_arg1)) (ix3 (⟨t.val, t.isLt⟩ : Fin 32) h n) := by
  rw [scores_at]
  refine (pay3_at _ _ _).trans ?_
  blk_point [iblk, V, idx t]

/-- What a point stores is the reference's value for its token. -/
theorem point_eq (c : Dev nD)
    (hq : ∀ i, ∃ r : ℝ, m ((c : Thread nD τ).loc main_arg0) i = (r : EReal)) (hs : ∀ i, ∃ r : ℝ, m ((c : Thread nD τ).loc main_arg1) i = (r : EReal))
    (t : Fin cfg0.grid.N) (r : Fin 3) (h : Fin 8) :
    out0_2 (iblk m c 0 t) (iblk m c 1 t) (ix4 0 r h 0)
      = selRef (m ((c : Thread nD τ).loc main_arg0)) (m ((c : Thread nD τ).loc main_arg1)) (ix4 (⟨t.val, t.isLt⟩ : Fin 32) r h 0) := by
  rw [out_at]
  simp only [point_scores]
  refine (congrArg (Ideal.fptosi 32) (Pick.pick_eq _ (fun n => scores_ne_bot _ _ hq hs _ _ n) r)).trans ?_
  rw [Pick.toInt_num, selRef_at]

/-- The result array is the reference's value, of the arguments. -/
theorem final (c : Dev nD)
    (hq : ∀ i, ∃ r : ℝ, m ((c : Thread nD τ).loc main_arg0) i = (r : EReal)) (hs : ∀ i, ∃ r : ℝ, m ((c : Thread nD τ).loc main_arg1) i = (r : EReal)) :
    (dats m 0 c).arrAt 2 (cfgs 0).N = selRef (m ((c : Thread nD τ).loc main_arg0)) (m ((c : Thread nD τ).loc main_arg1)) := by
  refine (dats m 0 c).arrAt_eq_of_covers 2 _ (by decide +kernel) fun t hf y => ?_
  have ey : y = (ix4 0 (y 1) (y 2) 0 : S1x3x8x1.Idx) := by
    funext a; fin_cases a
    · exact Subsingleton.elim (α := Fin 1) _ _
    · rfl
    · rfl
    · exact Subsingleton.elim (α := Fin 1) _ _
  have e1 : (win0_2.blk t).view.emb y = (ix4 (⟨t.val, t.isLt⟩ : Fin 32) (y 1) (y 2) 0 : S32x3x8x1.Idx) := by
    blk_ext [idx t]
  blk_simp
  rw [after0_2, e1]
  exact (congrArg (out0_2 (iblk m c 0 t) (iblk m c 1 t)) ey).trans (point_eq m c hq hs t (y 1) (y 2))

/-- An entry whose absolute value is below +∞ is a real number. -/
theorem real_of_finite (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The precondition says that every entry is a real number. -/
theorem finite_args (hF : Cert.Pre_finite_inputs.Facts) (q : FVec Ideal Cert.Pre_finite_inputs.S32x8x128 .f32) (s : FVec Ideal Cert.Pre_finite_inputs.S32x64x8x128 .f32)
    (h1 : (Cert.Pre_finite_inputs.fn (F := Ideal) q s).1 = fun _ => 1#1) (h2 : (Cert.Pre_finite_inputs.fn (F := Ideal) q s).2 = fun _ => 1#1) :
    (∀ i, ∃ r : ℝ, q i = (r : EReal)) ∧ ∀ i, ∃ r : ℝ, s i = (r : EReal) := by
  refine ⟨fun i => real_of_finite _ ?_, fun i => real_of_finite _ ?_⟩
  · rw [← posInf]; exact congrFun h1 i
  · rw [← posInf]; exact congrFun h2 i

/-- The reference's run: it ends with `selRef` of its arguments, which it leaves unchanged. -/
theorem run_sel (m : (ℓ : Loc Cert.GateRefIdeal.nD Cert.GateRefIdeal.τ Cert.GateRefIdeal.sig) → Buf (Elt Ideal) ℓ) (ρ : Dev Cert.GateRefIdeal.nD → PrngReg) :
    θ_run Cert.GateRefIdeal.defs (onTc (τ := Cert.GateRefIdeal.τ) (Cert.GateRefIdeal.main (F := Ideal))) ⟨m, fun _ => 0, ρ⟩ fun r => ∀ c : Dev Cert.GateRefIdeal.nD,
      r.2.mem ((c.tc : Thread Cert.GateRefIdeal.nD Cert.GateRefIdeal.τ).loc Cert.GateRefIdeal.main_v5)
          = selRef (m ((c.tc : Thread Cert.GateRefIdeal.nD Cert.GateRefIdeal.τ).loc Cert.GateRefIdeal.main_arg0))
            (m ((c.tc : Thread Cert.GateRefIdeal.nD Cert.GateRefIdeal.τ).loc Cert.GateRefIdeal.main_arg1))
      ∧ r.2.mem ((c.tc : Thread Cert.GateRefIdeal.nD Cert.GateRefIdeal.τ).loc Cert.GateRefIdeal.main_arg0)
          = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1)
          = m ((c.tc : Thread Cert.GateRefIdeal.nD Cert.GateRefIdeal.τ).loc Cert.GateRefIdeal.main_arg1) :=
  Cert.GateRefIdeal.Value.run m ρ

end Cert.GateIdeal.Value

end
-- ==== Proof.MlpValue.lean ====
/-
  The multilayer perceptron: what the kernel's result array holds after the run.

  The grid is 32 row blocks by 8 blocks of hidden units. At the first of a row block's 8 points the body stores
  `h + part`, at the others it adds `part` to what is there, `part` being the 1024 hidden units of that point carried
  through both products. So the written block is `h` plus the sum of the 8 parts, which is `h` plus one sum over all 8192
  hidden units: the reference's value.
-/
module

public import proofs.«01_k».proof.Proof.Gen.MlpIdeal.Frame
public import proofs.«01_k».proof.Proof.Gen.MlpRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpIdeal.Value

open Cert.MlpIdeal Cert.MlpIdeal.Gen

variable (m : (ℓ : Loc nD τ sig) → Buf (Elt Ideal) ℓ)

/-- The reference's result, of the four arguments. -/
def mlpRef (hn : FVec Ideal Cert.MlpRefIdeal.S16384x2048 .bf16) (h : FVec Ideal Cert.MlpRefIdeal.S16384x2048 .f32)
    (up : FVec Ideal Cert.MlpRefIdeal.S1x2048x8192 .f32) (dn : FVec Ideal Cert.MlpRefIdeal.S1x8192x2048 .f32) :
    FVec Ideal Cert.MlpRefIdeal.S16384x2048 .f32 :=
  addf h (Host.dotGeneral Cert.MlpRefIdeal.dot_S16384x8192_S8192x2048_S16384x2048_1_0_0_1_n_n none (mulf (maximumf (Host.dotGeneral Cert.MlpRefIdeal.dot_S16384x2048_S2048x8192_S16384x8192_1_0_0_1_n_n none (extf .f32 hn Cert.MlpRefIdeal.Gen.bitsLt_bf16_f32) (shapeCast _ up Cert.MlpRefIdeal.Gen.shapeCasts_S1x2048x8192_S2048x8192)) (broadcastInDim Cert.MlpRefIdeal.S16384x8192 ![] Cert.MlpRefIdeal.Gen.bcast_S_S16384x8192 (constant Cert.MlpRefIdeal.S_ .f32 0x00000000#32))) (maximumf (Host.dotGeneral Cert.MlpRefIdeal.dot_S16384x2048_S2048x8192_S16384x8192_1_0_0_1_n_n none (extf .f32 hn Cert.MlpRefIdeal.Gen.bitsLt_bf16_f32) (shapeCast _ up Cert.MlpRefIdeal.Gen.shapeCasts_S1x2048x8192_S2048x8192)) (broadcastInDim Cert.MlpRefIdeal.S16384x8192 ![] Cert.MlpRefIdeal.Gen.bcast_S_S16384x8192 (constant Cert.MlpRefIdeal.S_ .f32 0x00000000#32)))) (shapeCast _ dn Cert.MlpRefIdeal.Gen.shapeCasts_S1x8192x2048_S8192x2048))

/-- One entry of the reference: a sum over the 8192 hidden units, each the square of a positive part. -/
theorem mlpRef_at (hn : FVec Ideal Cert.MlpRefIdeal.S16384x2048 .bf16) (h : FVec Ideal Cert.MlpRefIdeal.S16384x2048 .f32)
    (up : FVec Ideal Cert.MlpRefIdeal.S1x2048x8192 .f32) (dn : FVec Ideal Cert.MlpRefIdeal.S1x8192x2048 .f32)
    (j : Cert.MlpRefIdeal.S16384x2048.Idx) :
    mlpRef hn h up dn j = h j + ∑ x : Fin 8192,
      max (∑ k : Fin 2048, hn (ix2 (j 0) k) * up (ix3 (0 : Fin 1) k x)) 0
        * max (∑ k : Fin 2048, hn (ix2 (j 0) k) * up (ix3 (0 : Fin 1) k x)) 0 * dn (ix3 (0 : Fin 1) x (j 1)) := by
  pointwise! [mlpRef]

/-- One point's part of an output: 1024 hidden units, squared where positive, times their rows of the second weight. -/
theorem pay1_at (v0 : Vec Ideal S512x2048 .bf16) (v1 : Vec Ideal S2048x1024 .bf16) (v8 : Vec Ideal S1024x2048 .bf16)
    (j : S512x2048.Idx) : k0_pay1 v0 v1 v8 j = ∑ x : Fin 1024,
      max (∑ k : Fin 2048, v0 (ix2 (j 0) k) * v1 (ix2 k x)) 0
        * max (∑ k : Fin 2048, v0 (ix2 (j 0) k) * v1 (ix2 k x)) 0 * v8 (ix2 x (j 1)) := by
  pointwise [k0_pay1]

theorem pay2_at (v0 : Vec Ideal S512x2048 .bf16) (v1 : Vec Ideal S2048x1024 .bf16) (v8 : Vec Ideal S1024x2048 .bf16)
    (v17 : Vec Ideal S512x2048 .f32) (j : S512x2048.Idx) : k0_pay2 v0 v1 v8 v17 j = v17 j + k0_pay1 v0 v1 v8 j := by
  unfold k0_pay2; rfl

theorem pay3_at (v0 : Vec Ideal S512x2048 .bf16) (v1 : Vec Ideal S2048x1024 .bf16) (v8 : Vec Ideal S1024x2048 .bf16)
    (v17 : Vec Ideal S512x2048 .f32) (j : S512x2048.Idx) : k0_pay3 v0 v1 v8 v17 j = v17 j + k0_pay1 v0 v1 v8 j := by
  unfold k0_pay3; simp only [shapeCast_self]; rfl

/-- Where each window's block stands at point `t`: row block `t / 8`, hidden block `t % 8`. -/
theorem idx : ∀ t : Fin cfg0.N, win0_0.index t = ![t.val / 8, 0] ∧ win0_1.index t = ![t.val / 8, 0]
    ∧ win0_2.index t = ![0, t.val % 8] ∧ win0_3.index t = ![t.val % 8, 0] ∧ win0_4.index t = ![t.val / 8, 0] :=
  (by decide +kernel : ∀ t : Fin grid0.N, _)

/-- What point `t` adds to its block: its 1024 hidden units, and `h` besides if it is the row block's first. -/
def step (c : Dev nD) (t : Fin cfg0.N) (j : S512x2048.Idx) : EReal :=
  (if t.val % 8 = 0 then (show FVec Ideal S512x2048 .f32 from iblk m c 1 t) j else 0)
    + k0_pay1 (F := Ideal) (iblk m c 0 t) (iblk m c 2 t) (iblk m c 3 t) j

theorem step_first (c : Dev nD) (t : Fin cfg0.N) (h : t.val % 8 = 0) (j : S512x2048.Idx) :
    outsAt0 m c t.val t.isLt j = 0 + step m c t j := by
  rw [outsAt0_A m c t h (by omega)]; frame_out; rw [pay2_at, step, if_pos h, zero_add]

theorem step_next (c : Dev nD) (t : Fin cfg0.N) (h : ¬t.val % 8 = 0) (j : S512x2048.Idx) :
    outsAt0 m c t.val t.isLt j
      = outsAt0 m c (t.val - 1) (Nat.lt_of_le_of_lt (Nat.sub_le _ _) t.isLt) j + step m c t j := by
  rw [outsAt0_B m c t h (by omega)]; frame_out; rw [pay3_at, step, if_neg h, zero_add]

/-- THE RESULT ARRAY: the reference's value, of the arguments. -/
theorem final (c : Dev nD) : (dats m 0 c).arrAt 4 (cfgs 0).N
    = mlpRef (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have ht := (flush0_4 t).mp hf
  blk_simp
  rw [after0_4, Pipeline.eq_sum_fin_of_reset_step_apply_of_flush (fun n h => outsAt0 m c n h) 8 (fun _ => 0) (step m c)
    (fun t h j => step_first m c t h j) (fun t h j => step_next m c t h j) t ht _, zero_add, mlpRef_at]
  show (∑ s : Fin 8, step m c ⟨8 * (t.val / 8) + s.val, _⟩ _ : EReal) = _
  unfold step
  rw [Finset.sum_add_distrib]
  refine congrArg₂ (· + ·) ?_ ?_
  · rw [Finset.sum_eq_single (0 : Fin 8) (fun s _ hs => if_neg (by
      have : s.val ≠ 0 := fun h => hs (Fin.ext h)
      have := s.isLt; dsimp only; omega)) (fun h => absurd (Finset.mem_univ _) h),
      if_pos (by show (8 * (t.val / 8) + 0) % 8 = 0; omega)]
    blk_point [iblk, V, idx t, idx ⟨_, Pipeline.run_point_lt_of_flush t ht 0⟩]
  · simp only [pay1_at]
    refine Fin.sum_mul_add_congr fun s k hl => ?_
    blk_point [iblk, V, idx t, idx ⟨_, Pipeline.run_point_lt_of_flush t ht s⟩]

end Cert.MlpIdeal.Value

end
-- ==== Proof.OprojValue.lean ====
/-
  The output projection and the normalization after it: what the kernel's two result arrays hold after the run.

  Each of the 32 grid points writes 512 rows. The kernel multiplies the two halves of the attention heads by the two
  halves of the weight's rows and adds both to the residual; the reference joins the heads and multiplies once. One sum of
  2048 terms is the sum of its two halves, so the two agree, and so do the norms taken of them.
-/
module

public import proofs.«01_k».proof.Proof.Gen.OprojIdeal.Frame
public import proofs.«01_k».proof.Proof.Gen.OprojRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OprojIdeal.Value

open Cert.OprojIdeal Cert.OprojIdeal.Gen

variable (m : (ℓ : Loc nD τ sig) → Buf (Elt Ideal) ℓ)

/-- The reference's first result, the residual stream after the attention. -/
def hRef (od om : FVec Ideal Cert.OprojRefIdeal.S16384x1024 .bf16)
    (x : FVec Ideal Cert.OprojRefIdeal.S16384x2048 .f32) (w : FVec Ideal Cert.OprojRefIdeal.S1x2048x2048 .f32) :
    FVec Ideal Cert.OprojRefIdeal.S16384x2048 .f32 :=
  addf x (Host.dotGeneral Cert.OprojRefIdeal.dot_S16384x2048_S2048x2048_S16384x2048_1_0_0_1_n_n none (concatenate Cert.OprojRefIdeal.S16384x2048 1 [⟨Cert.OprojRefIdeal.S16384x1024, (extf .f32 od Cert.OprojRefIdeal.Gen.bitsLt_bf16_f32)⟩, ⟨Cert.OprojRefIdeal.S16384x1024, (extf .f32 om Cert.OprojRefIdeal.Gen.bitsLt_bf16_f32)⟩] Cert.OprojRefIdeal.Gen.concatenates_S16384x1024_S16384x1024_S16384x2048_d1) (shapeCast _ w Cert.OprojRefIdeal.Gen.shapeCasts_S1x2048x2048_S2048x2048))

/-- The reference's second result, the first one normalized. -/
def hnRef (od om : FVec Ideal Cert.OprojRefIdeal.S16384x1024 .bf16)
    (x : FVec Ideal Cert.OprojRefIdeal.S16384x2048 .f32) (w : FVec Ideal Cert.OprojRefIdeal.S1x2048x2048 .f32)
    (g : FVec Ideal Cert.OprojRefIdeal.S1x2048 .f32) : FVec Ideal Cert.OprojRefIdeal.S16384x2048 .bf16 :=
  truncf .bf16 (mulf (mulf (hRef od om x w) (broadcastInDim Cert.OprojRefIdeal.S16384x2048 ![0, 1] Cert.OprojRefIdeal.Gen.bcast_S16384x1_S16384x2048_0_1 (Host.rsqrt (addf (Host.divf (broadcastInDim Cert.OprojRefIdeal.S16384x1 ![0] Cert.OprojRefIdeal.Gen.bcast_S16384_S16384x1_0 (Host.reduceAdd (mulf (hRef od om x w) (hRef od om x w)) (constant Cert.OprojRefIdeal.S_ .f32 0x00000000#32) Cert.OprojRefIdeal.Gen.reducesTo_S16384x2048_S16384_d1 Cert.OprojRefIdeal.Gen.h_S_)) (broadcastInDim Cert.OprojRefIdeal.S16384x1 ![] Cert.OprojRefIdeal.Gen.bcast_S_S16384x1 (constant Cert.OprojRefIdeal.S_ .f32 0x45000000#32))) (broadcastInDim Cert.OprojRefIdeal.S16384x1 ![] Cert.OprojRefIdeal.Gen.bcast_S_S16384x1 (constant Cert.OprojRefIdeal.S_ .f32 0x358637BD#32)))))) (broadcastInDim Cert.OprojRefIdeal.S16384x2048 ![0, 1] Cert.OprojRefIdeal.Gen.bcast_S1x2048_S16384x2048_0_1 (broadcastInDim Cert.OprojRefIdeal.S1x2048 ![1] Cert.OprojRefIdeal.Gen.bcast_S2048_S1x2048_1 (shapeCast _ g Cert.OprojRefIdeal.Gen.shapeCasts_S1x2048_S2048)))) Cert.OprojRefIdeal.Gen.bitsLt_bf16_f32

/-- One entry of the reference's first result: the residual and the two halves of the heads. -/
theorem hRef_at (od om : FVec Ideal Cert.OprojRefIdeal.S16384x1024 .bf16)
    (x : FVec Ideal Cert.OprojRefIdeal.S16384x2048 .f32) (w : FVec Ideal Cert.OprojRefIdeal.S1x2048x2048 .f32)
    (j : Cert.OprojRefIdeal.S16384x2048.Idx) :
    hRef od om x w j = x j + (∑ k : Fin 1024, od (ix2 (j 0) k) * w (ix3 (0 : Fin 1) (⟨k.val, by omega⟩ : Fin 2048) (j 1)))
      + ∑ k : Fin 1024, om (ix2 (j 0) k) * w (ix3 (0 : Fin 1) (⟨1024 + k.val, by omega⟩ : Fin 2048) (j 1)) := by
  pointwise [hRef]
  exact (add_assoc _ _ _).symm

/-- One entry of the reference's second result, of entries of the first. -/
theorem hnRef_at (od om : FVec Ideal Cert.OprojRefIdeal.S16384x1024 .bf16)
    (x : FVec Ideal Cert.OprojRefIdeal.S16384x2048 .f32) (w : FVec Ideal Cert.OprojRefIdeal.S1x2048x2048 .f32)
    (g : FVec Ideal Cert.OprojRefIdeal.S1x2048 .f32)
    (j : Cert.OprojRefIdeal.S16384x2048.Idx) : hnRef od om x w g j
      = hRef od om x w j * Ideal.rsqrt (Ideal.div (∑ k : Fin 2048, hRef od om x w (ix2 (j 0) k) * hRef od om x w (ix2 (j 0) k))
          (Ideal.ofBits FTy.f32 1157627904#32) + Ideal.ofBits FTy.f32 897988541#32) * g (ix2 (0 : Fin 1) (j 1)) := by
  pointwise [hnRef]

/-- One entry of what a point stores first. -/
theorem pay1_at (v0 : Vec Ideal S512x2048 .f32) (v1 : Vec Ideal S512x1024 .bf16) (v2 : Vec Ideal S1024x2048 .bf16)
    (v6 : Vec Ideal S512x1024 .bf16) (v7 : Vec Ideal S1024x2048 .bf16) (j : S512x2048.Idx) :
    k0_pay1 v0 v1 v2 v6 v7 j = v0 j + (∑ k : Fin 1024, v1 (ix2 (j 0) k) * v2 (ix2 k (j 1)))
      + ∑ k : Fin 1024, v6 (ix2 (j 0) k) * v7 (ix2 k (j 1)) := by
  pointwise [k0_pay1]

/-- One entry of what a point stores second. -/
theorem pay2_at (v0 : Vec Ideal S512x2048 .f32) (v1 : Vec Ideal S512x1024 .bf16) (v2 : Vec Ideal S1024x2048 .bf16)
    (v6 : Vec Ideal S512x1024 .bf16) (v7 : Vec Ideal S1024x2048 .bf16) (v22 : Vec Ideal S1x2048 .f32) (j : S512x2048.Idx) :
    k0_pay2 v0 v1 v2 v6 v7 v22 j
      = k0_pay1 v0 v1 v2 v6 v7 j * Ideal.rsqrt (Ideal.div
          (∑ k : Fin 2048, k0_pay1 v0 v1 v2 v6 v7 (ix2 (j 0) k) * k0_pay1 v0 v1 v2 v6 v7 (ix2 (j 0) k))
          (Ideal.ofBits FTy.f32 1157627904#32) + Ideal.ofBits FTy.f32 897988541#32) * v22 (ix2 (0 : Fin 1) (j 1)) := by
  pointwise [k0_pay2]

/-- Where each window's block stands at point `t`. -/
theorem idx : ∀ t : Fin cfg0.N, win0_0.index t = ![t.val, 0] ∧ win0_1.index t = ![t.val, 0]
    ∧ win0_2.index t = ![t.val, 0] ∧ win0_3.index t = ![0, 0] ∧ win0_4.index t = ![1, 0] ∧ win0_5.index t = ![0, 0]
    ∧ win0_6.index t = ![t.val, 0] ∧ win0_7.index t = ![t.val, 0] :=
  (by decide +kernel : ∀ t : Fin grid0.N, _)

/-- THE FIRST RESULT ARRAY: the reference's value, of the arguments. -/
theorem final_h (c : Dev nD) : (dats m 0 c).arrAt 6 (cfgs 0).N
    = hRef (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t hf y => ?_
  blk_simp
  rw [after0_6]; frame_out
  rw [hRef_at, pay1_at]
  blk_point [iblk, V, idx t]

/-- THE SECOND RESULT ARRAY: the reference's value, of the arguments. -/
theorem final_hn (c : Dev nD) : (dats m 0 c).arrAt 7 (cfgs 0).N
    = hnRef (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 7 _ (by decide +kernel) fun t hf y => ?_
  blk_simp
  rw [after0_7]; frame_out
  rw [hnRef_at, pay2_at]
  simp only [hRef_at, pay1_at]
  blk_point [iblk, V, idx t]

end Cert.OprojIdeal.Value

end
-- ==== Proof.lean ====
/-
  The proof of `Cert.Claim`: for each of the five calls, that the kernel and its reference leave their arguments as they
  were and end with every counter at zero, and that over the reals both leave the same result.
-/
module

public import proofs.«01_k».proof.Defs
public import proofs.«01_k».proof.Proof.Gen.Diff.Frame
public import proofs.«01_k».proof.Proof.Gen.DiffIdeal.Frame
public import proofs.«01_k».proof.Proof.Gen.DiffIdeal.Value
public import proofs.«01_k».proof.Proof.Gen.DiffRefIdeal.Run
public import proofs.«01_k».proof.Proof.Gen.Mlp.Frame
public import proofs.«01_k».proof.Proof.Gen.MlpIdeal.Frame
public import proofs.«01_k».proof.Proof.Gen.MlpRefIdeal.Run
public import proofs.«01_k».proof.Proof.Gen.Oproj.Frame
public import proofs.«01_k».proof.Proof.Gen.OprojIdeal.Frame
public import proofs.«01_k».proof.Proof.Gen.OprojRefIdeal.Run
public import proofs.«01_k».proof.Proof.DiffValue
public import proofs.«01_k».proof.Proof.Gen.ProjIdeal.Frame
public import proofs.«01_k».proof.Proof.Proj.Frame
public import proofs.«01_k».proof.Proof.ProjSame
public import proofs.«01_k».proof.Proof.ProjValue
public import proofs.«01_k».proof.Proof.Gen.ProjIdeal.Skeleton
public import proofs.«01_k».proof.Proof.Gen.Proj
public import proofs.«01_k».proof.Proof.Gen.ProjRefIdeal.Run
public import proofs.«01_k».proof.Proof.Gen.Kmean.Frame
public import proofs.«01_k».proof.Proof.Gen.KmeanIdeal.Frame
public import proofs.«01_k».proof.Proof.Gen.KmeanRefIdeal.Run
public import proofs.«01_k».proof.Proof.Gen.Gate.Frame
public import proofs.«01_k».proof.Proof.Gen.GateIdeal.Frame
public import proofs.«01_k».proof.Proof.Gen.GateRefIdeal.Run
public import proofs.«01_k».proof.Proof.KmeanValue
public import proofs.«01_k».proof.Proof.GateValue
public import proofs.«01_k».proof.Proof.MlpValue
public import proofs.«01_k».proof.Proof.OprojValue
public import Idealize.ShloMosaic.Lib.Claim

@[expose] public section

set_option maxRecDepth 16384

noncomputable section

namespace Cert.Proof

open Idealize.ShloMosaic Idealize.SL.Sem

/-- The differential attention's reference leaves its arguments unchanged; it declares no semaphore. -/
theorem frame_diffRef : Cert.quiescent_DiffRefIdeal := fun m g _ =>
  (θ_run Cert.DiffRefIdeal.defs _ _).mono
    (fun r h => ⟨fun c => (h c).2, sem_eq_zero_of_no_sems (by decide) r.2⟩)
    (Cert.DiffRefIdeal.Value.run m g)

/-- The feed-forward reference leaves its arguments unchanged; it declares no semaphore. -/
theorem frame_mlpRef : Cert.quiescent_MlpRefIdeal := fun m g _ =>
  (θ_run Cert.MlpRefIdeal.defs _ _).mono
    (fun r h => ⟨fun c => (h c).2, sem_eq_zero_of_no_sems (by decide) r.2⟩)
    (Cert.MlpRefIdeal.Value.run m g)

/-- The output projection's reference leaves its arguments unchanged; it declares no semaphore. -/
theorem frame_oprojRef : Cert.quiescent_OprojRefIdeal := fun m g _ =>
  (θ_run Cert.OprojRefIdeal.defs _ _).mono
    (fun r h => ⟨fun c => (h c).2.2, sem_eq_zero_of_no_sems (by decide) r.2⟩)
    (Cert.OprojRefIdeal.Value.run m g)

/-- The projection's reference leaves its arguments unchanged; it declares no semaphore. -/
theorem frame_projRef : Cert.quiescent_ProjRefIdeal := fun m g _ =>
  (θ_run Cert.ProjRefIdeal.defs _ _).mono
    (fun r h => ⟨fun c => (h c).2.2.2.2.2.2, sem_eq_zero_of_no_sems (by decide) r.2⟩)
    (Cert.ProjRefIdeal.Value.run m g)

/-- The block means' reference leaves its argument unchanged; it declares no semaphore. -/
theorem frame_kmeanRef : Cert.quiescent_KmeanRefIdeal := fun m g _ =>
  (θ_run Cert.KmeanRefIdeal.defs _ _).mono
    (fun r h => ⟨fun c => (h c).2, sem_eq_zero_of_no_sems (by decide) r.2⟩)
    (Cert.KmeanRefIdeal.Value.run m g)

/-- Over the reals the block means of the kernel are the reference's. -/
theorem algebraic_kmean : Cert.algebraic_KmeanIdeal_KmeanRefIdeal := by
  pair_intro
  · run_from Cert.KmeanIdeal.Gen.run_main m g
  · run_from Cert.KmeanRefIdeal.Value.run m' g'
    exact (Cert.KmeanIdeal.Value.final m c).symm

/-- The routing's reference leaves its arguments unchanged; it declares no semaphore. -/
theorem frame_gateRef : Cert.quiescent_GateRefIdeal := fun m g _ =>
  (θ_run Cert.GateRefIdeal.defs _ _).mono
    (fun r h => ⟨fun c => (h c).2, sem_eq_zero_of_no_sems (by decide) r.2⟩)
    (Cert.GateRefIdeal.Value.run m g)

/-- The precondition's side conditions. -/
theorem finite_facts : Cert.Pre_finite_inputs.Facts where
  bcast_S_S32x8x128 := by decide
  bcast_S_S32x64x8x128 := by decide

/-- Over the reals the routing of the kernel is the reference's, where every entry of the arguments is finite. -/
theorem algebraic_gate : Cert.algebraic_GateIdeal_GateRefIdeal_pre_finite_inputs (hPre_finite_inputs := finite_facts) := by
  pair_intro
  · run_from Cert.GateIdeal.Gen.run_main m g
  · refine (θ_run Cert.GateRefIdeal.defs _ _).mono (fun r h c => ⟨(h c).1.trans ?_, (h c).2⟩) (Cert.GateIdeal.Value.run_sel m' g')
    have hf := Cert.GateIdeal.Value.finite_args finite_facts _ _ (hpre c).1 (hpre c).2
    refine (congr (congrArg Cert.GateIdeal.Value.selRef (hagree c).1) (hagree c).2).trans ?_
    exact (Cert.GateIdeal.Value.final m c hf.1 hf.2).symm

/-- Over the reals the differential attention kernel's result is the reference's. -/
theorem algebraic_diff : Cert.algebraic_DiffIdeal_DiffRefIdeal := by
  pair_intro
  · run_from Cert.DiffIdeal.Value.run_blocks m g
  · run_from Cert.DiffRefIdeal.Value.run m' g'
    rw [show Cert.DiffRefIdeal.Value.res_main_v89 m' c = _ from Cert.DiffRefIdeal.Value.res_eq m' c,
      (hagree c).1, (hagree c).2.1, (hagree c).2.2]
    exact (Cert.DiffIdeal.Value.final m c).symm

/-- Over the reals the feed-forward kernel's result is the reference's. -/
theorem algebraic_mlp : Cert.algebraic_MlpIdeal_MlpRefIdeal := by
  pair_intro
  · run_from Cert.MlpIdeal.Gen.run_main m g
  · run_from Cert.MlpRefIdeal.Value.run m' g'
    exact (Cert.MlpIdeal.Value.final m c).symm

/-- Over the reals both results of the output projection's kernel are the reference's. -/
theorem algebraic_oproj : Cert.algebraic_OprojIdeal_OprojRefIdeal := by
  pair_intro
  · run_from Cert.OprojIdeal.Gen.run_main m g
  · run_from Cert.OprojRefIdeal.Value.run m' g'
    · exact (Cert.OprojIdeal.Value.final_h m c).symm
    · exact (Cert.OprojIdeal.Value.final_hn m c).symm

/-- Over the reals the six results of the projection's kernel are the reference's. -/
theorem algebraic_proj : Cert.algebraic_ProjIdeal_ProjRefIdeal := by
  intro m g m' g' _ hagree
  refine ⟨fun c => Cert.ProjIdeal.Value.part m c 1, fun c => Cert.ProjIdeal.Value.part m c 2, fun c => Cert.ProjIdeal.Value.part m c 3,
    fun c => Cert.ProjIdeal.Value.part m c 4, fun c => Cert.ProjIdeal.Value.part m c 5,
    fun c => Cert.ProjRefIdeal.Value.side (Cert.ProjIdeal.Value.part m c 0) (Cert.ProjIdeal.Value.part m c 1) (Cert.ProjIdeal.Value.part m c 2)
      (Cert.ProjIdeal.Value.part m c 3) (Cert.ProjIdeal.Value.part m c 4) (Cert.ProjIdeal.Value.part m c 5), ?_, ?_⟩
  · exact Cert.ProjIdeal.Value.run_parts m g
  · refine (θ_run Cert.ProjRefIdeal.defs _ _).mono (fun r h c => ?_) (Cert.ProjRefIdeal.Value.run m' g')
    obtain ⟨e0, e1, e2, e3, e4, e5, e6⟩ := hagree c
    obtain ⟨r0, r1, r2, r3, r4, r5, ra⟩ := h c
    have hz : Cert.ProjRefIdeal.Value.zA m' c = Cert.ProjIdeal.Value.prod m c :=
      (congr (congr (congrArg Cert.ProjRefIdeal.Value.zV e0) e1) e2).trans rfl
    have p0 : Cert.ProjRefIdeal.Value.n64 (Cert.ProjRefIdeal.Value.part0 (Cert.ProjRefIdeal.Value.zA m' c)) _ = Cert.ProjIdeal.Value.part m c 0 :=
      (congr (congrArg (fun z => Cert.ProjRefIdeal.Value.n64 (Cert.ProjRefIdeal.Value.part0 z)) hz) e3).trans rfl
    have p1 : Cert.ProjRefIdeal.Value.n64 (Cert.ProjRefIdeal.Value.part1 (Cert.ProjRefIdeal.Value.zA m' c)) _ = Cert.ProjIdeal.Value.part m c 1 :=
      (congr (congrArg (fun z => Cert.ProjRefIdeal.Value.n64 (Cert.ProjRefIdeal.Value.part1 z)) hz) e4).trans rfl
    have p2 : Cert.ProjRefIdeal.Value.flat (Cert.ProjRefIdeal.Value.part2 (Cert.ProjRefIdeal.Value.zA m' c)) = Cert.ProjIdeal.Value.part m c 2 :=
      (congrArg (fun z => Cert.ProjRefIdeal.Value.flat (Cert.ProjRefIdeal.Value.part2 z)) hz).trans rfl
    have p3 : Cert.ProjRefIdeal.Value.n128 (Cert.ProjRefIdeal.Value.part3 (Cert.ProjRefIdeal.Value.zA m' c)) _ = Cert.ProjIdeal.Value.part m c 3 :=
      (congr (congrArg (fun z => Cert.ProjRefIdeal.Value.n128 (Cert.ProjRefIdeal.Value.part3 z)) hz) e5).trans rfl
    have p4 : Cert.ProjRefIdeal.Value.n128 (Cert.ProjRefIdeal.Value.part4 (Cert.ProjRefIdeal.Value.zA m' c)) _ = Cert.ProjIdeal.Value.part m c 4 :=
      (congr (congrArg (fun z => Cert.ProjRefIdeal.Value.n128 (Cert.ProjRefIdeal.Value.part4 z)) hz) e6).trans rfl
    have p5 : Cert.ProjRefIdeal.Value.flat (Cert.ProjRefIdeal.Value.part5 (Cert.ProjRefIdeal.Value.zA m' c)) = Cert.ProjIdeal.Value.part m c 5 :=
      (congrArg (fun z => Cert.ProjRefIdeal.Value.flat (Cert.ProjRefIdeal.Value.part5 z)) hz).trans rfl
    have pa := Cert.ProjRefIdeal.Value.res5_eq m' c
    rw [p0, p1, p2, p3, p4, p5] at pa
    exact ⟨r0.trans ((Cert.ProjRefIdeal.Value.res0_eq m' c).trans p1),
      r1.trans p2,
      r2.trans ((Cert.ProjRefIdeal.Value.res2_eq m' c).trans p3),
      r3.trans ((Cert.ProjRefIdeal.Value.res3_eq m' c).trans p4),
      r4.trans p5,
      r5.trans pa, ra⟩

theorem claim : Cert.Claim :=
  ⟨Cert.Diff.Gen.facts, Cert.DiffIdeal.Gen.facts, Cert.DiffRefIdeal.Gen.facts, Cert.Mlp.Gen.facts,
    Cert.MlpIdeal.Gen.facts, Cert.MlpRefIdeal.Gen.facts, Cert.Oproj.Gen.facts, Cert.OprojIdeal.Gen.facts,
    Cert.OprojRefIdeal.Gen.facts, Cert.Proj.Gen.facts, Cert.ProjIdeal.Gen.facts, Cert.ProjRefIdeal.Gen.facts,
    Cert.Kmean.Gen.facts, Cert.KmeanIdeal.Gen.facts, Cert.KmeanRefIdeal.Gen.facts,
    Cert.Gate.Gen.facts, Cert.GateIdeal.Gen.facts, Cert.GateRefIdeal.Gen.facts, finite_facts,
    fun m ρ _ => Cert.Diff.Gen.frame m ρ, fun m ρ _ => Cert.DiffIdeal.Gen.frame m ρ, frame_diffRef,
    fun m ρ _ => Cert.Mlp.Gen.frame m ρ, fun m ρ _ => Cert.MlpIdeal.Gen.frame m ρ, frame_mlpRef,
    fun m ρ _ => Cert.Oproj.Gen.frame m ρ, fun m ρ _ => Cert.OprojIdeal.Gen.frame m ρ, frame_oprojRef,
    proj_words fun m ρ => Cert.ProjIdeal.Gen.frame m ρ, fun m ρ _ => Cert.ProjIdeal.Gen.frame m ρ, frame_projRef,
    fun m ρ _ => Cert.Kmean.Gen.frame m ρ, fun m ρ _ => Cert.KmeanIdeal.Gen.frame m ρ, frame_kmeanRef,
    fun m ρ _ => Cert.Gate.Gen.frame m ρ, fun m ρ _ => Cert.GateIdeal.Gen.frame m ρ, fun m ρ _ => Cert.GateIdeal.Gen.frame m ρ,
    frame_gateRef, fun m g _ => frame_gateRef m g trivial,
    trivial, algebraic_diff, trivial, algebraic_mlp, trivial, algebraic_oproj, trivial, algebraic_proj,
    trivial, algebraic_kmean, trivial, algebraic_gate⟩

end Cert.Proof

end
